-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_targets_in_range [hPre_targets_in_range : Cert.Pre_targets_in_range.Facts] (m : (ℓ : Loc Cert.HeadIdeal.nD Cert.HeadIdeal.τ Cert.HeadIdeal.sig) → Buf (Elt Ideal) ℓ) : Prop :=
  ∀ c : Dev Cert.HeadIdeal.nD,
    (Cert.Pre_targets_in_range.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_range [hPre_targets_in_range : Cert.Pre_targets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_finite_weights [hPre_finite_weights : Cert.Pre_finite_weights.Facts] (m : (ℓ : Loc Cert.QuantIdeal.nD Cert.QuantIdeal.τ Cert.QuantIdeal.sig) → Buf (Elt Ideal) ℓ) : Prop :=
  ∀ c : Dev Cert.QuantIdeal.nD,
    (Cert.Pre_finite_weights.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1)) (m ((c.tc : Thread Cert.QuantIdeal.nD Cert.QuantIdeal.τ).loc Cert.QuantIdeal.main_arg2)) (m ((c.tc : Thread Cert.QuantIdeal.nD Cert.QuantIdeal.τ).loc Cert.QuantIdeal.main_arg3))) = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_finite_weights [hPre_finite_weights : Cert.Pre_finite_weights.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_finite_weights.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1)) (m ((c.tc : Thread Cert.QuantReferenceIdeal.nD Cert.QuantReferenceIdeal.τ).loc Cert.QuantReferenceIdeal.main_arg2)) (m ((c.tc : Thread Cert.QuantReferenceIdeal.nD Cert.QuantReferenceIdeal.τ).loc Cert.QuantReferenceIdeal.main_arg3))) = (fun _ => 1#1)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ r.2.sem = fun _ => 0)

def quiescent_HeadIdeal_pre_targets_in_range [hHeadIdeal : Cert.HeadIdeal.Facts] [hPre_targets_in_range : Cert.Pre_targets_in_range.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_targets_in_range m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_targets_in_range [hReferenceIdeal : Cert.ReferenceIdeal.Facts] [hPre_targets_in_range : Cert.Pre_targets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ r.2.sem = fun _ => 0)

def quiescent_QuantIdeal_pre_finite_weights [hQuantIdeal : Cert.QuantIdeal.Facts] [hPre_finite_weights : Cert.Pre_finite_weights.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_finite_weights m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2)
      ∧ r.2.mem ((c.tc : Thread Cert.QuantReferenceIdeal.nD Cert.QuantReferenceIdeal.τ).loc Cert.QuantReferenceIdeal.main_arg3) = m ((c.tc : Thread Cert.QuantReferenceIdeal.nD Cert.QuantReferenceIdeal.τ).loc Cert.QuantReferenceIdeal.main_arg3))
      ∧ r.2.sem = fun _ => 0)

def quiescent_QuantReferenceIdeal_pre_finite_weights [hQuantReferenceIdeal : Cert.QuantReferenceIdeal.Facts] [hPre_finite_weights : Cert.Pre_finite_weights.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_finite_weights m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2)
      ∧ r.2.mem ((c.tc : Thread Cert.QuantReferenceIdeal.nD Cert.QuantReferenceIdeal.τ).loc Cert.QuantReferenceIdeal.main_arg3) = m ((c.tc : Thread Cert.QuantReferenceIdeal.nD Cert.QuantReferenceIdeal.τ).loc Cert.QuantReferenceIdeal.main_arg3))
      ∧ r.2.sem = fun _ => 0)

def preserves_Head_HeadIdeal : Prop :=
  True

def algebraic_HeadIdeal_ReferenceIdeal_pre_targets_in_range [hHeadIdeal : Cert.HeadIdeal.Facts] [hReferenceIdeal : Cert.ReferenceIdeal.Facts] [hPre_targets_in_range : Cert.Pre_targets_in_range.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_HeadIdeal_targets_in_range m →
    (∀ c : Dev Cert.HeadIdeal.nD,
      m' ((c.tc : Thread Cert.ReferenceIdeal.nD Cert.ReferenceIdeal.τ).loc Cert.ReferenceIdeal.main_arg0) = m ((c.tc : Thread Cert.HeadIdeal.nD Cert.HeadIdeal.τ).loc Cert.HeadIdeal.main_arg0)
      ∧ m' ((c.tc : Thread Cert.ReferenceIdeal.nD Cert.ReferenceIdeal.τ).loc Cert.ReferenceIdeal.main_arg1) = m ((c.tc : Thread Cert.HeadIdeal.nD Cert.HeadIdeal.τ).loc Cert.HeadIdeal.main_arg1)
      ∧ m' ((c.tc : Thread Cert.ReferenceIdeal.nD Cert.ReferenceIdeal.τ).loc Cert.ReferenceIdeal.main_arg2) = m ((c.tc : Thread Cert.HeadIdeal.nD Cert.HeadIdeal.τ).loc Cert.HeadIdeal.main_arg2)
      ∧ m' ((c.tc : Thread Cert.ReferenceIdeal.nD Cert.ReferenceIdeal.τ).loc Cert.ReferenceIdeal.main_arg3) = m ((c.tc : Thread Cert.HeadIdeal.nD Cert.HeadIdeal.τ).loc Cert.HeadIdeal.main_arg3)) →
    ∃ (v0 : (c : Dev Cert.HeadIdeal.nD) → Buf (Elt Ideal) ((c.tc : Thread Cert.HeadIdeal.nD Cert.HeadIdeal.τ).loc Cert.HeadIdeal.main_v1)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v1) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v1_0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v8) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Quant_QuantIdeal : Prop :=
  True

def algebraic_QuantIdeal_QuantReferenceIdeal_pre_finite_weights [hQuantIdeal : Cert.QuantIdeal.Facts] [hQuantReferenceIdeal : Cert.QuantReferenceIdeal.Facts] [hPre_finite_weights : Cert.Pre_finite_weights.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal_finite_weights m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)
      ∧ m' ((c.tc : Thread Cert.QuantReferenceIdeal.nD Cert.QuantReferenceIdeal.τ).loc Cert.QuantReferenceIdeal.main_arg2) = m ((c.tc : Thread Cert.QuantIdeal.nD Cert.QuantIdeal.τ).loc Cert.QuantIdeal.main_arg2)
      ∧ m' ((c.tc : Thread Cert.QuantReferenceIdeal.nD Cert.QuantReferenceIdeal.τ).loc Cert.QuantReferenceIdeal.main_arg3) = m ((c.tc : Thread Cert.QuantIdeal.nD Cert.QuantIdeal.τ).loc Cert.QuantIdeal.main_arg3)) →
    ∃ (v0 : (c : Dev Cert.QuantIdeal.nD) → Buf (Elt Ideal) ((c.tc : Thread Cert.QuantIdeal.nD Cert.QuantIdeal.τ).loc Cert.QuantIdeal.main_v1_1)) (v1 : (c : Dev Cert.QuantIdeal.nD) → Buf (Elt Ideal) ((c.tc : Thread Cert.QuantIdeal.nD Cert.QuantIdeal.τ).loc Cert.QuantIdeal.main_v1_2)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_1) = v0 c
          ∧ r.2.mem ((c.tc : Thread Cert.QuantIdeal.nD Cert.QuantIdeal.τ).loc Cert.QuantIdeal.main_v1_2) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
          ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v1_0) = v0 c
          ∧ r.2.mem ((c.tc : Thread Cert.QuantReferenceIdeal.nD Cert.QuantReferenceIdeal.τ).loc Cert.QuantReferenceIdeal.main_v1_1) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1)
          ∧ r.2.mem ((c.tc : Thread Cert.QuantReferenceIdeal.nD Cert.QuantReferenceIdeal.τ).loc Cert.QuantReferenceIdeal.main_arg2) = m' ((c.tc : Thread Cert.QuantReferenceIdeal.nD Cert.QuantReferenceIdeal.τ).loc Cert.QuantReferenceIdeal.main_arg2)
          ∧ r.2.mem ((c.tc : Thread Cert.QuantReferenceIdeal.nD Cert.QuantReferenceIdeal.τ).loc Cert.QuantReferenceIdeal.main_arg3) = m' ((c.tc : Thread Cert.QuantReferenceIdeal.nD Cert.QuantReferenceIdeal.τ).loc Cert.QuantReferenceIdeal.main_arg3))

def Claim : Prop :=
  ∃ (hHead : Cert.Head.Facts) (hHeadIdeal : Cert.HeadIdeal.Facts) (hReferenceIdeal : Cert.ReferenceIdeal.Facts) (hProj : Cert.Proj.Facts) (hProjIdeal : Cert.ProjIdeal.Facts) (hProjReferenceIdeal : Cert.ProjReferenceIdeal.Facts) (hQuant : Cert.Quant.Facts) (hQuantIdeal : Cert.QuantIdeal.Facts) (hQuantReferenceIdeal : Cert.QuantReferenceIdeal.Facts) (hPre_targets_in_range : Cert.Pre_targets_in_range.Facts) (hPre_finite_weights : Cert.Pre_finite_weights.Facts),
    quiescent_Head (hHead := hHead)
    ∧ quiescent_HeadIdeal (hHeadIdeal := hHeadIdeal)
    ∧ quiescent_HeadIdeal_pre_targets_in_range (hHeadIdeal := hHeadIdeal) (hPre_targets_in_range := hPre_targets_in_range)
    ∧ quiescent_ReferenceIdeal (hReferenceIdeal := hReferenceIdeal)
    ∧ quiescent_ReferenceIdeal_pre_targets_in_range (hReferenceIdeal := hReferenceIdeal) (hPre_targets_in_range := hPre_targets_in_range)
    ∧ quiescent_Proj (hProj := hProj)
    ∧ quiescent_ProjIdeal (hProjIdeal := hProjIdeal)
    ∧ quiescent_ProjReferenceIdeal (hProjReferenceIdeal := hProjReferenceIdeal)
    ∧ quiescent_Quant (hQuant := hQuant)
    ∧ quiescent_QuantIdeal (hQuantIdeal := hQuantIdeal)
    ∧ quiescent_QuantIdeal_pre_finite_weights (hQuantIdeal := hQuantIdeal) (hPre_finite_weights := hPre_finite_weights)
    ∧ quiescent_QuantReferenceIdeal (hQuantReferenceIdeal := hQuantReferenceIdeal)
    ∧ quiescent_QuantReferenceIdeal_pre_finite_weights (hQuantReferenceIdeal := hQuantReferenceIdeal) (hPre_finite_weights := hPre_finite_weights)
    ∧ preserves_Head_HeadIdeal
    ∧ algebraic_HeadIdeal_ReferenceIdeal_pre_targets_in_range (hHeadIdeal := hHeadIdeal) (hReferenceIdeal := hReferenceIdeal) (hPre_targets_in_range := hPre_targets_in_range)
    ∧ preserves_Proj_ProjIdeal
    ∧ algebraic_ProjIdeal_ProjReferenceIdeal (hProjIdeal := hProjIdeal) (hProjReferenceIdeal := hProjReferenceIdeal)
    ∧ preserves_Quant_QuantIdeal
    ∧ algebraic_QuantIdeal_QuantReferenceIdeal_pre_finite_weights (hQuantIdeal := hQuantIdeal) (hQuantReferenceIdeal := hQuantReferenceIdeal) (hPre_finite_weights := hPre_finite_weights)
-- ==== Pre_finite_weights.lean ====
abbrev S8192x14336 : Shape := ⟨2, ![8192, 14336]⟩
abbrev S14336x7168 : Shape := ⟨2, ![14336, 7168]⟩
abbrev S112x56 : Shape := ⟨2, ![112, 56]⟩
abbrev S7168 : Shape := ⟨1, ![7168]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : FVec F S8192x14336 .bf16) (main_arg1 : FVec F S14336x7168 .fp8e4m3) (main_arg2 : FVec F S112x56 .f32) (main_arg3 : FVec F S7168 .f32) : IVec S7168 1 :=
  let main_v0 : FVec F S7168 .f32 := Host.absf main_arg3
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  main_v2
-- ==== Pre_targets_in_range.lean ====
abbrev S8192x7168 : Shape := ⟨2, ![8192, 7168]⟩
abbrev S7168x32768 : Shape := ⟨2, ![7168, 32768]⟩
abbrev S56x256 : Shape := ⟨2, ![56, 256]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S8192x7168 .bf16) (main_arg1 : FVec F S7168x32768 .fp8e4m3) (main_arg2 : FVec F S56x256 .f32) (main_arg3 : IVec S8192 32) : IVec S8192 1 :=
  let main_c : IVec S_ 32 := constantI S_ 32 0#32
  let main_v0 : IVec S8192 32 := broadcastInDim S8192 ![] bcast_S_S8192 main_c
  let main_v1 : IVec S8192 1 := cmpi .sge main_arg3 main_v0
  let main_c_0 : IVec S_ 32 := constantI S_ 32 32768#32
  let main_v2 : IVec S8192 32 := broadcastInDim S8192 ![] bcast_S_S8192 main_c_0
  let main_v3 : IVec S8192 1 := cmpi .slt main_arg3 main_v2
  let main_v4 : IVec S8192 1 := andi main_v1 main_v3
  main_v4
-- ==== Head.lean ====
abbrev S8192x7168 : Shape := ⟨2, ![8192, 7168]⟩
abbrev S7168x32768 : Shape := ⟨2, ![7168, 32768]⟩
abbrev S56x256 : Shape := ⟨2, ![56, 256]⟩
abbrev S8192 : Shape := ⟨1, ![8192]⟩
abbrev S8192x1 : Shape := ⟨2, ![8192, 1]⟩
abbrev S1024x7168 : Shape := ⟨2, ![1024, 7168]⟩
abbrev S7168x512 : Shape := ⟨2, ![7168, 512]⟩
abbrev S1024x1 : Shape := ⟨2, ![1024, 1]⟩
abbrev S1024x128 : Shape := ⟨2, ![1024, 128]⟩
abbrev S1x1 : Shape := ⟨2, ![1, 1]⟩
abbrev S128x128 : Shape := ⟨2, ![128, 128]⟩
abbrev S1024x512 : Shape := ⟨2, ![1024, 512]⟩
abbrev S1024 : Shape := ⟨1, ![1024]⟩

abbrev nBuf : Space → Nat
  | .hbm => 6
  | .vmem => 12
  | .smem => 1
  | _ => 0

abbrev bufTy : (tb : Table) → Fin (tcTables nBuf tb) → BufTy
  | .hbm, ⟨0, _⟩ => ⟨S8192x7168, .bf16⟩
  | .hbm, ⟨1, _⟩ => ⟨S7168x32768, .fp8e4m3⟩
  | .hbm, ⟨2, _⟩ => ⟨S56x256, .f32⟩
  | .hbm, ⟨3, _⟩ => ⟨S8192, .i32⟩
  | .hbm, ⟨4, _⟩ => ⟨S8192x1, .i32⟩
  | .hbm, ⟨5, _⟩ => ⟨S8192x1, .f32⟩
  | .local _ .vmem, ⟨0, _⟩ => ⟨S1024x7168, .bf16⟩
  | .local _ .vmem, ⟨1, _⟩ => ⟨S1024x7168, .bf16⟩
  | .local _ .vmem, ⟨2, _⟩ => ⟨S7168x512, .fp8e4m3⟩
  | .local _ .vmem, ⟨3, _⟩ => ⟨S7168x512, .fp8e4m3⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S7168x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .smem, ⟨0, _⟩ => ⟨S56x256, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 64], ![false, false]⟩

@[reducible] def k0_t1_loop : Scf.Loop 32 :=
  let c0_i32 : BitVec 32 := 0#32
  let c56_i32 : BitVec 32 := 56#32
  let v1 : BitVec 32 := Scalar.addi c0_i32 c56_i32
  let c1_i32 : BitVec 32 := 1#32
  ⟨c0_i32, v1, c1_i32⟩
def k0_off1 (i : grid0.Coords) (k0_t1 : Fin k0_t1_loop.trips) : Fin 2 → Nat :=
  let c0_i32 : BitVec 32 := 0#32
  let c1_i32 : BitVec 32 := 1#32
  let arg11 : BitVec 32 := Scf.iv c0_i32 c1_i32 k0_t1
  let v76 : Index := Scalar.indexCast arg11
  let arg1 : BitVec 32 := BitVec.ofNat 32 (i 1).val
  let c4_i32 : BitVec 32 := 4#32
  let v0 : BitVec 32 := Scalar.muli arg1 c4_i32
  let c0_i32_34 : BitVec 32 := 0#32
  let v75 : BitVec 32 := Scalar.addi v0 c0_i32_34
  let v77 : Index := Scalar.indexCast v75
  ![v76.toNat, v77.toNat]
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_35 : BitVec 32 := 128#32
  let v81 : BitVec 32 := Scalar.muli arg11 c128_i32_35
  v81
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32_35 : BitVec 32 := 128#32
  let v81 : BitVec 32 := Scalar.muli arg11 c128_i32_35
  let v82 : BitVec 32 := v81
  let v83 : Index := Scalar.indexCast v82
  let c0_36 : Index := 0#32
  ![v83.toNat, 0]
@[reducible] def k0_t2_loop : Scf.Loop 32 :=
  let c0_i32_1 : BitVec 32 := 0#32
  let c56_i32_2 : BitVec 32 := 56#32
  let v2 : BitVec 32 := Scalar.addi c0_i32_1 c56_i32_2
  let c1_i32_3 : BitVec 32 := 1#32
  ⟨c0_i32_1, v2, c1_i32_3⟩
def k0_off3 (i : grid0.Coords) (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let v76 : Index := Scalar.indexCast arg11
  let arg1 : BitVec 32 := BitVec.ofNat 32 (i 1).val
  let c4_i32 : BitVec 32 := 4#32
  let v0 : BitVec 32 := Scalar.muli arg1 c4_i32
  let c1_i32_34 : BitVec 32 := 1#32
  let v75 : BitVec 32 := Scalar.addi v0 c1_i32_34
  let v77 : Index := Scalar.indexCast v75
  ![v76.toNat, v77.toNat]
def k0_mult2 (k0_t2 : Fin k0_t2_loop.trips) : BitVec 32 :=
  let c0_i32_1 : BitVec 32 := 0#32
  let c1_i32_3 : BitVec 32 := 1#32
  let arg11 : BitVec 32 := Scf.iv c0_i32_1 c1_i32_3 k0_t2
  let c128_i32_35 : BitVec 32 := 128#32
  let v81 : BitVec 32 := Scalar.muli arg11 c128_i32_35
  v81
def k0_off4 (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let c128_i32_35 : BitVec 32 := 128#32
  let v81 : BitVec 32 := Scalar.muli arg11 c128_i32_35
  let v82 : BitVec 32 := v81
  let v83 : Index := Scalar.indexCast v82
  let c128 : Index := 128#32
  ![v83.toNat, 128]
@[reducible] def k0_t3_loop : Scf.Loop 32 :=
  let c0_i32_5 : BitVec 32 := 0#32
  let c56_i32_6 : BitVec 32 := 56#32
  let v3 : BitVec 32 := Scalar.addi c0_i32_5 c56_i32_6
  let c1_i32_7 : BitVec 32 := 1#32
  ⟨c0_i32_5, v3, c1_i32_7⟩
def k0_off5 (i : grid0.Coords) (k0_t3 : Fin k0_t3_loop.trips) : Fin 2 → Nat :=
  let c0_i32_5 : BitVec 32 := 0#32
  let c1_i32_7 : BitVec 32 := 1#32
  let arg11 : BitVec 32 := Scf.iv c0_i32_5 c1_i32_7 k0_t3
  let v76 : Index := Scalar.indexCast arg11
  let arg1 : BitVec 32 := BitVec.ofNat 32 (i 1).val
  let c4_i32 : BitVec 32 := 4#32
  let v0 : BitVec 32 := Scalar.muli arg1 c4_i32
  let c2_i32 : BitVec 32 := 2#32
  let v75 : BitVec 32 := Scalar.addi v0 c2_i32
  let v77 : Index := Scalar.indexCast v75
  ![v76.toNat, v77.toNat]
def k0_mult3 (k0_t3 : Fin k0_t3_loop.trips) : BitVec 32 :=
  let c0_i32_5 : BitVec 32 := 0#32
  let c1_i32_7 : BitVec 32 := 1#32
  let arg11 : BitVec 32 := Scf.iv c0_i32_5 c1_i32_7 k0_t3
  let c128_i32_34 : BitVec 32 := 128#32
  let v81 : BitVec 32 := Scalar.muli arg11 c128_i32_34
  v81
def k0_off6 (k0_t3 : Fin k0_t3_loop.trips) : Fin 2 → Nat :=
  let c0_i32_5 : BitVec 32 := 0#32
  let c1_i32_7 : BitVec 32 := 1#32
  let arg11 : BitVec 32 := Scf.iv c0_i32_5 c1_i32_7 k0_t3
  let c128_i32_34 : BitVec 32 := 128#32
  let v81 : BitVec 32 := Scalar.muli arg11 c128_i32_34
  let v82 : BitVec 32 := v81
  let v83 : Index := Scalar.indexCast v82
  let c256 : Index := 256#32
  ![v83.toNat, 256]
@[reducible] def k0_t4_loop : Scf.Loop 32 :=
  let c0_i32_9 : BitVec 32 := 0#32
  let c56_i32_10 : BitVec 32 := 56#32
  let v4 : BitVec 32 := Scalar.addi c0_i32_9 c56_i32_10
  let c1_i32_11 : BitVec 32 := 1#32
  ⟨c0_i32_9, v4, c1_i32_11⟩
def k0_off7 (i : grid0.Coords) (k0_t4 : Fin k0_t4_loop.trips) : Fin 2 → Nat :=
  let c0_i32_9 : BitVec 32 := 0#32
  let c1_i32_11 : BitVec 32 := 1#32
  let arg11 : BitVec 32 := Scf.iv c0_i32_9 c1_i32_11 k0_t4
  let v76 : Index := Scalar.indexCast arg11
  let arg1 : BitVec 32 := BitVec.ofNat 32 (i 1).val
  let c4_i32 : BitVec 32 := 4#32
  let v0 : BitVec 32 := Scalar.muli arg1 c4_i32
  let c3_i32 : BitVec 32 := 3#32
  let v75 : BitVec 32 := Scalar.addi v0 c3_i32
  let v77 : Index := Scalar.indexCast v75
  ![v76.toNat, v77.toNat]
def k0_mult4 (k0_t4 : Fin k0_t4_loop.trips) : BitVec 32 :=
  let c0_i32_9 : BitVec 32 := 0#32
  let c1_i32_11 : BitVec 32 := 1#32
  let arg11 : BitVec 32 := Scf.iv c0_i32_9 c1_i32_11 k0_t4
  let c128_i32_34 : BitVec 32 := 128#32
  let v81 : BitVec 32 := Scalar.muli arg11 c128_i32_34
  v81
def k0_off8 (k0_t4 : Fin k0_t4_loop.trips) : Fin 2 → Nat :=
  let c0_i32_9 : BitVec 32 := 0#32
  let c1_i32_11 : BitVec 32 := 1#32
  let arg11 : BitVec 32 := Scf.iv c0_i32_9 c1_i32_11 k0_t4
  let c128_i32_34 : BitVec 32 := 128#32
  let v81 : BitVec 32 := Scalar.muli arg11 c128_i32_34
  let v82 : BitVec 32 := v81
  let v83 : Index := Scalar.indexCast v82
  let c384 : Index := 384#32
  ![v83.toNat, 384]
def k0_cond2 (i : grid0.Coords) : BitVec 1 :=
  let arg1 : BitVec 32 := BitVec.ofNat 32 (i 1).val
  let c63_i32 : BitVec 32 := 63#32
  let v72 : BitVec 1 := Scalar.cmpi .eq arg1 c63_i32
  let v73 : BitVec 32 := Scalar.extui v72
  let c0_i32_33 : BitVec 32 := 0#32
  let v74 : BitVec 1 := Scalar.cmpi .ne v73 c0_i32_33
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S56x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x7168 : Shape := ⟨2, ![8192, 7168]⟩
abbrev S7168x32768 : Shape := ⟨2, ![7168, 32768]⟩
abbrev S56x256 : Shape := ⟨2, ![56, 256]⟩
abbrev S8192 : Shape := ⟨1, ![8192]⟩
abbrev S56x128x256x128 : Shape := ⟨4, ![56, 128, 256, 128]⟩
abbrev S56x1x256x1 : Shape := ⟨4, ![56, 1, 256, 1]⟩
abbrev S8192x32768 : Shape := ⟨2, ![8192, 32768]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 51
  | .vmem => 2
  | .smem => 0
  | _ => 0

abbrev bufTy : (tb : Table) → Fin (tcTables nBuf tb) → BufTy
  | .hbm, ⟨0, _⟩ => ⟨S8192x7168, .bf16⟩
  | .hbm, ⟨1, _⟩ => ⟨S7168x32768, .fp8e4m3⟩
  | .hbm, ⟨2, _⟩ => ⟨S56x256, .f32⟩
  | .hbm, ⟨3, _⟩ => ⟨S8192, .i32⟩
  | .hbm, ⟨4, _⟩ => ⟨S7168x32768, .bf16⟩
  | .hbm, ⟨5, _⟩ => ⟨S56x128x256x128, .bf16⟩
  | .hbm, ⟨6, _⟩ => ⟨S56x256, .bf16⟩
  | .hbm, ⟨7, _⟩ => ⟨S56x1x256x1, .bf16⟩
  | .hbm, ⟨8, _⟩ => ⟨S56x128x256x128, .bf16⟩
  | .hbm, ⟨9, _⟩ => ⟨S56x128x256x128, .bf16⟩
  | .hbm, ⟨10, _⟩ => ⟨S7168x32768, .bf16⟩
  | .hbm, ⟨11, _⟩ => ⟨S8192x32768, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x32768, .f32⟩
  | .hbm, ⟨16, _⟩ => ⟨S8192x32768, .f32⟩
  | .hbm, ⟨17, _⟩ => ⟨S8192x32768, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192x1, .i32⟩
  | .hbm, ⟨23, _⟩ => ⟨S_, .i32⟩
  | .hbm, ⟨24, _⟩ => ⟨S8192x1, .i32⟩
  | .hbm, ⟨25, _⟩ => ⟨S8192x1, .i1⟩
  | .hbm, ⟨26, _⟩ => ⟨S_, .i32⟩
  | .hbm, ⟨27, _⟩ => ⟨S8192x1, .i32⟩
  | .hbm, ⟨28, _⟩ => ⟨S8192x1, .i32⟩
  | .hbm, ⟨29, _⟩ => ⟨S8192x1, .i32⟩
  | .hbm, ⟨30, _⟩ => ⟨S8192x1x1, .i32⟩
  | .hbm, ⟨31, _⟩ => ⟨S1, .i32⟩
  | .hbm, ⟨32, _⟩ => ⟨S_, .i32⟩
  | .hbm, ⟨33, _⟩ => ⟨S8192x1x1, .i32⟩
  | .hbm, ⟨34, _⟩ => ⟨S8192x1x1, .i1⟩
  | .hbm, ⟨35, _⟩ => ⟨S1x1x1, .i32⟩
  | .hbm, ⟨36, _⟩ => ⟨S8192x1x1, .i32⟩
  | .hbm, ⟨37, _⟩ => ⟨S8192x1x1, .i1⟩
  | .hbm, ⟨38, _⟩ => ⟨S8192x1x1, .i1⟩
  | .hbm, ⟨39, _⟩ => ⟨S_, .i1⟩
  | .hbm, ⟨40, _⟩ => ⟨S8192x1, .i1⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .local _ .vmem, ⟨0, _⟩ => ⟨S7168x32768, .fp8e4m3⟩
  | .local _ .vmem, ⟨1, _⟩ => ⟨S7168x32768, .bf16⟩
  | _, _ => ⟨S8192x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S7168x32768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proj.lean ====
abbrev S8192x14336 : Shape := ⟨2, ![8192, 14336]⟩
abbrev S14336x7168 : Shape := ⟨2, ![14336, 7168]⟩
abbrev S112x56 : Shape := ⟨2, ![112, 56]⟩
abbrev S7168 : Shape := ⟨1, ![7168]⟩
abbrev S1x7168 : Shape := ⟨2, ![1, 7168]⟩
abbrev S8192x7168 : Shape := ⟨2, ![8192, 7168]⟩
abbrev S8192x56 : Shape := ⟨2, ![8192, 56]⟩
abbrev S256x14336 : Shape := ⟨2, ![256, 14336]⟩
abbrev S14336x256 : Shape := ⟨2, ![14336, 256]⟩
abbrev S256x256 : Shape := ⟨2, ![256, 256]⟩
abbrev S256x7168 : Shape := ⟨2, ![256, 7168]⟩
abbrev S256x56 : Shape := ⟨2, ![256, 56]⟩
abbrev S1x1 : Shape := ⟨2, ![1, 1]⟩
abbrev S128x128 : Shape := ⟨2, ![128, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x56 : Shape := ⟨2, ![32, 56]⟩

abbrev nBuf : Space → Nat
  | .hbm => 9
  | .vmem => 15
  | .smem => 1
  | _ => 0

abbrev bufTy : (tb : Table) → Fin (tcTables nBuf tb) → BufTy
  | .hbm, ⟨0, _⟩ => ⟨S8192x14336, .bf16⟩
  | .hbm, ⟨1, _⟩ => ⟨S14336x7168, .fp8e4m3⟩
  | .hbm, ⟨2, _⟩ => ⟨S112x56, .f32⟩
  | .hbm, ⟨3, _⟩ => ⟨S7168, .f32⟩
  | .hbm, ⟨4, _⟩ => ⟨S1x7168, .f32⟩
  | .hbm, ⟨5, _⟩ => ⟨S8192x7168, .bf16⟩
  | .hbm, ⟨6, _⟩ => ⟨S8192x7168, .fp8e4m3⟩
  | .hbm, ⟨7, _⟩ => ⟨S8192x56, .f32⟩
  | .hbm, ⟨8, _⟩ => ⟨S8192x7168, .bf16⟩
  | .local _ .vmem, ⟨0, _⟩ => ⟨S256x14336, .bf16⟩
  | .local _ .vmem, ⟨1, _⟩ => ⟨S256x14336, .bf16⟩
  | .local _ .vmem, ⟨2, _⟩ => ⟨S14336x256, .fp8e4m3⟩
  | .local _ .vmem, ⟨3, _⟩ => ⟨S14336x256, .fp8e4m3⟩
  | .local _ .vmem, ⟨4, _⟩ => ⟨S1x7168, .f32⟩
  | .local _ .vmem, ⟨5, _⟩ => ⟨S256x256, .bf16⟩
  | .local _ .vmem, ⟨6, _⟩ => ⟨S256x256, .bf16⟩
  | .local _ .vmem, ⟨7, _⟩ => ⟨S256x7168, .fp8e4m3⟩
  | .local _ .vmem, ⟨8, _⟩ => ⟨S256x7168, .fp8e4m3⟩
  | .local _ .vmem, ⟨9, _⟩ => ⟨S256x56, .f32⟩
  | .local _ .vmem, ⟨10, _⟩ => ⟨S256x56, .f32⟩
  | .local _ .vmem, ⟨11, _⟩ => ⟨S256x7168, .bf16⟩
  | .local _ .vmem, ⟨12, _⟩ => ⟨S256x7168, .bf16⟩
  | .local _ .vmem, ⟨13, _⟩ => ⟨S14336x256, .bf16⟩
  | .local _ .vmem, ⟨14, _⟩ => ⟨S256x7168, .f32⟩
  | .local _ .smem, ⟨0, _⟩ => ⟨S112x56, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 28], ![false, false]⟩

@[reducible] def k0_t1_loop : Scf.Loop 32 :=
  let c0_i32 : BitVec 32 := 0#32
  let c112_i32 : BitVec 32 := 112#32
  let v1 : BitVec 32 := Scalar.addi c0_i32 c112_i32
  let c1_i32 : BitVec 32 := 1#32
  ⟨c0_i32, v1, c1_i32⟩
def k0_off1 (i : grid0.Coords) (k0_t1 : Fin k0_t1_loop.trips) : Fin 2 → Nat :=
  let c0_i32 : BitVec 32 := 0#32
  let c1_i32 : BitVec 32 := 1#32
  let arg12 : BitVec 32 := Scf.iv c0_i32 c1_i32 k0_t1
  let v18 : Index := Scalar.indexCast arg12
  let arg1 : BitVec 32 := BitVec.ofNat 32 (i 1).val
  let c2_i32 : BitVec 32 := 2#32
  let v0 : BitVec 32 := Scalar.muli arg1 c2_i32
  let c0_i32_12 : BitVec 32 := 0#32
  let v17 : BitVec 32 := Scalar.addi v0 c0_i32_12
  let v19 : Index := Scalar.indexCast v17
  ![v18.toNat, v19.toNat]
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v23 : BitVec 32 := Scalar.muli arg12 c128_i32
  v23
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v23 : BitVec 32 := Scalar.muli arg12 c128_i32
  let v24 : BitVec 32 := v23
  let v25 : Index := Scalar.indexCast v24
  let c0_13 : Index := 0#32
  ![v25.toNat, 0]
@[reducible] def k0_t2_loop : Scf.Loop 32 :=
  let c0_i32_1 : BitVec 32 := 0#32
  let c112_i32_2 : BitVec 32 := 112#32
  let v2 : BitVec 32 := Scalar.addi c0_i32_1 c112_i32_2
  let c1_i32_3 : BitVec 32 := 1#32
  ⟨c0_i32_1, v2, c1_i32_3⟩
def k0_off3 (i : grid0.Coords) (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let v18 : Index := Scalar.indexCast arg12
  let arg1 : BitVec 32 := BitVec.ofNat 32 (i 1).val
  let c2_i32 : BitVec 32 := 2#32
  let v0 : BitVec 32 := Scalar.muli arg1 c2_i32
  let c1_i32_12 : BitVec 32 := 1#32
  let v17 : BitVec 32 := Scalar.addi v0 c1_i32_12
  let v19 : Index := Scalar.indexCast v17
  ![v18.toNat, v19.toNat]
def k0_mult2 (k0_t2 : Fin k0_t2_loop.trips) : BitVec 32 :=
  let c0_i32_1 : BitVec 32 := 0#32
  let c1_i32_3 : BitVec 32 := 1#32
  let arg12 : BitVec 32 := Scf.iv c0_i32_1 c1_i32_3 k0_t2
  let c128_i32 : BitVec 32 := 128#32
  let v23 : BitVec 32 := Scalar.muli arg12 c128_i32
  v23
def k0_off4 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c128_i32 : BitVec 32 := 128#32
  let v23 : BitVec 32 := Scalar.muli arg12 c128_i32
  let v24 : BitVec 32 := v23
  let v25 : Index := Scalar.indexCast v24
  let c128 : Index := 128#32
  ![v25.toNat, 128]
def k0_mult3 (i : grid0.Coords) : BitVec 32 :=
  let arg1 : BitVec 32 := BitVec.ofNat 32 (i 1).val
  let c256_i32 : BitVec 32 := 256#32
  let v8 : BitVec 32 := Scalar.muli arg1 c256_i32
  v8
def k0_off5 (i : grid0.Coords) : Fin 2 → Nat :=
  let c0_10 : Index := 0#32
  let arg1 : BitVec 32 := BitVec.ofNat 32 (i 1).val
  let c256_i32 : BitVec 32 := 256#32
  let v8 : BitVec 32 := Scalar.muli arg1 c256_i32
  let v9 : BitVec 32 := v8
  let v10 : Index := Scalar.indexCast v9
  ![0, v10.toNat]
def k0_cond1 (i : grid0.Coords) : BitVec 1 :=
  let arg1 : BitVec 32 := BitVec.ofNat 32 (i 1).val
  let c27_i32 : BitVec 32 := 27#32
  let v14 : BitVec 1 := Scalar.cmpi .eq arg1 c27_i32
  let v15 : BitVec 32 := Scalar.extui v14
  let c0_i32_11 : BitVec 32 := 0#32
  let v16 : BitVec 1 := Scalar.cmpi .ne v15 c0_i32_11
  v16

@[reducible] def k0_t3_loop : Scf.Loop 32 :=
  let c0_i32_12 : BitVec 32 := 0#32
  let c8_i32 : BitVec 32 := 8#32
  let v17 : BitVec 32 := Scalar.addi c0_i32_12 c8_i32
  let c1_i32_13 : BitVec 32 := 1#32
  ⟨c0_i32_12, v17, c1_i32_13⟩
def k0_mult4 (k0_t3 : Fin k0_t3_loop.trips) : BitVec 32 :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  v18
def k0_off6 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v21 : Index := Scalar.indexCast v19
  let c0_16 : Index := 0#32
  ![v21.toNat, 0]
def k0_off7 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v25 : Index := Scalar.indexCast v19
  let c128 : Index := 128#32
  ![v25.toNat, 128]
def k0_off8 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v29 : Index := Scalar.indexCast v19
  let c256 : Index := 256#32
  ![v29.toNat, 256]
def k0_off9 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v33 : Index := Scalar.indexCast v19
  let c384 : Index := 384#32
  ![v33.toNat, 384]
def k0_off10 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v37 : Index := Scalar.indexCast v19
  let c512 : Index := 512#32
  ![v37.toNat, 512]
def k0_off11 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v41 : Index := Scalar.indexCast v19
  let c640 : Index := 640#32
  ![v41.toNat, 640]
def k0_off12 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v45 : Index := Scalar.indexCast v19
  let c768 : Index := 768#32
  ![v45.toNat, 768]
def k0_off13 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v49 : Index := Scalar.indexCast v19
  let c896 : Index := 896#32
  ![v49.toNat, 896]
def k0_off14 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v53 : Index := Scalar.indexCast v19
  let c1024 : Index := 1024#32
  ![v53.toNat, 1024]
def k0_off15 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v57 : Index := Scalar.indexCast v19
  let c1152 : Index := 1152#32
  ![v57.toNat, 1152]
def k0_off16 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v61 : Index := Scalar.indexCast v19
  let c1280 : Index := 1280#32
  ![v61.toNat, 1280]
def k0_off17 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v65 : Index := Scalar.indexCast v19
  let c1408 : Index := 1408#32
  ![v65.toNat, 1408]
def k0_off18 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v69 : Index := Scalar.indexCast v19
  let c1536 : Index := 1536#32
  ![v69.toNat, 1536]
def k0_off19 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v73 : Index := Scalar.indexCast v19
  let c1664 : Index := 1664#32
  ![v73.toNat, 1664]
def k0_off20 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v77 : Index := Scalar.indexCast v19
  let c1792 : Index := 1792#32
  ![v77.toNat, 1792]
def k0_off21 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v81 : Index := Scalar.indexCast v19
  let c1920 : Index := 1920#32
  ![v81.toNat, 1920]
def k0_off22 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v85 : Index := Scalar.indexCast v19
  let c2048 : Index := 2048#32
  ![v85.toNat, 2048]
def k0_off23 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v89 : Index := Scalar.indexCast v19
  let c2176 : Index := 2176#32
  ![v89.toNat, 2176]
def k0_off24 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v93 : Index := Scalar.indexCast v19
  let c2304 : Index := 2304#32
  ![v93.toNat, 2304]
def k0_off25 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v97 : Index := Scalar.indexCast v19
  let c2432 : Index := 2432#32
  ![v97.toNat, 2432]
def k0_off26 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v101 : Index := Scalar.indexCast v19
  let c2560 : Index := 2560#32
  ![v101.toNat, 2560]
def k0_off27 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v105 : Index := Scalar.indexCast v19
  let c2688 : Index := 2688#32
  ![v105.toNat, 2688]
def k0_off28 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v109 : Index := Scalar.indexCast v19
  let c2816 : Index := 2816#32
  ![v109.toNat, 2816]
def k0_off29 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v113 : Index := Scalar.indexCast v19
  let c2944 : Index := 2944#32
  ![v113.toNat, 2944]
def k0_off30 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v117 : Index := Scalar.indexCast v19
  let c3072 : Index := 3072#32
  ![v117.toNat, 3072]
def k0_off31 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v121 : Index := Scalar.indexCast v19
  let c3200 : Index := 3200#32
  ![v121.toNat, 3200]
def k0_off32 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v125 : Index := Scalar.indexCast v19
  let c3328 : Index := 3328#32
  ![v125.toNat, 3328]
def k0_off33 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v129 : Index := Scalar.indexCast v19
  let c3456 : Index := 3456#32
  ![v129.toNat, 3456]
def k0_off34 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v133 : Index := Scalar.indexCast v19
  let c3584 : Index := 3584#32
  ![v133.toNat, 3584]
def k0_off35 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v137 : Index := Scalar.indexCast v19
  let c3712 : Index := 3712#32
  ![v137.toNat, 3712]
def k0_off36 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v141 : Index := Scalar.indexCast v19
  let c3840 : Index := 3840#32
  ![v141.toNat, 3840]
def k0_off37 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v145 : Index := Scalar.indexCast v19
  let c3968 : Index := 3968#32
  ![v145.toNat, 3968]
def k0_off38 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v149 : Index := Scalar.indexCast v19
  let c4096 : Index := 4096#32
  ![v149.toNat, 4096]
def k0_off39 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v153 : Index := Scalar.indexCast v19
  let c4224 : Index := 4224#32
  ![v153.toNat, 4224]
def k0_off40 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v157 : Index := Scalar.indexCast v19
  let c4352 : Index := 4352#32
  ![v157.toNat, 4352]
def k0_off41 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v161 : Index := Scalar.indexCast v19
  let c4480 : Index := 4480#32
  ![v161.toNat, 4480]
def k0_off42 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v165 : Index := Scalar.indexCast v19
  let c4608 : Index := 4608#32
  ![v165.toNat, 4608]
def k0_off43 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v169 : Index := Scalar.indexCast v19
  let c4736 : Index := 4736#32
  ![v169.toNat, 4736]
def k0_off44 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v173 : Index := Scalar.indexCast v19
  let c4864 : Index := 4864#32
  ![v173.toNat, 4864]
def k0_off45 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v177 : Index := Scalar.indexCast v19
  let c4992 : Index := 4992#32
  ![v177.toNat, 4992]
def k0_off46 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v181 : Index := Scalar.indexCast v19
  let c5120 : Index := 5120#32
  ![v181.toNat, 5120]
def k0_off47 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v185 : Index := Scalar.indexCast v19
  let c5248 : Index := 5248#32
  ![v185.toNat, 5248]
def k0_off48 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v189 : Index := Scalar.indexCast v19
  let c5376 : Index := 5376#32
  ![v189.toNat, 5376]
def k0_off49 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v193 : Index := Scalar.indexCast v19
  let c5504 : Index := 5504#32
  ![v193.toNat, 5504]
def k0_off50 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v197 : Index := Scalar.indexCast v19
  let c5632 : Index := 5632#32
  ![v197.toNat, 5632]
def k0_off51 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v201 : Index := Scalar.indexCast v19
  let c5760 : Index := 5760#32
  ![v201.toNat, 5760]
def k0_off52 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v205 : Index := Scalar.indexCast v19
  let c5888 : Index := 5888#32
  ![v205.toNat, 5888]
def k0_off53 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v209 : Index := Scalar.indexCast v19
  let c6016 : Index := 6016#32
  ![v209.toNat, 6016]
def k0_off54 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v213 : Index := Scalar.indexCast v19
  let c6144 : Index := 6144#32
  ![v213.toNat, 6144]
def k0_off55 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v217 : Index := Scalar.indexCast v19
  let c6272 : Index := 6272#32
  ![v217.toNat, 6272]
def k0_off56 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v221 : Index := Scalar.indexCast v19
  let c6400 : Index := 6400#32
  ![v221.toNat, 6400]
def k0_off57 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v225 : Index := Scalar.indexCast v19
  let c6528 : Index := 6528#32
  ![v225.toNat, 6528]
def k0_off58 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v229 : Index := Scalar.indexCast v19
  let c6656 : Index := 6656#32
  ![v229.toNat, 6656]
def k0_off59 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v233 : Index := Scalar.indexCast v19
  let c6784 : Index := 6784#32
  ![v233.toNat, 6784]
def k0_off60 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v237 : Index := Scalar.indexCast v19
  let c6912 : Index := 6912#32
  ![v237.toNat, 6912]
def k0_off61 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v241 : Index := Scalar.indexCast v19
  let c7040 : Index := 7040#32
  ![v241.toNat, 7040]
def k0_off62 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v7414 : Index := Scalar.indexCast v19
  let c0_1878 : Index := 0#32
  ![v7414.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S14336x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S112x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ProjReferenceIdeal.lean ====
abbrev S8192x14336 : Shape := ⟨2, ![8192, 14336]⟩
abbrev S14336x7168 : Shape := ⟨2, ![14336, 7168]⟩
abbrev S112x56 : Shape := ⟨2, ![112, 56]⟩
abbrev S7168 : Shape := ⟨1, ![7168]⟩
abbrev S112x128x56x128 : Shape := ⟨4, ![112, 128, 56, 128]⟩
abbrev S112x1x56x1 : Shape := ⟨4, ![112, 1, 56, 1]⟩
abbrev S8192x7168 : Shape := ⟨2, ![8192, 7168]⟩

abbrev nBuf : Space → Nat
  | .hbm => 13
  | .vmem => 2
  | .smem => 0
  | _ => 0

abbrev bufTy : (tb : Table) → Fin (tcTables nBuf tb) → BufTy
  | .hbm, ⟨0, _⟩ => ⟨S8192x14336, .bf16⟩
  | .hbm, ⟨1, _⟩ => ⟨S14336x7168, .fp8e4m3⟩
  | .hbm, ⟨2, _⟩ => ⟨S112x56, .f32⟩
  | .hbm, ⟨3, _⟩ => ⟨S7168, .f32⟩
  | .hbm, ⟨4, _⟩ => ⟨S14336x7168, .bf16⟩
  | .hbm, ⟨5, _⟩ => ⟨S112x128x56x128, .bf16⟩
  | .hbm, ⟨6, _⟩ => ⟨S112x56, .bf16⟩
  | .hbm, ⟨7, _⟩ => ⟨S112x1x56x1, .bf16⟩
  | .hbm, ⟨8, _⟩ => ⟨S112x128x56x128, .bf16⟩
  | .hbm, ⟨9, _⟩ => ⟨S112x128x56x128, .bf16⟩
  | .hbm, ⟨10, _⟩ => ⟨S14336x7168, .bf16⟩
  | .hbm, ⟨11, _⟩ => ⟨S8192x7168, .f32⟩
  | .hbm, ⟨12, _⟩ => ⟨S8192x7168, .bf16⟩
  | .local _ .vmem, ⟨0, _⟩ => ⟨S14336x7168, .fp8e4m3⟩
  | .local _ .vmem, ⟨1, _⟩ => ⟨S14336x7168, .bf16⟩
  | _, _ => ⟨S8192x14336, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S14336x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Quant.lean ====
abbrev S8192x14336 : Shape := ⟨2, ![8192, 14336]⟩
abbrev S14336x7168 : Shape := ⟨2, ![14336, 7168]⟩
abbrev S112x56 : Shape := ⟨2, ![112, 56]⟩
abbrev S7168 : Shape := ⟨1, ![7168]⟩
abbrev S1x7168 : Shape := ⟨2, ![1, 7168]⟩
abbrev S8192x7168 : Shape := ⟨2, ![8192, 7168]⟩
abbrev S8192x56 : Shape := ⟨2, ![8192, 56]⟩
abbrev S256x14336 : Shape := ⟨2, ![256, 14336]⟩
abbrev S14336x256 : Shape := ⟨2, ![14336, 256]⟩
abbrev S256x256 : Shape := ⟨2, ![256, 256]⟩
abbrev S256x7168 : Shape := ⟨2, ![256, 7168]⟩
abbrev S256x56 : Shape := ⟨2, ![256, 56]⟩
abbrev S1x1 : Shape := ⟨2, ![1, 1]⟩
abbrev S128x128 : Shape := ⟨2, ![128, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x56 : Shape := ⟨2, ![32, 56]⟩

abbrev nBuf : Space → Nat
  | .hbm => 9
  | .vmem => 15
  | .smem => 1
  | _ => 0

abbrev bufTy : (tb : Table) → Fin (tcTables nBuf tb) → BufTy
  | .hbm, ⟨0, _⟩ => ⟨S8192x14336, .bf16⟩
  | .hbm, ⟨1, _⟩ => ⟨S14336x7168, .fp8e4m3⟩
  | .hbm, ⟨2, _⟩ => ⟨S112x56, .f32⟩
  | .hbm, ⟨3, _⟩ => ⟨S7168, .f32⟩
  | .hbm, ⟨4, _⟩ => ⟨S1x7168, .f32⟩
  | .hbm, ⟨5, _⟩ => ⟨S8192x7168, .bf16⟩
  | .hbm, ⟨6, _⟩ => ⟨S8192x7168, .fp8e4m3⟩
  | .hbm, ⟨7, _⟩ => ⟨S8192x56, .f32⟩
  | .hbm, ⟨8, _⟩ => ⟨S8192x7168, .bf16⟩
  | .local _ .vmem, ⟨0, _⟩ => ⟨S256x14336, .bf16⟩
  | .local _ .vmem, ⟨1, _⟩ => ⟨S256x14336, .bf16⟩
  | .local _ .vmem, ⟨2, _⟩ => ⟨S14336x256, .fp8e4m3⟩
  | .local _ .vmem, ⟨3, _⟩ => ⟨S14336x256, .fp8e4m3⟩
  | .local _ .vmem, ⟨4, _⟩ => ⟨S1x7168, .f32⟩
  | .local _ .vmem, ⟨5, _⟩ => ⟨S256x256, .bf16⟩
  | .local _ .vmem, ⟨6, _⟩ => ⟨S256x256, .bf16⟩
  | .local _ .vmem, ⟨7, _⟩ => ⟨S256x7168, .fp8e4m3⟩
  | .local _ .vmem, ⟨8, _⟩ => ⟨S256x7168, .fp8e4m3⟩
  | .local _ .vmem, ⟨9, _⟩ => ⟨S256x56, .f32⟩
  | .local _ .vmem, ⟨10, _⟩ => ⟨S256x56, .f32⟩
  | .local _ .vmem, ⟨11, _⟩ => ⟨S256x7168, .bf16⟩
  | .local _ .vmem, ⟨12, _⟩ => ⟨S256x7168, .bf16⟩
  | .local _ .vmem, ⟨13, _⟩ => ⟨S14336x256, .bf16⟩
  | .local _ .vmem, ⟨14, _⟩ => ⟨S256x7168, .f32⟩
  | .local _ .smem, ⟨0, _⟩ => ⟨S112x56, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 28], ![false, false]⟩

@[reducible] def k0_t1_loop : Scf.Loop 32 :=
  let c0_i32 : BitVec 32 := 0#32
  let c112_i32 : BitVec 32 := 112#32
  let v1 : BitVec 32 := Scalar.addi c0_i32 c112_i32
  let c1_i32 : BitVec 32 := 1#32
  ⟨c0_i32, v1, c1_i32⟩
def k0_off1 (i : grid0.Coords) (k0_t1 : Fin k0_t1_loop.trips) : Fin 2 → Nat :=
  let c0_i32 : BitVec 32 := 0#32
  let c1_i32 : BitVec 32 := 1#32
  let arg12 : BitVec 32 := Scf.iv c0_i32 c1_i32 k0_t1
  let v18 : Index := Scalar.indexCast arg12
  let arg1 : BitVec 32 := BitVec.ofNat 32 (i 1).val
  let c2_i32 : BitVec 32 := 2#32
  let v0 : BitVec 32 := Scalar.muli arg1 c2_i32
  let c0_i32_12 : BitVec 32 := 0#32
  let v17 : BitVec 32 := Scalar.addi v0 c0_i32_12
  let v19 : Index := Scalar.indexCast v17
  ![v18.toNat, v19.toNat]
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v23 : BitVec 32 := Scalar.muli arg12 c128_i32
  v23
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v23 : BitVec 32 := Scalar.muli arg12 c128_i32
  let v24 : BitVec 32 := v23
  let v25 : Index := Scalar.indexCast v24
  let c0_13 : Index := 0#32
  ![v25.toNat, 0]
@[reducible] def k0_t2_loop : Scf.Loop 32 :=
  let c0_i32_1 : BitVec 32 := 0#32
  let c112_i32_2 : BitVec 32 := 112#32
  let v2 : BitVec 32 := Scalar.addi c0_i32_1 c112_i32_2
  let c1_i32_3 : BitVec 32 := 1#32
  ⟨c0_i32_1, v2, c1_i32_3⟩
def k0_off3 (i : grid0.Coords) (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let v18 : Index := Scalar.indexCast arg12
  let arg1 : BitVec 32 := BitVec.ofNat 32 (i 1).val
  let c2_i32 : BitVec 32 := 2#32
  let v0 : BitVec 32 := Scalar.muli arg1 c2_i32
  let c1_i32_12 : BitVec 32 := 1#32
  let v17 : BitVec 32 := Scalar.addi v0 c1_i32_12
  let v19 : Index := Scalar.indexCast v17
  ![v18.toNat, v19.toNat]
def k0_mult2 (k0_t2 : Fin k0_t2_loop.trips) : BitVec 32 :=
  let c0_i32_1 : BitVec 32 := 0#32
  let c1_i32_3 : BitVec 32 := 1#32
  let arg12 : BitVec 32 := Scf.iv c0_i32_1 c1_i32_3 k0_t2
  let c128_i32 : BitVec 32 := 128#32
  let v23 : BitVec 32 := Scalar.muli arg12 c128_i32
  v23
def k0_off4 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c128_i32 : BitVec 32 := 128#32
  let v23 : BitVec 32 := Scalar.muli arg12 c128_i32
  let v24 : BitVec 32 := v23
  let v25 : Index := Scalar.indexCast v24
  let c128 : Index := 128#32
  ![v25.toNat, 128]
def k0_mult3 (i : grid0.Coords) : BitVec 32 :=
  let arg1 : BitVec 32 := BitVec.ofNat 32 (i 1).val
  let c256_i32 : BitVec 32 := 256#32
  let v8 : BitVec 32 := Scalar.muli arg1 c256_i32
  v8
def k0_off5 (i : grid0.Coords) : Fin 2 → Nat :=
  let c0_10 : Index := 0#32
  let arg1 : BitVec 32 := BitVec.ofNat 32 (i 1).val
  let c256_i32 : BitVec 32 := 256#32
  let v8 : BitVec 32 := Scalar.muli arg1 c256_i32
  let v9 : BitVec 32 := v8
  let v10 : Index := Scalar.indexCast v9
  ![0, v10.toNat]
def k0_cond1 (i : grid0.Coords) : BitVec 1 :=
  let arg1 : BitVec 32 := BitVec.ofNat 32 (i 1).val
  let c27_i32 : BitVec 32 := 27#32
  let v14 : BitVec 1 := Scalar.cmpi .eq arg1 c27_i32
  let v15 : BitVec 32 := Scalar.extui v14
  let c0_i32_11 : BitVec 32 := 0#32
  let v16 : BitVec 1 := Scalar.cmpi .ne v15 c0_i32_11
  v16

@[reducible] def k0_t3_loop : Scf.Loop 32 :=
  let c0_i32_12 : BitVec 32 := 0#32
  let c8_i32 : BitVec 32 := 8#32
  let v17 : BitVec 32 := Scalar.addi c0_i32_12 c8_i32
  let c1_i32_13 : BitVec 32 := 1#32
  ⟨c0_i32_12, v17, c1_i32_13⟩
def k0_mult4 (k0_t3 : Fin k0_t3_loop.trips) : BitVec 32 :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  v18
def k0_off6 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v21 : Index := Scalar.indexCast v19
  let c0_16 : Index := 0#32
  ![v21.toNat, 0]
def k0_off7 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v25 : Index := Scalar.indexCast v19
  let c128 : Index := 128#32
  ![v25.toNat, 128]
def k0_off8 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v29 : Index := Scalar.indexCast v19
  let c256 : Index := 256#32
  ![v29.toNat, 256]
def k0_off9 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v33 : Index := Scalar.indexCast v19
  let c384 : Index := 384#32
  ![v33.toNat, 384]
def k0_off10 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v37 : Index := Scalar.indexCast v19
  let c512 : Index := 512#32
  ![v37.toNat, 512]
def k0_off11 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v41 : Index := Scalar.indexCast v19
  let c640 : Index := 640#32
  ![v41.toNat, 640]
def k0_off12 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v45 : Index := Scalar.indexCast v19
  let c768 : Index := 768#32
  ![v45.toNat, 768]
def k0_off13 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v49 : Index := Scalar.indexCast v19
  let c896 : Index := 896#32
  ![v49.toNat, 896]
def k0_off14 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v53 : Index := Scalar.indexCast v19
  let c1024 : Index := 1024#32
  ![v53.toNat, 1024]
def k0_off15 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v57 : Index := Scalar.indexCast v19
  let c1152 : Index := 1152#32
  ![v57.toNat, 1152]
def k0_off16 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v61 : Index := Scalar.indexCast v19
  let c1280 : Index := 1280#32
  ![v61.toNat, 1280]
def k0_off17 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v65 : Index := Scalar.indexCast v19
  let c1408 : Index := 1408#32
  ![v65.toNat, 1408]
def k0_off18 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v69 : Index := Scalar.indexCast v19
  let c1536 : Index := 1536#32
  ![v69.toNat, 1536]
def k0_off19 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v73 : Index := Scalar.indexCast v19
  let c1664 : Index := 1664#32
  ![v73.toNat, 1664]
def k0_off20 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v77 : Index := Scalar.indexCast v19
  let c1792 : Index := 1792#32
  ![v77.toNat, 1792]
def k0_off21 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v81 : Index := Scalar.indexCast v19
  let c1920 : Index := 1920#32
  ![v81.toNat, 1920]
def k0_off22 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v85 : Index := Scalar.indexCast v19
  let c2048 : Index := 2048#32
  ![v85.toNat, 2048]
def k0_off23 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v89 : Index := Scalar.indexCast v19
  let c2176 : Index := 2176#32
  ![v89.toNat, 2176]
def k0_off24 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v93 : Index := Scalar.indexCast v19
  let c2304 : Index := 2304#32
  ![v93.toNat, 2304]
def k0_off25 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v97 : Index := Scalar.indexCast v19
  let c2432 : Index := 2432#32
  ![v97.toNat, 2432]
def k0_off26 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v101 : Index := Scalar.indexCast v19
  let c2560 : Index := 2560#32
  ![v101.toNat, 2560]
def k0_off27 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v105 : Index := Scalar.indexCast v19
  let c2688 : Index := 2688#32
  ![v105.toNat, 2688]
def k0_off28 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v109 : Index := Scalar.indexCast v19
  let c2816 : Index := 2816#32
  ![v109.toNat, 2816]
def k0_off29 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v113 : Index := Scalar.indexCast v19
  let c2944 : Index := 2944#32
  ![v113.toNat, 2944]
def k0_off30 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v117 : Index := Scalar.indexCast v19
  let c3072 : Index := 3072#32
  ![v117.toNat, 3072]
def k0_off31 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v121 : Index := Scalar.indexCast v19
  let c3200 : Index := 3200#32
  ![v121.toNat, 3200]
def k0_off32 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v125 : Index := Scalar.indexCast v19
  let c3328 : Index := 3328#32
  ![v125.toNat, 3328]
def k0_off33 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v129 : Index := Scalar.indexCast v19
  let c3456 : Index := 3456#32
  ![v129.toNat, 3456]
def k0_off34 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v133 : Index := Scalar.indexCast v19
  let c3584 : Index := 3584#32
  ![v133.toNat, 3584]
def k0_off35 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v137 : Index := Scalar.indexCast v19
  let c3712 : Index := 3712#32
  ![v137.toNat, 3712]
def k0_off36 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v141 : Index := Scalar.indexCast v19
  let c3840 : Index := 3840#32
  ![v141.toNat, 3840]
def k0_off37 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v145 : Index := Scalar.indexCast v19
  let c3968 : Index := 3968#32
  ![v145.toNat, 3968]
def k0_off38 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v149 : Index := Scalar.indexCast v19
  let c4096 : Index := 4096#32
  ![v149.toNat, 4096]
def k0_off39 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v153 : Index := Scalar.indexCast v19
  let c4224 : Index := 4224#32
  ![v153.toNat, 4224]
def k0_off40 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v157 : Index := Scalar.indexCast v19
  let c4352 : Index := 4352#32
  ![v157.toNat, 4352]
def k0_off41 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v161 : Index := Scalar.indexCast v19
  let c4480 : Index := 4480#32
  ![v161.toNat, 4480]
def k0_off42 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v165 : Index := Scalar.indexCast v19
  let c4608 : Index := 4608#32
  ![v165.toNat, 4608]
def k0_off43 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v169 : Index := Scalar.indexCast v19
  let c4736 : Index := 4736#32
  ![v169.toNat, 4736]
def k0_off44 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v173 : Index := Scalar.indexCast v19
  let c4864 : Index := 4864#32
  ![v173.toNat, 4864]
def k0_off45 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v177 : Index := Scalar.indexCast v19
  let c4992 : Index := 4992#32
  ![v177.toNat, 4992]
def k0_off46 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v181 : Index := Scalar.indexCast v19
  let c5120 : Index := 5120#32
  ![v181.toNat, 5120]
def k0_off47 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v185 : Index := Scalar.indexCast v19
  let c5248 : Index := 5248#32
  ![v185.toNat, 5248]
def k0_off48 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v189 : Index := Scalar.indexCast v19
  let c5376 : Index := 5376#32
  ![v189.toNat, 5376]
def k0_off49 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v193 : Index := Scalar.indexCast v19
  let c5504 : Index := 5504#32
  ![v193.toNat, 5504]
def k0_off50 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v197 : Index := Scalar.indexCast v19
  let c5632 : Index := 5632#32
  ![v197.toNat, 5632]
def k0_off51 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v201 : Index := Scalar.indexCast v19
  let c5760 : Index := 5760#32
  ![v201.toNat, 5760]
def k0_off52 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v205 : Index := Scalar.indexCast v19
  let c5888 : Index := 5888#32
  ![v205.toNat, 5888]
def k0_off53 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v209 : Index := Scalar.indexCast v19
  let c6016 : Index := 6016#32
  ![v209.toNat, 6016]
def k0_off54 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v213 : Index := Scalar.indexCast v19
  let c6144 : Index := 6144#32
  ![v213.toNat, 6144]
def k0_off55 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v217 : Index := Scalar.indexCast v19
  let c6272 : Index := 6272#32
  ![v217.toNat, 6272]
def k0_off56 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v221 : Index := Scalar.indexCast v19
  let c6400 : Index := 6400#32
  ![v221.toNat, 6400]
def k0_off57 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v225 : Index := Scalar.indexCast v19
  let c6528 : Index := 6528#32
  ![v225.toNat, 6528]
def k0_off58 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v229 : Index := Scalar.indexCast v19
  let c6656 : Index := 6656#32
  ![v229.toNat, 6656]
def k0_off59 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v233 : Index := Scalar.indexCast v19
  let c6784 : Index := 6784#32
  ![v233.toNat, 6784]
def k0_off60 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v237 : Index := Scalar.indexCast v19
  let c6912 : Index := 6912#32
  ![v237.toNat, 6912]
def k0_off61 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v241 : Index := Scalar.indexCast v19
  let c7040 : Index := 7040#32
  ![v241.toNat, 7040]
def k0_off62 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c32_i32 : BitVec 32 := 32#32
  let v18 : BitVec 32 := Scalar.muli arg12 c32_i32
  let v19 : BitVec 32 := v18
  let v7414 : Index := Scalar.indexCast v19
  let c0_1878 : Index := 0#32
  ![v7414.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S14336x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S112x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== QuantReferenceIdeal.lean ====
abbrev S8192x14336 : Shape := ⟨2, ![8192, 14336]⟩
abbrev S14336x7168 : Shape := ⟨2, ![14336, 7168]⟩
abbrev S112x56 : Shape := ⟨2, ![112, 56]⟩
abbrev S7168 : Shape := ⟨1, ![7168]⟩
abbrev S1x7168 : Shape := ⟨2, ![1, 7168]⟩
abbrev S8192x7168 : Shape := ⟨2, ![8192, 7168]⟩
abbrev S8192x56 : Shape := ⟨2, ![8192, 56]⟩
abbrev S112x128x56x128 : Shape := ⟨4, ![112, 128, 56, 128]⟩
abbrev S112x1x56x1 : Shape := ⟨4, ![112, 1, 56, 1]⟩
abbrev S8192 : Shape := ⟨1, ![8192]⟩
abbrev S8192x1 : Shape := ⟨2, ![8192, 1]⟩
abbrev S8192x56x128 : Shape := ⟨3, ![8192, 56, 128]⟩
abbrev S8192x56x254 : Shape := ⟨3, ![8192, 56, 254]⟩
abbrev S8192x56x1 : Shape := ⟨3, ![8192, 56, 1]⟩

abbrev nBuf : Space → Nat
  | .hbm => 7
  | .vmem => 6
  | .smem => 0
  | _ => 0

abbrev bufTy : (tb : Table) → Fin (tcTables nBuf tb) → BufTy
  | .hbm, ⟨0, _⟩ => ⟨S8192x14336, .bf16⟩
  | .hbm, ⟨1, _⟩ => ⟨S14336x7168, .fp8e4m3⟩
  | .hbm, ⟨2, _⟩ => ⟨S112x56, .f32⟩
  | .hbm, ⟨3, _⟩ => ⟨S7168, .f32⟩
  | .hbm, ⟨4, _⟩ => ⟨S1x7168, .f32⟩
  | .hbm, ⟨5, _⟩ => ⟨S8192x7168, .fp8e4m3⟩
  | .hbm, ⟨6, _⟩ => ⟨S8192x56, .f32⟩
  | .local _ .vmem, ⟨0, _⟩ => ⟨S8192x14336, .bf16⟩
  | .local _ .vmem, ⟨1, _⟩ => ⟨S14336x7168, .fp8e4m3⟩
  | .local _ .vmem, ⟨2, _⟩ => ⟨S112x56, .f32⟩
  | .local _ .vmem, ⟨3, _⟩ => ⟨S1x7168, .f32⟩
  | .local _ .vmem, ⟨4, _⟩ => ⟨S8192x7168, .fp8e4m3⟩
  | .local _ .vmem, ⟨5, _⟩ => ⟨S8192x56, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BitsLoops.lean ====
module

public import proofs.«01_k».proof.Proof.Gen.Head.Frame
public import proofs.«01_k».proof.Proof.Gen.Head.Skeleton
public import proofs.«01_k».proof.Proof.Gen.Head.Loops
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Head.Hand

open Cert.Head Cert.Head.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The cell of the scale table that scales weight `y` of column block `i 1`: row `y 0 / 128`, column `4 * i 1 + y 1 / 128`. -/
def SBix (i : grid0.Coords) (y : S7168x512.Idx) : S56x256.Idx := fun a => match a with
    | ⟨0, _⟩ => ⟨(y 0).val / 128, by have := (y 0).isLt; simp only [S7168x512, S56x256] at *; dsimp at *; omega⟩
    | ⟨1, _⟩ => ⟨4 * (i 1).val + (y 1).val / 128, by have := (y 1).isLt; have := (i 1).isLt; simp only [S7168x512, S56x256, grid0] at *; dsimp at *; omega⟩

/-- The scale of each weight of column block `i 1`. -/
def SB (i : grid0.Coords) (x2 : Vec F S56x256 .f32) : FVec F S7168x512 .f32 := fun y => x2 (SBix i y)

/-- The widened weights of column block `i 1`: each code times its scale rounded to bfloat16. -/
def WB (i : grid0.Coords) (x1 : Vec F S7168x512 .fp8e4m3) (x2 : Vec F S56x256 .f32) : FVec F S7168x512 .bf16 :=
  mulf (extf .bf16 x1 bitsLt_fp8e4m3_bf16) (truncf .bf16 (SB i x2) bitsLt_bf16_f32)

theorem trips1_eq : k0_t1_loop.trips = 56 := by decide +kernel

/-- Every write of loop 1's trip `k` stores the widened weights of the cells it covers. -/
theorem trip1_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t1_loop.trips) :
    ∀ p ∈ tripL_k0_t1 (F := F) Variants.none c none i arg2 harg2 arg3 harg3 arg4 harg4 arg5 harg5 arg6 harg6 arg7 harg7 arg8 harg8 arg9 harg9 arg10 harg10 X3 X4 k, ∀ x, p.2 x = WB i (arg3.view.read (Elt F) X3) (arg4.view.read (Elt F) X4) (p.1.emb x) := by
  unfold tripL_k0_t1 trip_k0_t1
  dsimp only
  intro p hp
  obtain rfl := List.mem_singleton.mp hp
  intro x
  dsimp only at x ⊢
  have hs : trip_k0_t1.sl.r i arg4 X4 k = arg4.view.read (Elt F) X4 (SBix i ((Rect.unit (k0_off2 k) ![128, 128] (k0_off2_inb k)).emb x)) := by
    unfold trip_k0_t1.sl.r
    refine congrArg (arg4.view.read (Elt F) X4) (funext fun a => Fin.ext ?_)
    have e1 := k0_off1_eq i k
    have e2 := k0_off2_eq k
    have hx0 : (x 0).val < 128 := (x 0).isLt
    have hx1 : (x 1).val < 128 := (x 1).isLt
    match a with
    | ⟨0, _⟩ =>
      have e10 : (k0_off1 i k) 0 = k.val := congrFun e1 0
      have e20 : (k0_off2 k) 0 = 128 * k.val := congrFun e2 0
      show (k0_off1 i k) 0 + 1 * 0 = ((k0_off2 k) 0 + 1 * (x 0).val) / 128
      omega
    | ⟨1, _⟩ =>
      have e11 : (k0_off1 i k) 1 = 4 * (i 1).val + 0 := congrFun e1 1
      have e21 : (k0_off2 k) 1 = 0 := congrFun e2 1
      show (k0_off1 i k) 1 + 1 * 0 = 4 * (i 1).val + ((k0_off2 k) 1 + 1 * (x 1).val) / 128
      omega
  unfold k0_pay3 WB SB
  simp only [shapeCast_self]
  rw [hs]
  rfl

/-- The cells that loop 1's trip `k` writes. -/
theorem trip1_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t1_loop.trips) (y : S7168x512.Idx)
    (h0 : (y 0).val / 128 = k.val) (h1 : (y 1).val / 128 = 0) :
    ∃ p ∈ tripL_k0_t1 (F := F) Variants.none c none i arg2 harg2 arg3 harg3 arg4 harg4 arg5 harg5 arg6 harg6 arg7 harg7 arg8 harg8 arg9 harg9 arg10 harg10 X3 X4 k, y ∈ p.1.set := by
  unfold tripL_k0_t1 trip_k0_t1
  dsimp only
  refine ⟨_, List.mem_singleton.mpr rfl, ?_⟩
  have e2 := k0_off2_eq k
  have e20 : (k0_off2 k) 0 = 128 * k.val := congrFun e2 0
  have e21 : (k0_off2 k) 1 = 0 := congrFun e2 1
  rw [Rect.mem_set_unit]
  intro a
  match a with
  | ⟨0, _⟩ =>
    show (k0_off2 k) 0 ≤ (y 0).val ∧ (y 0).val < (k0_off2 k) 0 + 128
    omega
  | ⟨1, _⟩ =>
    show (k0_off2 k) 1 ≤ (y 1).val ∧ (y 1).val < (k0_off2 k) 1 + 128
    omega

/-- Every write of loop 1 stores the widened weights of the cells it covers. -/
theorem pb1_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) :
    ∀ n, n ≤ k0_t1_loop.trips → ∀ p ∈ pb_k0_t1 (F := F) Variants.none c none i arg2 harg2 arg3 harg3 arg4 harg4 arg5 harg5 arg6 harg6 arg7 harg7 arg8 harg8 arg9 harg9 arg10 harg10 X3 X4 n, ∀ x, p.2 x = WB i (arg3.view.read (Elt F) X3) (arg4.view.read (Elt F) X4) (p.1.emb x)
  | 0, _, p, hp => by rw [pb_k0_t1.eq_1] at hp; exact absurd hp List.not_mem_nil
  | n + 1, hn, p, hp => by
    rw [pb_k0_t1_succ (k := ⟨n, hn⟩)] at hp
    rcases List.mem_append.mp hp with h | h
    · exact trip1_piece c i arg2 harg2 arg3 harg3 arg4 harg4 arg5 harg5 arg6 harg6 arg7 harg7 arg8 harg8 arg9 harg9 arg10 harg10 X3 X4 ⟨n, hn⟩ p h
    · exact pb1_piece c i arg2 harg2 arg3 harg3 arg4 harg4 arg5 harg5 arg6 harg6 arg7 harg7 arg8 harg8 arg9 harg9 arg10 harg10 X3 X4 n (Nat.le_of_succ_le hn) p h

/-- Loop 1 writes every cell of its 128 columns. -/
theorem pb1_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (y : S7168x512.Idx) (h1 : (y 1).val / 128 = 0) :
    ∀ n, n ≤ k0_t1_loop.trips → (y 0).val / 128 < n → ∃ p ∈ pb_k0_t1 (F := F) Variants.none c none i arg2 harg2 arg3 harg3 arg4 harg4 arg5 harg5 arg6 harg6 arg7 harg7 arg8 harg8 arg9 harg9 arg10 harg10 X3 X4 n, y ∈ p.1.set
  | 0, _, h => absurd h (Nat.not_lt_zero _)
  | n + 1, hn, h => by
    rw [pb_k0_t1_succ (k := ⟨n, hn⟩)]
    by_cases h0 : (y 0).val / 128 = n
    · obtain ⟨p, hp, hy⟩ := trip1_cover c i arg2 harg2 arg3 harg3 arg4 harg4 arg5 harg5 arg6 harg6 arg7 harg7 arg8 harg8 arg9 harg9 arg10 harg10 X3 X4 ⟨n, hn⟩ y h0 h1
      exact ⟨p, List.mem_append_left _ hp, hy⟩
    · obtain ⟨p, hp, hy⟩ := pb1_cover c i arg2 harg2 arg3 harg3 arg4 harg4 arg5 harg5 arg6 harg6 arg7 harg7 arg8 harg8 arg9 harg9 arg10 harg10 X3 X4 y h1 n (Nat.le_of_succ_le hn) (by omega)
      exact ⟨p, List.mem_append_right _ hp, hy⟩

theorem trips2_eq : k0_t2_loop.trips = 56 := by decide +kernel

/-- Every write of loop 2's trip `k` stores the widened weights of the cells it covers. -/
theorem trip2_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t2_loop.trips) :
    ∀ p ∈ tripL_k0_t2 (F := F) Variants.none c none i arg2 harg2 arg3 harg3 arg4 harg4 arg5 harg5 arg6 harg6 arg7 harg7 arg8 harg8 arg9 harg9 arg10 harg10 X3 X4 k, ∀ x, p.2 x = WB i (arg3.view.read (Elt F) X3) (arg4.view.read (Elt F) X4) (p.1.emb x) := by
  unfold tripL_k0_t2 trip_k0_t2
  dsimp only
  intro p hp
  obtain rfl := List.mem_singleton.mp hp
  intro x
  dsimp only at x ⊢
  have hs : trip_k0_t2.sl.r i arg4 X4 k = arg4.view.read (Elt F) X4 (SBix i ((Rect.unit (k0_off4 k) ![128, 128] (k0_off4_inb k)).emb x)) := by
    unfold trip_k0_t2.sl.r
    refine congrArg (arg4.view.read (Elt F) X4) (funext fun a => Fin.ext ?_)
    have e1 := k0_off3_eq i k
    have e2 := k0_off4_eq k
    have hx0 : (x 0).val < 128 := (x 0).isLt
    have hx1 : (x 1).val < 128 := (x 1).isLt
    match a with
    | ⟨0, _⟩ =>
      have e10 : (k0_off3 i k) 0 = k.val := congrFun e1 0
      have e20 : (k0_off4 k) 0 = 128 * k.val := congrFun e2 0
      show (k0_off3 i k) 0 + 1 * 0 = ((k0_off4 k) 0 + 1 * (x 0).val) / 128
      omega
    | ⟨1, _⟩ =>
      have e11 : (k0_off3 i k) 1 = 4 * (i 1).val + 1 := congrFun e1 1
      have e21 : (k0_off4 k) 1 = 128 := congrFun e2 1
      show (k0_off3 i k) 1 + 1 * 0 = 4 * (i 1).val + ((k0_off4 k) 1 + 1 * (x 1).val) / 128
      omega
  unfold k0_pay4 WB SB
  simp only [shapeCast_self]
  rw [hs]
  rfl

/-- The cells that loop 2's trip `k` writes. -/
theorem trip2_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t2_loop.trips) (y : S7168x512.Idx)
    (h0 : (y 0).val / 128 = k.val) (h1 : (y 1).val / 128 = 1) :
    ∃ p ∈ tripL_k0_t2 (F := F) Variants.none c none i arg2 harg2 arg3 harg3 arg4 harg4 arg5 harg5 arg6 harg6 arg7 harg7 arg8 harg8 arg9 harg9 arg10 harg10 X3 X4 k, y ∈ p.1.set := by
  unfold tripL_k0_t2 trip_k0_t2
  dsimp only
  refine ⟨_, List.mem_singleton.mpr rfl, ?_⟩
  have e2 := k0_off4_eq k
  have e20 : (k0_off4 k) 0 = 128 * k.val := congrFun e2 0
  have e21 : (k0_off4 k) 1 = 128 := congrFun e2 1
  rw [Rect.mem_set_unit]
  intro a
  match a with
  | ⟨0, _⟩ =>
    show (k0_off4 k) 0 ≤ (y 0).val ∧ (y 0).val < (k0_off4 k) 0 + 128
    omega
  | ⟨1, _⟩ =>
    show (k0_off4 k) 1 ≤ (y 1).val ∧ (y 1).val < (k0_off4 k) 1 + 128
    omega

/-- Every write of loop 2 stores the widened weights of the cells it covers. -/
theorem pb2_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) :
    ∀ n, n ≤ k0_t2_loop.trips → ∀ p ∈ pb_k0_t2 (F := F) Variants.none c none i arg2 harg2 arg3 harg3 arg4 harg4 arg5 harg5 arg6 harg6 arg7 harg7 arg8 harg8 arg9 harg9 arg10 harg10 X3 X4 n, ∀ x, p.2 x = WB i (arg3.view.read (Elt F) X3) (arg4.view.read (Elt F) X4) (p.1.emb x)
  | 0, _, p, hp => by rw [pb_k0_t2.eq_1] at hp; exact absurd hp List.not_mem_nil
  | n + 1, hn, p, hp => by
    rw [pb_k0_t2_succ (k := ⟨n, hn⟩)] at hp
    rcases List.mem_append.mp hp with h | h
    · exact trip2_piece c i arg2 harg2 arg3 harg3 arg4 harg4 arg5 harg5 arg6 harg6 arg7 harg7 arg8 harg8 arg9 harg9 arg10 harg10 X3 X4 ⟨n, hn⟩ p h
    · exact pb2_piece c i arg2 harg2 arg3 harg3 arg4 harg4 arg5 harg5 arg6 harg6 arg7 harg7 arg8 harg8 arg9 harg9 arg10 harg10 X3 X4 n (Nat.le_of_succ_le hn) p h

/-- Loop 2 writes every cell of its 128 columns. -/
theorem pb2_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (y : S7168x512.Idx) (h1 : (y 1).val / 128 = 1) :
    ∀ n, n ≤ k0_t2_loop.trips → (y 0).val / 128 < n → ∃ p ∈ pb_k0_t2 (F := F) Variants.none c none i arg2 harg2 arg3 harg3 arg4 harg4 arg5 harg5 arg6 harg6 arg7 harg7 arg8 harg8 arg9 harg9 arg10 harg10 X3 X4 n, y ∈ p.1.set
  | 0, _, h => absurd h (Nat.not_lt_zero _)
  | n + 1, hn, h => by
    rw [pb_k0_t2_succ (k := ⟨n, hn⟩)]
    by_cases h0 : (y 0).val / 128 = n
    · obtain ⟨p, hp, hy⟩ := trip2_cover c i arg2 harg2 arg3 harg3 arg4 harg4 arg5 harg5 arg6 harg6 arg7 harg7 arg8 harg8 arg9 harg9 arg10 harg10 X3 X4 ⟨n, hn⟩ y h0 h1
      exact ⟨p, List.mem_append_left _ hp, hy⟩
    · obtain ⟨p, hp, hy⟩ := pb2_cover c i arg2 harg2 arg3 harg3 arg4 harg4 arg5 harg5 arg6 harg6 arg7 harg7 arg8 harg8 arg9 harg9 arg10 harg10 X3 X4 y h1 n (Nat.le_of_succ_le hn) (by omega)
      exact ⟨p, List.mem_append_right _ hp, hy⟩

theorem trips3_eq : k0_t3_loop.trips = 56 := by decide +kernel

/-- Every write of loop 3's trip `k` stores the widened weights of the cells it covers. -/
theorem trip3_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t3_loop.trips) :
    ∀ p ∈ tripL_k0_t3 (F := F) Variants.none c none i arg2 harg2 arg3 harg3 arg4 harg4 arg5 harg5 arg6 harg6 arg7 harg7 arg8 harg8 arg9 harg9 arg10 harg10 X3 X4 k, ∀ x, p.2 x = WB i (arg3.view.read (Elt F) X3) (arg4.view.read (Elt F) X4) (p.1.emb x) := by
  unfold tripL_k0_t3 trip_k0_t3
  dsimp only
  intro p hp
  obtain rfl := List.mem_singleton.mp hp
  intro x
  dsimp only at x ⊢
  have hs : trip_k0_t3.sl.r i arg4 X4 k = arg4.view.read (Elt F) X4 (SBix i ((Rect.unit (k0_off6 k) ![128, 128] (k0_off6_inb k)).emb x)) := by
    unfold trip_k0_t3.sl.r
    refine congrArg (arg4.view.read (Elt F) X4) (funext fun a => Fin.ext ?_)
    have e1 := k0_off5_eq i k
    have e2 := k0_off6_eq k
    have hx0 : (x 0).val < 128 := (x 0).isLt
    have hx1 : (x 1).val < 128 := (x 1).isLt
    match a with
    | ⟨0, _⟩ =>
      have e10 : (k0_off5 i k) 0 = k.val := congrFun e1 0
      have e20 : (k0_off6 k) 0 = 128 * k.val := congrFun e2 0
      show (k0_off5 i k) 0 + 1 * 0 = ((k0_off6 k) 0 + 1 * (x 0).val) / 128
      omega
    | ⟨1, _⟩ =>
      have e11 : (k0_off5 i k) 1 = 4 * (i 1).val + 2 := congrFun e1 1
      have e21 : (k0_off6 k) 1 = 256 := congrFun e2 1
      show (k0_off5 i k) 1 + 1 * 0 = 4 * (i 1).val + ((k0_off6 k) 1 + 1 * (x 1).val) / 128
      omega
  unfold k0_pay5 WB SB
  simp only [shapeCast_self]
  rw [hs]
  rfl

/-- The cells that loop 3's trip `k` writes. -/
theorem trip3_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t3_loop.trips) (y : S7168x512.Idx)
    (h0 : (y 0).val / 128 = k.val) (h1 : (y 1).val / 128 = 2) :
    ∃ p ∈ tripL_k0_t3 (F := F) Variants.none c none i arg2 harg2 arg3 harg3 arg4 harg4 arg5 harg5 arg6 harg6 arg7 harg7 arg8 harg8 arg9 harg9 arg10 harg10 X3 X4 k, y ∈ p.1.set := by
  unfold tripL_k0_t3 trip_k0_t3
  dsimp only
  refine ⟨_, List.mem_singleton.mpr rfl, ?_⟩
  have e2 := k0_off6_eq k
  have e20 : (k0_off6 k) 0 = 128 * k.val := congrFun e2 0
  have e21 : (k0_off6 k) 1 = 256 := congrFun e2 1
  rw [Rect.mem_set_unit]
  intro a
  match a with
  | ⟨0, _⟩ =>
    show (k0_off6 k) 0 ≤ (y 0).val ∧ (y 0).val < (k0_off6 k) 0 + 128
    omega
  | ⟨1, _⟩ =>
    show (k0_off6 k) 1 ≤ (y 1).val ∧ (y 1).val < (k0_off6 k) 1 + 128
    omega

/-- Every write of loop 3 stores the widened weights of the cells it covers. -/
theorem pb3_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) :
    ∀ n, n ≤ k0_t3_loop.trips → ∀ p ∈ pb_k0_t3 (F := F) Variants.none c none i arg2 harg2 arg3 harg3 arg4 harg4 arg5 harg5 arg6 harg6 arg7 harg7 arg8 harg8 arg9 harg9 arg10 harg10 X3 X4 n, ∀ x, p.2 x = WB i (arg3.view.read (Elt F) X3) (arg4.view.read (Elt F) X4) (p.1.emb x)
  | 0, _, p, hp => by rw [pb_k0_t3.eq_1] at hp; exact absurd hp List.not_mem_nil
  | n + 1, hn, p, hp => by
    rw [pb_k0_t3_succ (k := ⟨n, hn⟩)] at hp
    rcases List.mem_append.mp hp with h | h
    · exact trip3_piece c i arg2 harg2 arg3 harg3 arg4 harg4 arg5 harg5 arg6 harg6 arg7 harg7 arg8 harg8 arg9 harg9 arg10 harg10 X3 X4 ⟨n, hn⟩ p h
    · exact pb3_piece c i arg2 harg2 arg3 harg3 arg4 harg4 arg5 harg5 arg6 harg6 arg7 harg7 arg8 harg8 arg9 harg9 arg10 harg10 X3 X4 n (Nat.le_of_succ_le hn) p h

/-- Loop 3 writes every cell of its 128 columns. -/
theorem pb3_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (y : S7168x512.Idx) (h1 : (y 1).val / 128 = 2) :
    ∀ n, n ≤ k0_t3_loop.trips → (y 0).val / 128 < n → ∃ p ∈ pb_k0_t3 (F := F) Variants.none c none i arg2 harg2 arg3 harg3 arg4 harg4 arg5 harg5 arg6 harg6 arg7 harg7 arg8 harg8 arg9 harg9 arg10 harg10 X3 X4 n, y ∈ p.1.set
  | 0, _, h => absurd h (Nat.not_lt_zero _)
  | n + 1, hn, h => by
    rw [pb_k0_t3_succ (k := ⟨n, hn⟩)]
    by_cases h0 : (y 0).val / 128 = n
    · obtain ⟨p, hp, hy⟩ := trip3_cover c i arg2 harg2 arg3 harg3 arg4 harg4 arg5 harg5 arg6 harg6 arg7 harg7 arg8 harg8 arg9 harg9 arg10 harg10 X3 X4 ⟨n, hn⟩ y h0 h1
      exact ⟨p, List.mem_append_left _ hp, hy⟩
    · obtain ⟨p, hp, hy⟩ := pb3_cover c i arg2 harg2 arg3 harg3 arg4 harg4 arg5 harg5 arg6 harg6 arg7 harg7 arg8 harg8 arg9 harg9 arg10 harg10 X3 X4 y h1 n (Nat.le_of_succ_le hn) (by omega)
      exact ⟨p, List.mem_append_right _ hp, hy⟩

theorem trips4_eq : k0_t4_loop.trips = 56 := by decide +kernel

/-- Every write of loop 4's trip `k` stores the widened weights of the cells it covers. -/
theorem trip4_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t4_loop.trips) :
    ∀ p ∈ tripL_k0_t4 (F := F) Variants.none c none i arg2 harg2 arg3 harg3 arg4 harg4 arg5 harg5 arg6 harg6 arg7 harg7 arg8 harg8 arg9 harg9 arg10 harg10 X3 X4 k, ∀ x, p.2 x = WB i (arg3.view.read (Elt F) X3) (arg4.view.read (Elt F) X4) (p.1.emb x) := by
  unfold tripL_k0_t4 trip_k0_t4
  dsimp only
  intro p hp
  obtain rfl := List.mem_singleton.mp hp
  intro x
  dsimp only at x ⊢
  have hs : trip_k0_t4.sl.r i arg4 X4 k = arg4.view.read (Elt F) X4 (SBix i ((Rect.unit (k0_off8 k) ![128, 128] (k0_off8_inb k)).emb x)) := by
    unfold trip_k0_t4.sl.r
    refine congrArg (arg4.view.read (Elt F) X4) (funext fun a => Fin.ext ?_)
    have e1 := k0_off7_eq i k
    have e2 := k0_off8_eq k
    have hx0 : (x 0).val < 128 := (x 0).isLt
    have hx1 : (x 1).val < 128 := (x 1).isLt
    match a with
    | ⟨0, _⟩ =>
      have e10 : (k0_off7 i k) 0 = k.val := congrFun e1 0
      have e20 : (k0_off8 k) 0 = 128 * k.val := congrFun e2 0
      show (k0_off7 i k) 0 + 1 * 0 = ((k0_off8 k) 0 + 1 * (x 0).val) / 128
      omega
    | ⟨1, _⟩ =>
      have e11 : (k0_off7 i k) 1 = 4 * (i 1).val + 3 := congrFun e1 1
      have e21 : (k0_off8 k) 1 = 384 := congrFun e2 1
      show (k0_off7 i k) 1 + 1 * 0 = 4 * (i 1).val + ((k0_off8 k) 1 + 1 * (x 1).val) / 128
      omega
  unfold k0_pay6 WB SB
  simp only [shapeCast_self]
  rw [hs]
  rfl

/-- The cells that loop 4's trip `k` writes. -/
theorem trip4_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t4_loop.trips) (y : S7168x512.Idx)
    (h0 : (y 0).val / 128 = k.val) (h1 : (y 1).val / 128 = 3) :
    ∃ p ∈ tripL_k0_t4 (F := F) Variants.none c none i arg2 harg2 arg3 harg3 arg4 harg4 arg5 harg5 arg6 harg6 arg7 harg7 arg8 harg8 arg9 harg9 arg10 harg10 X3 X4 k, y ∈ p.1.set := by
  unfold tripL_k0_t4 trip_k0_t4
  dsimp only
  refine ⟨_, List.mem_singleton.mpr rfl, ?_⟩
  have e2 := k0_off8_eq k
  have e20 : (k0_off8 k) 0 = 128 * k.val := congrFun e2 0
  have e21 : (k0_off8 k) 1 = 384 := congrFun e2 1
  rw [Rect.mem_set_unit]
  intro a
  match a with
  | ⟨0, _⟩ =>
    show (k0_off8 k) 0 ≤ (y 0).val ∧ (y 0).val < (k0_off8 k) 0 + 128
    omega
  | ⟨1, _⟩ =>
    show (k0_off8 k) 1 ≤ (y 1).val ∧ (y 1).val < (k0_off8 k) 1 + 128
    omega

/-- Every write of loop 4 stores the widened weights of the cells it covers. -/
theorem pb4_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) :
    ∀ n, n ≤ k0_t4_loop.trips → ∀ p ∈ pb_k0_t4 (F := F) Variants.none c none i arg2 harg2 arg3 harg3 arg4 harg4 arg5 harg5 arg6 harg6 arg7 harg7 arg8 harg8 arg9 harg9 arg10 harg10 X3 X4 n, ∀ x, p.2 x = WB i (arg3.view.read (Elt F) X3) (arg4.view.read (Elt F) X4) (p.1.emb x)
  | 0, _, p, hp => by rw [pb_k0_t4.eq_1] at hp; exact absurd hp List.not_mem_nil
  | n + 1, hn, p, hp => by
    rw [pb_k0_t4_succ (k := ⟨n, hn⟩)] at hp
    rcases List.mem_append.mp hp with h | h
    · exact trip4_piece c i arg2 harg2 arg3 harg3 arg4 harg4 arg5 harg5 arg6 harg6 arg7 harg7 arg8 harg8 arg9 harg9 arg10 harg10 X3 X4 ⟨n, hn⟩ p h
    · exact pb4_piece c i arg2 harg2 arg3 harg3 arg4 harg4 arg5 harg5 arg6 harg6 arg7 harg7 arg8 harg8 arg9 harg9 arg10 harg10 X3 X4 n (Nat.le_of_succ_le hn) p h

/-- Loop 4 writes every cell of its 128 columns. -/
theorem pb4_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (y : S7168x512.Idx) (h1 : (y 1).val / 128 = 3) :
    ∀ n, n ≤ k0_t4_loop.trips → (y 0).val / 128 < n → ∃ p ∈ pb_k0_t4 (F := F) Variants.none c none i arg2 harg2 arg3 harg3 arg4 harg4 arg5 harg5 arg6 harg6 arg7 harg7 arg8 harg8 arg9 harg9 arg10 harg10 X3 X4 n, y ∈ p.1.set
  | 0, _, h => absurd h (Nat.not_lt_zero _)
  | n + 1, hn, h => by
    rw [pb_k0_t4_succ (k := ⟨n, hn⟩)]
    by_cases h0 : (y 0).val / 128 = n
    · obtain ⟨p, hp, hy⟩ := trip4_cover c i arg2 harg2 arg3 harg3 arg4 harg4 arg5 harg5 arg6 harg6 arg7 harg7 arg8 harg8 arg9 harg9 arg10 harg10 X3 X4 ⟨n, hn⟩ y h0 h1
      exact ⟨p, List.mem_append_left _ hp, hy⟩
    · obtain ⟨p, hp, hy⟩ := pb4_cover c i arg2 harg2 arg3 harg3 arg4 harg4 arg5 harg5 arg6 harg6 arg7 harg7 arg8 harg8 arg9 harg9 arg10 harg10 X3 X4 y h1 n (Nat.le_of_succ_le hn) (by omega)
      exact ⟨p, List.mem_append_right _ hp, hy⟩

/-- After the four loops the weight scratch holds the widened weights, whatever it held before. -/
theorem read_loops (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (f : BufTy.Contents (Elt F) arg7.view.ty) :
    arg7.view.read (Elt F) (arg7.view.writes (Elt F) f
      (pb_k0_t4 Variants.none c none i arg2 harg2 arg3 harg3 arg4 harg4 arg5 harg5 arg6 harg6 arg7 harg7 arg8 harg8 arg9 harg9 arg10 harg10 X3 X4 (Scf.trips k0_t4_loop.lb k0_t4_loop.ub k0_t4_loop.st) ++
        (pb_k0_t3 Variants.none c none i arg2 harg2 arg3 harg3 arg4 harg4 arg5 harg5 arg6 harg6 arg7 harg7 arg8 harg8 arg9 harg9 arg10 harg10 X3 X4 (Scf.trips k0_t3_loop.lb k0_t3_loop.ub k0_t3_loop.st) ++
          (pb_k0_t2 Variants.none c none i arg2 harg2 arg3 harg3 arg4 harg4 arg5 harg5 arg6 harg6 arg7 harg7 arg8 harg8 arg9 harg9 arg10 harg10 X3 X4 (Scf.trips k0_t2_loop.lb k0_t2_loop.ub k0_t2_loop.st) ++
            pb_k0_t1 Variants.none c none i arg2 harg2 arg3 harg3 arg4 harg4 arg5 harg5 arg6 harg6 arg7 harg7 arg8 harg8 arg9 harg9 arg10 harg10 X3 X4 (Scf.trips k0_t1_loop.lb k0_t1_loop.ub k0_t1_loop.st)))))
      = WB i (arg3.view.read (Elt F) X3) (arg4.view.read (Elt F) X4) := by
  funext y
  have y0 : (y 0).val < 7168 := (y 0).isLt
  have y1 : (y 1).val < 512 := (y 1).isLt
  refine View.read_writes_apply_of_pieces arg7.view f (WB i (arg3.view.read (Elt F) X3) (arg4.view.read (Elt F) X4)) _ ?_ y ?_
  · intro p hp
    rcases List.mem_append.mp hp with h | hp
    · exact pb4_piece c i arg2 harg2 arg3 harg3 arg4 harg4 arg5 harg5 arg6 harg6 arg7 harg7 arg8 harg8 arg9 harg9 arg10 harg10 X3 X4 _ le_rfl p h
    rcases List.mem_append.mp hp with h | hp
    · exact pb3_piece c i arg2 harg2 arg3 harg3 arg4 harg4 arg5 harg5 arg6 harg6 arg7 harg7 arg8 harg8 arg9 harg9 arg10 harg10 X3 X4 _ le_rfl p h
    rcases List.mem_append.mp hp with h | hp
    · exact pb2_piece c i arg2 harg2 arg3 harg3 arg4 harg4 arg5 harg5 arg6 harg6 arg7 harg7 arg8 harg8 arg9 harg9 arg10 harg10 X3 X4 _ le_rfl p h
    · exact pb1_piece c i arg2 harg2 arg3 harg3 arg4 harg4 arg5 harg5 arg6 harg6 arg7 harg7 arg8 harg8 arg9 harg9 arg10 harg10 X3 X4 _ le_rfl p hp
  · have hq : (y 1).val / 128 = 0 ∨ (y 1).val / 128 = 1 ∨ (y 1).val / 128 = 2 ∨ (y 1).val / 128 = 3 := by omega
    rcases hq with h | h | h | h
    · obtain ⟨p, hp, hy⟩ := pb1_cover c i arg2 harg2 arg3 harg3 arg4 harg4 arg5 harg5 arg6 harg6 arg7 harg7 arg8 harg8 arg9 harg9 arg10 harg10 X3 X4 y h k0_t1_loop.trips le_rfl (by rw [trips1_eq]; omega)
      exact ⟨p, List.mem_append_right _ (List.mem_append_right _ (List.mem_append_right _ hp)), hy⟩
    · obtain ⟨p, hp, hy⟩ := pb2_cover c i arg2 harg2 arg3 harg3 arg4 harg4 arg5 harg5 arg6 harg6 arg7 harg7 arg8 harg8 arg9 harg9 arg10 harg10 X3 X4 y h k0_t2_loop.trips le_rfl (by rw [trips2_eq]; omega)
      exact ⟨p, List.mem_append_right _ (List.mem_append_right _ (List.mem_append_left _ hp)), hy⟩
    · obtain ⟨p, hp, hy⟩ := pb3_cover c i arg2 harg2 arg3 harg3 arg4 harg4 arg5 harg5 arg6 harg6 arg7 harg7 arg8 harg8 arg9 harg9 arg10 harg10 X3 X4 y h k0_t3_loop.trips le_rfl (by rw [trips3_eq]; omega)
      exact ⟨p, List.mem_append_right _ (List.mem_append_left _ hp), hy⟩
    · obtain ⟨p, hp, hy⟩ := pb4_cover c i arg2 harg2 arg3 harg3 arg4 harg4 arg5 harg5 arg6 harg6 arg7 harg7 arg8 harg8 arg9 harg9 arg10 harg10 X3 X4 y h k0_t4_loop.trips le_rfl (by rw [trips4_eq]; omega)
      exact ⟨p, List.mem_append_left _ hp, hy⟩

end Cert.Head.Hand
-- ==== Proof.BitsBody.lean ====
module

public import proofs.«01_k».proof.Proof.Gen.Head.Frame
public import proofs.«01_k».proof.Proof.Gen.Head.Skeleton
public import proofs.«01_k».proof.Proof.Gen.Head.Loops
public import proofs.«01_k».proof.Proof.BitsLoops
public import Idealize.ShloMosaic.Lib.VecWindow
public import Idealize.ShloMosaic.Lib.WholeRead
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Head.Hand

open Cert.Head Cert.Head.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The point starts a row block: column block 0. -/
abbrev cond0_0 (i : grid0.Coords) : Prop := (Scalar.cmpi .ne (Scalar.extui (Scalar.cmpi .eq (BitVec.ofNat 32 (i 1).val) 0#32)) 0#32) = 1#1
/-- The point ends a row block: column block 63. -/
abbrev cond0_1 (i : grid0.Coords) : Prop := k0_cond2 i = 1#1

/-- The running maxima after a point. -/
def Mst (i : grid0.Coords) (x0 : Vec F S1024x7168 .bf16) (x1 : Vec F S7168x512 .fp8e4m3) (x2 : Vec F S56x256 .f32) (m : Vec F S1024x128 .f32) : Vec F S1024x128 .f32 :=
  k0_pay16 x0 (WB i x1 x2) m

/-- The running sums after a point. -/
def Lst (i : grid0.Coords) (x0 : Vec F S1024x7168 .bf16) (x1 : Vec F S7168x512 .fp8e4m3) (x2 : Vec F S56x256 .f32) (m l : Vec F S1024x128 .f32) : Vec F S1024x128 .f32 :=
  k0_pay18 (k0_pay11 x0 (WB i x1 x2)) (k0_pay12 x0 (WB i x1 x2)) (k0_pay13 x0 (WB i x1 x2)) (k0_pay14 x0 (WB i x1 x2)) m (k0_pay15 x0 (WB i x1 x2) m) l

/-- The target logits found so far, after a point. -/
def Tst (i : grid0.Coords) (x0 : Vec F S1024x7168 .bf16) (x1 : Vec F S7168x512 .fp8e4m3) (x2 : Vec F S56x256 .f32) (x3 : Vec F S1024x1 .i32) (t : Vec F S1024x128 .f32) : Vec F S1024x128 .f32 :=
  k0_pay1 (k0_pay17 (BitVec.ofNat 32 (i 1).val) (k0_pay11 x0 (WB i x1 x2)) (k0_pay12 x0 (WB i x1 x2)) (k0_pay13 x0 (WB i x1 x2)) (k0_pay14 x0 (WB i x1 x2)) t x3)

set_option maxHeartbeats 4000000 in
/-- The body's run in case A. -/
theorem runA (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (hc0 : cond0_0 i) (hc1 : ¬cond0_1 i)
    (x0 : Vec F S1024x7168 .bf16) (x1 : Vec F S7168x512 .fp8e4m3) (x2 : Vec F S56x256 .f32) (x3 : Vec F S1024x1 .i32) (x4 : Vec F S1024x1 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ (∃ d, owns (c : Thread nD τ) arg7 fullShare d)
                ∗ owns (c : Thread nD τ) arg8 fullShare (Mst i x0 x1 x2 k0_pay7) ∗ owns (c : Thread nD τ) arg9 fullShare (Lst i x0 x1 x2 k0_pay7 k0_pay8) ∗ owns (c : Thread nD τ) arg10 fullShare (Tst i x0 x1 x2 x3 k0_pay9)) -∗ K ⟨⟩))
          ⊢ wp frame (wpE (defs₀ (F := F)) Variants.none c none) E (cc0_head i arg2 harg2 arg3 harg3 arg4 harg4 arg5 harg5 arg6 harg6 arg7 harg7 arg8 harg8 arg9 harg9 arg10 harg10) K := by
  simp only [cc0_head_eq_skeleton]; unfold cc0_head_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H4]; · iexists _; isplitr; (ipureintro; exact hf4); iexact H4
  isplitl [H7]
  · iexists (WB i x1 x2); iexists _; isplitr; rotate_left
    · iexact H7
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    exact hl
  isplitl [H8]
  · iexists _; isplitr; rotate_left; iexact H8
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runA.sl.H10_1); (try delta runA.sl.H9_1); (try delta runA.sl.H8_1); (try delta runA.sl.r_6); (try delta runA.sl.r_5); (try delta runA.sl.r_4); (try delta runA.sl.r_3); (try delta runA.sl.r_2); (try delta runA.sl.r_1); (try delta runA.sl.r); (try delta runA.sl.v15); (try delta runA.sl.v23); (try delta runA.sl.v27); (try delta runA.sl.H10_1); (try delta runA.sl.H9_1); (try delta runA.sl.H8_1); (try delta runA.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view])
    exact View.read_writes_full _ _ _ _ _
  isplitl [H9]
  · iexists _; isplitr; rotate_left; iexact H9
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runA.sl.H10_1); (try delta runA.sl.H9_1); (try delta runA.sl.H8_1); (try delta runA.sl.r_6); (try delta runA.sl.r_5); (try delta runA.sl.r_4); (try delta runA.sl.r_3); (try delta runA.sl.r_2); (try delta runA.sl.r_1); (try delta runA.sl.r); (try delta runA.sl.v15); (try delta runA.sl.v23); (try delta runA.sl.v27); (try delta runA.sl.H10_1); (try delta runA.sl.H9_1); (try delta runA.sl.H8_1); (try delta runA.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view])
    exact View.read_writes_full _ _ _ _ _
  iexists _; isplitr; rotate_left; iexact H10
  ipureintro
  have hl := read_loops c i arg2 harg2 arg3 harg3 arg4 harg4 arg5 harg5 arg6 harg6 arg7 harg7 arg8 harg8 arg9 harg9 arg10 harg10 (harg3.unread x1) (harg4.unread x2) f7
  rw [hf1, hf2] at hl
  skip
  change _ = _
  (try delta runA.sl.H10_1); (try delta runA.sl.H9_1); (try delta runA.sl.H8_1); (try delta runA.sl.r_6); (try delta runA.sl.r_5); (try delta runA.sl.r_4); (try delta runA.sl.r_3); (try delta runA.sl.r_2); (try delta runA.sl.r_1); (try delta runA.sl.r); (try delta runA.sl.v15); (try delta runA.sl.v23); (try delta runA.sl.v27); (try delta runA.sl.H10_1); (try delta runA.sl.H9_1); (try delta runA.sl.H8_1); (try delta runA.sl.v9)
  (try rw [View.readAt_full arg2.view, hf0]); (try rw [View.readAt_full arg7.view, hl]); (try rw [View.readAt_full arg5.view, hf3])
  (try rw [View.readCov_full arg8.view]); (try rw [View.readCov_full arg9.view]); (try rw [View.readCov_full arg10.view])
  exact View.read_writes_full _ _ _ _ _

set_option maxHeartbeats 4000000 in
/-- The body's run in case B. -/
theorem runB (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (hc0 : ¬cond0_0 i) (hc1 : ¬cond0_1 i)
    (x0 : Vec F S1024x7168 .bf16) (x1 : Vec F S7168x512 .fp8e4m3) (x2 : Vec F S56x256 .f32) (x3 : Vec F S1024x1 .i32) (x4 : Vec F S1024x1 .f32) (xm xl xt : Vec F S1024x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ (∃ d, owns (c : Thread nD τ) arg7 fullShare d)
            ∗ owns (c : Thread nD τ) arg8 fullShare xm ∗ owns (c : Thread nD τ) arg9 fullShare xl ∗ owns (c : Thread nD τ) arg10 fullShare xt
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ (∃ d, owns (c : Thread nD τ) arg7 fullShare d)
                ∗ owns (c : Thread nD τ) arg8 fullShare (Mst i x0 x1 x2 xm) ∗ owns (c : Thread nD τ) arg9 fullShare (Lst i x0 x1 x2 xm xl) ∗ owns (c : Thread nD τ) arg10 fullShare (Tst i x0 x1 x2 x3 xt)) -∗ K ⟨⟩))
          ⊢ wp frame (wpE (defs₀ (F := F)) Variants.none c none) E (cc0_head i arg2 harg2 arg3 harg3 arg4 harg4 arg5 harg5 arg6 harg6 arg7 harg7 arg8 harg8 arg9 harg9 arg10 harg10) K := by
  simp only [cc0_head_eq_skeleton]; unfold cc0_head_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg8.eq_unread hf8; obtain rfl := harg9.eq_unread hf9; obtain rfl := harg10.eq_unread hf10; obtain rfl := harg6.eq_unread hf4
  sl_exec (disch := first | sl_exact hc0 | sl_exact hc1)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H4]; · iexists _; isplitr; (ipureintro; exact hf4); iexact H4
  isplitl [H7]
  · iexists (WB i x1 x2); iexists _; isplitr; rotate_left
    · iexact H7
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    exact hl
  isplitl [H8]
  · iexists _; isplitr; rotate_left; iexact H8
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runB.sl.H10_1); (try delta runB.sl.H9_1); (try delta runB.sl.H8_1); (try delta runB.sl.r_6); (try delta runB.sl.r_5); (try delta runB.sl.r_4); (try delta runB.sl.r_3); (try delta runB.sl.r_2); (try delta runB.sl.r_1); (try delta runB.sl.r); (try delta runB.sl.H10_1); (try delta runB.sl.H9_1); (try delta runB.sl.H8_1); (try delta runB.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  isplitl [H9]
  · iexists _; isplitr; rotate_left; iexact H9
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runB.sl.H10_1); (try delta runB.sl.H9_1); (try delta runB.sl.H8_1); (try delta runB.sl.r_6); (try delta runB.sl.r_5); (try delta runB.sl.r_4); (try delta runB.sl.r_3); (try delta runB.sl.r_2); (try delta runB.sl.r_1); (try delta runB.sl.r); (try delta runB.sl.H10_1); (try delta runB.sl.H9_1); (try delta runB.sl.H8_1); (try delta runB.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  iexists _; isplitr; rotate_left; iexact H10
  ipureintro
  have hl := read_loops c i arg2 harg2 arg3 harg3 arg4 harg4 arg5 harg5 arg6 harg6 arg7 harg7 arg8 harg8 arg9 harg9 arg10 harg10 (harg3.unread x1) (harg4.unread x2) f7
  rw [hf1, hf2] at hl
  skip
  change _ = _
  (try delta runB.sl.H10_1); (try delta runB.sl.H9_1); (try delta runB.sl.H8_1); (try delta runB.sl.r_6); (try delta runB.sl.r_5); (try delta runB.sl.r_4); (try delta runB.sl.r_3); (try delta runB.sl.r_2); (try delta runB.sl.r_1); (try delta runB.sl.r); (try delta runB.sl.H10_1); (try delta runB.sl.H9_1); (try delta runB.sl.H8_1); (try delta runB.sl.v9)
  (try rw [View.readAt_full arg2.view, hf0]); (try rw [View.readAt_full arg7.view, hl]); (try rw [View.readAt_full arg5.view, hf3])
  (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
  exact View.read_writes_full _ _ _ _ _

set_option maxHeartbeats 4000000 in
/-- The body's run in case C. -/
theorem runC (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (hc0 : ¬cond0_0 i) (hc1 : cond0_1 i)
    (x0 : Vec F S1024x7168 .bf16) (x1 : Vec F S7168x512 .fp8e4m3) (x2 : Vec F S56x256 .f32) (x3 : Vec F S1024x1 .i32)  (xm xl xt : Vec F S1024x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xm ∗ owns (c : Thread nD τ) arg9 fullShare xl ∗ owns (c : Thread nD τ) arg10 fullShare xt
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay2 (Mst i x0 x1 x2 xm) (Lst i x0 x1 x2 xm xl) (Tst i x0 x1 x2 x3 xt)) ∗ (∃ d, owns (c : Thread nD τ) arg7 fullShare d)
                ∗ owns (c : Thread nD τ) arg8 fullShare (Mst i x0 x1 x2 xm) ∗ owns (c : Thread nD τ) arg9 fullShare (Lst i x0 x1 x2 xm xl) ∗ owns (c : Thread nD τ) arg10 fullShare (Tst i x0 x1 x2 x3 xt)) -∗ K ⟨⟩))
          ⊢ wp frame (wpE (defs₀ (F := F)) Variants.none c none) E (cc0_head i arg2 harg2 arg3 harg3 arg4 harg4 arg5 harg5 arg6 harg6 arg7 harg7 arg8 harg8 arg9 harg9 arg10 harg10) K := by
  simp only [cc0_head_eq_skeleton]; unfold cc0_head_skel
  unfold owns
  iintro ⟨⟨%f0, %hf0, H0⟩, ⟨%f1, %hf1, H1⟩, ⟨%f2, %hf2, H2⟩, ⟨%f3, %hf3, H3⟩, ⟨%d4, %f4, -, H4⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg8.eq_unread hf8; obtain rfl := harg9.eq_unread hf9; obtain rfl := harg10.eq_unread hf10
  sl_exec (disch := first | sl_exact hc0 | sl_exact hc1)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H4]
  · iexists _; isplitr; rotate_left; iexact H4
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runC.sl.v85); (try delta runC.sl.v78); (try delta runC.sl.v75); (try delta runC.sl.H10_1); (try delta runC.sl.H9_1); (try delta runC.sl.H8_1); (try delta runC.sl.r_6); (try delta runC.sl.r_5); (try delta runC.sl.r_4); (try delta runC.sl.r_3); (try delta runC.sl.r_2); (try delta runC.sl.r_1); (try delta runC.sl.r); (try delta runC.sl.H10_1); (try delta runC.sl.H9_1); (try delta runC.sl.H8_1); (try delta runC.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  isplitl [H7]
  · iexists (WB i x1 x2); iexists _; isplitr; rotate_left
    · iexact H7
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    exact hl
  isplitl [H8]
  · iexists _; isplitr; rotate_left; iexact H8
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runC.sl.v85); (try delta runC.sl.v78); (try delta runC.sl.v75); (try delta runC.sl.H10_1); (try delta runC.sl.H9_1); (try delta runC.sl.H8_1); (try delta runC.sl.r_6); (try delta runC.sl.r_5); (try delta runC.sl.r_4); (try delta runC.sl.r_3); (try delta runC.sl.r_2); (try delta runC.sl.r_1); (try delta runC.sl.r); (try delta runC.sl.H10_1); (try delta runC.sl.H9_1); (try delta runC.sl.H8_1); (try delta runC.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  isplitl [H9]
  · iexists _; isplitr; rotate_left; iexact H9
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runC.sl.v85); (try delta runC.sl.v78); (try delta runC.sl.v75); (try delta runC.sl.H10_1); (try delta runC.sl.H9_1); (try delta runC.sl.H8_1); (try delta runC.sl.r_6); (try delta runC.sl.r_5); (try delta runC.sl.r_4); (try delta runC.sl.r_3); (try delta runC.sl.r_2); (try delta runC.sl.r_1); (try delta runC.sl.r); (try delta runC.sl.H10_1); (try delta runC.sl.H9_1); (try delta runC.sl.H8_1); (try delta runC.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  iexists _; isplitr; rotate_left; iexact H10
  ipureintro
  have hl := read_loops c i arg2 harg2 arg3 harg3 arg4 harg4 arg5 harg5 arg6 harg6 arg7 harg7 arg8 harg8 arg9 harg9 arg10 harg10 (harg3.unread x1) (harg4.unread x2) f7
  rw [hf1, hf2] at hl
  skip
  change _ = _
  (try delta runC.sl.v85); (try delta runC.sl.v78); (try delta runC.sl.v75); (try delta runC.sl.H10_1); (try delta runC.sl.H9_1); (try delta runC.sl.H8_1); (try delta runC.sl.r_6); (try delta runC.sl.r_5); (try delta runC.sl.r_4); (try delta runC.sl.r_3); (try delta runC.sl.r_2); (try delta runC.sl.r_1); (try delta runC.sl.r); (try delta runC.sl.H10_1); (try delta runC.sl.H9_1); (try delta runC.sl.H8_1); (try delta runC.sl.v9)
  (try rw [View.readAt_full arg2.view, hf0]); (try rw [View.readAt_full arg7.view, hl]); (try rw [View.readAt_full arg5.view, hf3])
  (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
  exact View.read_writes_full _ _ _ _ _

end Cert.Head.Hand
-- ==== Proof.BitsFrame.lean ====
module

public import proofs.«01_k».proof.Proof.Gen.Head.Frame
public import proofs.«01_k».proof.Proof.Gen.Head.Skeleton
public import proofs.«01_k».proof.Proof.Gen.Head.Loops
public import proofs.«01_k».proof.Proof.BitsBody
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Head.Hand

open Cert.Head Cert.Head.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

variable (m : (ℓ : Loc nD τ sig) → Buf (Elt F) ℓ) (ρ : Dev nD → PrngReg)

/-- The points that start a row block. -/
theorem hcond0_0 : ∀ t : Fin cfg0.N, cond0_0 (grid0.coords t) ↔ t.val % 64 = 0 :=
  (fun t => by
    have ht : t.val < 512 := Nat.lt_of_lt_of_eq t.isLt N_0
    have e1 : (grid0.coords t 1).val = t.val / 1 % 64 := Pipeline.Grid.coords_val t 1 (by decide) rfl
    simp only [cond0_0, e1]
    word_cmp
   : ∀ t : Fin grid0.N, cond0_0 (grid0.coords t) ↔ t.val % 64 = 0)

/-- The points that end a row block. -/
theorem hcond0_1 : ∀ t : Fin cfg0.N, cond0_1 (grid0.coords t) ↔ t.val % 64 = 63 :=
  (fun t => by
    have ht : t.val < 512 := Nat.lt_of_lt_of_eq t.isLt N_0
    have e1 : (grid0.coords t 1).val = t.val / 1 % 64 := Pipeline.Grid.coords_val t 1 (by decide) rfl
    simp only [cond0_1, k0_cond2, e1]
    word_cmp
   : ∀ t : Fin grid0.N, cond0_1 (grid0.coords t) ↔ t.val % 64 = 63)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- The result's window is idle except at the end of a row block. -/
theorem idleAt0_4 : ∀ t : Fin cfg0.N, t.val % 64 ≠ 63 → cfg0.idle 4 (grid0.coords t) = true := by decide +kernel
theorem noFlush0_4 : ∀ t : Fin cfg0.N, t.val % 64 ≠ 63 → (cfg0.win 4).flush t = false := by decide +kernel
theorem liveAt0_4 : ∀ t : Fin cfg0.N, t.val % 64 = 63 → cfg0.idle 4 (grid0.coords t) = false := by decide +kernel

abbrev ms0_0 (t : Fin cfg0.N) : Memref sig .tc .vmem S1024x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S56x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev scM0_0 : Memref sig .tc .vmem S7168x512 .bf16 := Memref.whole cc0_scratch0
abbrev scM0_1 : Memref sig .tc .vmem S1024x128 .f32 := Memref.whole cc0_scratch1
abbrev scM0_2 : Memref sig .tc .vmem S1024x128 .f32 := Memref.whole cc0_scratch2
abbrev scM0_3 : Memref sig .tc .vmem S1024x128 .f32 := Memref.whole cc0_scratch3

/-- The kit's invariant, each scratch owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The running maxima, sums and target logits. -/
structure St (F : FTy → Type) where
  /-- the running maxima -/
  m : Vec F S1024x128 .f32
  /-- the running sums -/
  l : Vec F S1024x128 .f32
  /-- the target logits found -/
  t : Vec F S1024x128 .f32

/-- What a row block starts from. -/
def initS : St F := ⟨k0_pay7, k0_pay8, k0_pay9⟩

/-- One point's update. -/
def stepS (c : Dev nD) (t : Fin cfg0.N) (s : St F) : St F :=
  ⟨Mst (grid0.coords t) (iblk m c 0 t) (iblk m c 1 t) (iblk m c 2 t) s.m, Lst (grid0.coords t) (iblk m c 0 t) (iblk m c 1 t) (iblk m c 2 t) s.m s.l,
    Tst (grid0.coords t) (iblk m c 0 t) (iblk m c 1 t) (iblk m c 2 t) (iblk m c 3 t) s.t⟩

/-- The carried scratch after each point: a row block starts afresh. -/
def stAt (c : Dev nD) : (n : ℕ) → n < cfg0.N → St F
  | 0, hn => stepS m c ⟨0, hn⟩ initS
  | n + 1, hn => stepS m c ⟨n + 1, hn⟩ (if (n + 1) % 64 = 0 then initS else stAt c n (Nat.lt_of_succ_lt hn))

theorem stAt_first (c : Dev nD) (t : Fin cfg0.N) (h0 : t.val % 64 = 0) : stAt m c t.val t.isLt = stepS m c t initS := by
  obtain ⟨n, hn⟩ := t
  cases n with
  | zero => rfl
  | succ n => exact congrArg (stepS m c ⟨n + 1, hn⟩) (if_pos h0)

theorem stAt_next (c : Dev nD) (t : Fin cfg0.N) (h0 : ¬t.val % 64 = 0) :
    stAt m c t.val t.isLt = stepS m c t (stAt m c (t.val - 1) (Nat.lt_of_le_of_lt (Nat.sub_le _ _) t.isLt)) := by
  obtain ⟨n, hn⟩ := t
  cases n with
  | zero => exact absurd (Nat.zero_mod _) h0
  | succ n => exact congrArg (stepS m c ⟨n + 1, hn⟩) (if_neg h0)

/-- What is carried between points: the weights' scratch at anything, the three others at the running values. -/
def SInv (c : Dev nD) (s : St F) : sProp 𝕄 :=
  iprop(iprop((∃ d, owns (c : Thread nD τ) scM0_0 fullShare d) ∗ owns (c : Thread nD τ) scM0_1 fullShare s.m ∗ owns (c : Thread nD τ) scM0_2 fullShare s.l ∗ owns (c : Thread nD τ) scM0_3 fullShare s.t) ∗ (∃ r, prngReg c r))

/-- The invariant before position `n`. -/
def PhiS (c : Dev nD) : (n : ℕ) → n ≤ cfg0.N → sProp 𝕄
  | 0, _ => Pipeline.ΦA spec0 c
  | n + 1, hn => SInv c (stAt m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = SInv c (stAt m c n hn) := rfl

theorem PhiS_pos (c : Dev nD) (n : ℕ) (h : n ≤ cfg0.N) (hz : n ≠ 0) : PhiS m c n h = SInv c (stAt m c (n - 1) (by omega)) := by
  cases n with
  | zero => exact absurd rfl hz
  | succ n => rfl

/-- What a row block's last point leaves in the result's buffer. -/
def outAt (c : Dev nD) (t : Fin cfg0.N) : Vec F S1024x1 .f32 :=
  k0_pay2 (stAt m c t.val t.isLt).m (stAt m c t.val t.isLt).l (stAt m c t.val t.isLt).t

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 64 = 0
  · have h1 : ¬t.val % 64 = 63 := by omega
    rw [Dat.leavesExact_idle (dats m 0 c) 4 t (idleAt0_4 t h1) (noFlush0_4 t h1)]
    by_cases hz : t.val = 0
    · rw [PhiS_castSucc m c t, PhiS_zero m c _ _ hz, PhiA0_eq]
      rw [stAt_first m c t h0]
      unfold SInv stepS; dsimp only
      iintro ⟨⟨⟨HS0, HS1, HS2, HS3⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      rw [stAt_first m c t h0]
      unfold SInv stepS; dsimp only
      iintro ⟨⟨⟨HS0, HS1, HS2, HS3⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexists _; iexact HS1
      isplitl [HS2]; · iexists _; iexact HS2
      isplitl [HS3]; · iexists _; iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro h; exact h0 (by rw [h])
    by_cases h1 : t.val % 64 = 63
    · rw [show (dats m 0 c).leavesExact 4 t = owns (c : Thread nD τ) (ms0_4 t) fullShare ((dats m 0 c).after 4 t) from by
        unfold Dat.leavesExact; rw [liveAt0_4 t h1], after0_4]
      rw [PhiS_castSucc m c t, PhiS_pos m c _ _ hz]
      rw [stAt_next m c t h0]
      rw [show outAt m c t = _ from rfl, outAt, stAt_next m c t h0]
      unfold SInv stepS; dsimp only
      iintro ⟨⟨⟨HS0, HS1, HS2, HS3⟩, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idleAt0_4 t h1) (noFlush0_4 t h1)]
      rw [PhiS_castSucc m c t, PhiS_pos m c _ _ hz]
      rw [stAt_next m c t h0]
      unfold SInv stepS; dsimp only
      iintro ⟨⟨⟨HS0, HS1, HS2, HS3⟩, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 512 := N_0; omega
  rw [show (dats m 0 c).Φ (Fin.last cfg0.N) = PhiS m c (Fin.last cfg0.N).val (Nat.le_of_lt_succ (Fin.last cfg0.N).isLt) from rfl, PhiS_pos m c _ _ ht, PhiA0_eq]
  unfold SInv
  iintro ⟨⟨HS0, HS1, HS2, HS3⟩, Hg⟩
  isplitl [HS0 HS1 HS2 HS3]
  · isplitl [HS0]; · iexact HS0
    isplitl [HS1]; · iexists _; iexact HS1
    isplitl [HS2]; · iexists _; iexact HS2
    iexists _; iexact HS3
  iexact Hg

set_option backward.isDefEq.respectTransparency.types false in
/-- The launch: what the pipeline computes, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Head.Hand
-- ==== Proof.HeadLoops.lean ====
module

public import proofs.«01_k».proof.Proof.Gen.HeadIdeal.Frame
public import proofs.«01_k».proof.Proof.Gen.HeadIdeal.Skeleton
public import proofs.«01_k».proof.Proof.Gen.HeadIdeal.Loops
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The cell of the scale table that scales weight `y` of column block `i 1`: row `y 0 / 128`, column `4 * i 1 + y 1 / 128`. -/
def SBix (i : grid0.Coords) (y : S7168x512.Idx) : S56x256.Idx := fun a => match a with
    | ⟨0, _⟩ => ⟨(y 0).val / 128, by have := (y 0).isLt; simp only [S7168x512, S56x256] at *; dsimp at *; omega⟩
    | ⟨1, _⟩ => ⟨4 * (i 1).val + (y 1).val / 128, by have := (y 1).isLt; have := (i 1).isLt; simp only [S7168x512, S56x256, grid0] at *; dsimp at *; omega⟩

/-- The scale of each weight of column block `i 1`. -/
def SB (i : grid0.Coords) (x2 : Vec F S56x256 .f32) : FVec F S7168x512 .f32 := fun y => x2 (SBix i y)

/-- The widened weights of column block `i 1`: each code times its scale rounded to bfloat16. -/
def WB (i : grid0.Coords) (x1 : Vec F S7168x512 .fp8e4m3) (x2 : Vec F S56x256 .f32) : FVec F S7168x512 .bf16 :=
  mulf (extf .bf16 x1 bitsLt_fp8e4m3_bf16) (truncf .bf16 (SB i x2) bitsLt_bf16_f32)

theorem trips1_eq : k0_t1_loop.trips = 56 := by decide +kernel

/-- Every write of loop 1's trip `k` stores the widened weights of the cells it covers. -/
theorem trip1_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t1_loop.trips) :
    ∀ p ∈ tripL_k0_t1 (F := F) Variants.none c none i arg2 harg2 arg3 harg3 arg4 harg4 arg5 harg5 arg6 harg6 arg7 harg7 arg8 harg8 arg9 harg9 arg10 harg10 X3 X4 k, ∀ x, p.2 x = WB i (arg3.view.read (Elt F) X3) (arg4.view.read (Elt F) X4) (p.1.emb x) := by
  unfold tripL_k0_t1 trip_k0_t1
  dsimp only
  intro p hp
  obtain rfl := List.mem_singleton.mp hp
  intro x
  dsimp only at x ⊢
  have hs : trip_k0_t1.sl.r i arg4 X4 k = arg4.view.read (Elt F) X4 (SBix i ((Rect.unit (k0_off2 k) ![128, 128] (k0_off2_inb k)).emb x)) := by
    unfold trip_k0_t1.sl.r
    refine congrArg (arg4.view.read (Elt F) X4) (funext fun a => Fin.ext ?_)
    have e1 := k0_off1_eq i k
    have e2 := k0_off2_eq k
    have hx0 : (x 0).val < 128 := (x 0).isLt
    have hx1 : (x 1).val < 128 := (x 1).isLt
    match a with
    | ⟨0, _⟩ =>
      have e10 : (k0_off1 i k) 0 = k.val := congrFun e1 0
      have e20 : (k0_off2 k) 0 = 128 * k.val := congrFun e2 0
      show (k0_off1 i k) 0 + 1 * 0 = ((k0_off2 k) 0 + 1 * (x 0).val) / 128
      omega
    | ⟨1, _⟩ =>
      have e11 : (k0_off1 i k) 1 = 4 * (i 1).val + 0 := congrFun e1 1
      have e21 : (k0_off2 k) 1 = 0 := congrFun e2 1
      show (k0_off1 i k) 1 + 1 * 0 = 4 * (i 1).val + ((k0_off2 k) 1 + 1 * (x 1).val) / 128
      omega
  unfold k0_pay3 WB SB
  simp only [shapeCast_self]
  rw [hs]
  rfl

/-- The cells that loop 1's trip `k` writes. -/
theorem trip1_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t1_loop.trips) (y : S7168x512.Idx)
    (h0 : (y 0).val / 128 = k.val) (h1 : (y 1).val / 128 = 0) :
    ∃ p ∈ tripL_k0_t1 (F := F) Variants.none c none i arg2 harg2 arg3 harg3 arg4 harg4 arg5 harg5 arg6 harg6 arg7 harg7 arg8 harg8 arg9 harg9 arg10 harg10 X3 X4 k, y ∈ p.1.set := by
  unfold tripL_k0_t1 trip_k0_t1
  dsimp only
  refine ⟨_, List.mem_singleton.mpr rfl, ?_⟩
  have e2 := k0_off2_eq k
  have e20 : (k0_off2 k) 0 = 128 * k.val := congrFun e2 0
  have e21 : (k0_off2 k) 1 = 0 := congrFun e2 1
  rw [Rect.mem_set_unit]
  intro a
  match a with
  | ⟨0, _⟩ =>
    show (k0_off2 k) 0 ≤ (y 0).val ∧ (y 0).val < (k0_off2 k) 0 + 128
    omega
  | ⟨1, _⟩ =>
    show (k0_off2 k) 1 ≤ (y 1).val ∧ (y 1).val < (k0_off2 k) 1 + 128
    omega

/-- Every write of loop 1 stores the widened weights of the cells it covers. -/
theorem pb1_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) :
    ∀ n, n ≤ k0_t1_loop.trips → ∀ p ∈ pb_k0_t1 (F := F) Variants.none c none i arg2 harg2 arg3 harg3 arg4 harg4 arg5 harg5 arg6 harg6 arg7 harg7 arg8 harg8 arg9 harg9 arg10 harg10 X3 X4 n, ∀ x, p.2 x = WB i (arg3.view.read (Elt F) X3) (arg4.view.read (Elt F) X4) (p.1.emb x)
  | 0, _, p, hp => by rw [pb_k0_t1.eq_1] at hp; exact absurd hp List.not_mem_nil
  | n + 1, hn, p, hp => by
    rw [pb_k0_t1_succ (k := ⟨n, hn⟩)] at hp
    rcases List.mem_append.mp hp with h | h
    · exact trip1_piece c i arg2 harg2 arg3 harg3 arg4 harg4 arg5 harg5 arg6 harg6 arg7 harg7 arg8 harg8 arg9 harg9 arg10 harg10 X3 X4 ⟨n, hn⟩ p h
    · exact pb1_piece c i arg2 harg2 arg3 harg3 arg4 harg4 arg5 harg5 arg6 harg6 arg7 harg7 arg8 harg8 arg9 harg9 arg10 harg10 X3 X4 n (Nat.le_of_succ_le hn) p h

/-- Loop 1 writes every cell of its 128 columns. -/
theorem pb1_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (y : S7168x512.Idx) (h1 : (y 1).val / 128 = 0) :
    ∀ n, n ≤ k0_t1_loop.trips → (y 0).val / 128 < n → ∃ p ∈ pb_k0_t1 (F := F) Variants.none c none i arg2 harg2 arg3 harg3 arg4 harg4 arg5 harg5 arg6 harg6 arg7 harg7 arg8 harg8 arg9 harg9 arg10 harg10 X3 X4 n, y ∈ p.1.set
  | 0, _, h => absurd h (Nat.not_lt_zero _)
  | n + 1, hn, h => by
    rw [pb_k0_t1_succ (k := ⟨n, hn⟩)]
    by_cases h0 : (y 0).val / 128 = n
    · obtain ⟨p, hp, hy⟩ := trip1_cover c i arg2 harg2 arg3 harg3 arg4 harg4 arg5 harg5 arg6 harg6 arg7 harg7 arg8 harg8 arg9 harg9 arg10 harg10 X3 X4 ⟨n, hn⟩ y h0 h1
      exact ⟨p, List.mem_append_left _ hp, hy⟩
    · obtain ⟨p, hp, hy⟩ := pb1_cover c i arg2 harg2 arg3 harg3 arg4 harg4 arg5 harg5 arg6 harg6 arg7 harg7 arg8 harg8 arg9 harg9 arg10 harg10 X3 X4 y h1 n (Nat.le_of_succ_le hn) (by omega)
      exact ⟨p, List.mem_append_right _ hp, hy⟩

theorem trips2_eq : k0_t2_loop.trips = 56 := by decide +kernel

/-- Every write of loop 2's trip `k` stores the widened weights of the cells it covers. -/
theorem trip2_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t2_loop.trips) :
    ∀ p ∈ tripL_k0_t2 (F := F) Variants.none c none i arg2 harg2 arg3 harg3 arg4 harg4 arg5 harg5 arg6 harg6 arg7 harg7 arg8 harg8 arg9 harg9 arg10 harg10 X3 X4 k, ∀ x, p.2 x = WB i (arg3.view.read (Elt F) X3) (arg4.view.read (Elt F) X4) (p.1.emb x) := by
  unfold tripL_k0_t2 trip_k0_t2
  dsimp only
  intro p hp
  obtain rfl := List.mem_singleton.mp hp
  intro x
  dsimp only at x ⊢
  have hs : trip_k0_t2.sl.r i arg4 X4 k = arg4.view.read (Elt F) X4 (SBix i ((Rect.unit (k0_off4 k) ![128, 128] (k0_off4_inb k)).emb x)) := by
    unfold trip_k0_t2.sl.r
    refine congrArg (arg4.view.read (Elt F) X4) (funext fun a => Fin.ext ?_)
    have e1 := k0_off3_eq i k
    have e2 := k0_off4_eq k
    have hx0 : (x 0).val < 128 := (x 0).isLt
    have hx1 : (x 1).val < 128 := (x 1).isLt
    match a with
    | ⟨0, _⟩ =>
      have e10 : (k0_off3 i k) 0 = k.val := congrFun e1 0
      have e20 : (k0_off4 k) 0 = 128 * k.val := congrFun e2 0
      show (k0_off3 i k) 0 + 1 * 0 = ((k0_off4 k) 0 + 1 * (x 0).val) / 128
      omega
    | ⟨1, _⟩ =>
      have e11 : (k0_off3 i k) 1 = 4 * (i 1).val + 1 := congrFun e1 1
      have e21 : (k0_off4 k) 1 = 128 := congrFun e2 1
      show (k0_off3 i k) 1 + 1 * 0 = 4 * (i 1).val + ((k0_off4 k) 1 + 1 * (x 1).val) / 128
      omega
  unfold k0_pay4 WB SB
  simp only [shapeCast_self]
  rw [hs]
  rfl

/-- The cells that loop 2's trip `k` writes. -/
theorem trip2_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t2_loop.trips) (y : S7168x512.Idx)
    (h0 : (y 0).val / 128 = k.val) (h1 : (y 1).val / 128 = 1) :
    ∃ p ∈ tripL_k0_t2 (F := F) Variants.none c none i arg2 harg2 arg3 harg3 arg4 harg4 arg5 harg5 arg6 harg6 arg7 harg7 arg8 harg8 arg9 harg9 arg10 harg10 X3 X4 k, y ∈ p.1.set := by
  unfold tripL_k0_t2 trip_k0_t2
  dsimp only
  refine ⟨_, List.mem_singleton.mpr rfl, ?_⟩
  have e2 := k0_off4_eq k
  have e20 : (k0_off4 k) 0 = 128 * k.val := congrFun e2 0
  have e21 : (k0_off4 k) 1 = 128 := congrFun e2 1
  rw [Rect.mem_set_unit]
  intro a
  match a with
  | ⟨0, _⟩ =>
    show (k0_off4 k) 0 ≤ (y 0).val ∧ (y 0).val < (k0_off4 k) 0 + 128
    omega
  | ⟨1, _⟩ =>
    show (k0_off4 k) 1 ≤ (y 1).val ∧ (y 1).val < (k0_off4 k) 1 + 128
    omega

/-- Every write of loop 2 stores the widened weights of the cells it covers. -/
theorem pb2_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) :
    ∀ n, n ≤ k0_t2_loop.trips → ∀ p ∈ pb_k0_t2 (F := F) Variants.none c none i arg2 harg2 arg3 harg3 arg4 harg4 arg5 harg5 arg6 harg6 arg7 harg7 arg8 harg8 arg9 harg9 arg10 harg10 X3 X4 n, ∀ x, p.2 x = WB i (arg3.view.read (Elt F) X3) (arg4.view.read (Elt F) X4) (p.1.emb x)
  | 0, _, p, hp => by rw [pb_k0_t2.eq_1] at hp; exact absurd hp List.not_mem_nil
  | n + 1, hn, p, hp => by
    rw [pb_k0_t2_succ (k := ⟨n, hn⟩)] at hp
    rcases List.mem_append.mp hp with h | h
    · exact trip2_piece c i arg2 harg2 arg3 harg3 arg4 harg4 arg5 harg5 arg6 harg6 arg7 harg7 arg8 harg8 arg9 harg9 arg10 harg10 X3 X4 ⟨n, hn⟩ p h
    · exact pb2_piece c i arg2 harg2 arg3 harg3 arg4 harg4 arg5 harg5 arg6 harg6 arg7 harg7 arg8 harg8 arg9 harg9 arg10 harg10 X3 X4 n (Nat.le_of_succ_le hn) p h

/-- Loop 2 writes every cell of its 128 columns. -/
theorem pb2_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (y : S7168x512.Idx) (h1 : (y 1).val / 128 = 1) :
    ∀ n, n ≤ k0_t2_loop.trips → (y 0).val / 128 < n → ∃ p ∈ pb_k0_t2 (F := F) Variants.none c none i arg2 harg2 arg3 harg3 arg4 harg4 arg5 harg5 arg6 harg6 arg7 harg7 arg8 harg8 arg9 harg9 arg10 harg10 X3 X4 n, y ∈ p.1.set
  | 0, _, h => absurd h (Nat.not_lt_zero _)
  | n + 1, hn, h => by
    rw [pb_k0_t2_succ (k := ⟨n, hn⟩)]
    by_cases h0 : (y 0).val / 128 = n
    · obtain ⟨p, hp, hy⟩ := trip2_cover c i arg2 harg2 arg3 harg3 arg4 harg4 arg5 harg5 arg6 harg6 arg7 harg7 arg8 harg8 arg9 harg9 arg10 harg10 X3 X4 ⟨n, hn⟩ y h0 h1
      exact ⟨p, List.mem_append_left _ hp, hy⟩
    · obtain ⟨p, hp, hy⟩ := pb2_cover c i arg2 harg2 arg3 harg3 arg4 harg4 arg5 harg5 arg6 harg6 arg7 harg7 arg8 harg8 arg9 harg9 arg10 harg10 X3 X4 y h1 n (Nat.le_of_succ_le hn) (by omega)
      exact ⟨p, List.mem_append_right _ hp, hy⟩

theorem trips3_eq : k0_t3_loop.trips = 56 := by decide +kernel

/-- Every write of loop 3's trip `k` stores the widened weights of the cells it covers. -/
theorem trip3_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t3_loop.trips) :
    ∀ p ∈ tripL_k0_t3 (F := F) Variants.none c none i arg2 harg2 arg3 harg3 arg4 harg4 arg5 harg5 arg6 harg6 arg7 harg7 arg8 harg8 arg9 harg9 arg10 harg10 X3 X4 k, ∀ x, p.2 x = WB i (arg3.view.read (Elt F) X3) (arg4.view.read (Elt F) X4) (p.1.emb x) := by
  unfold tripL_k0_t3 trip_k0_t3
  dsimp only
  intro p hp
  obtain rfl := List.mem_singleton.mp hp
  intro x
  dsimp only at x ⊢
  have hs : trip_k0_t3.sl.r i arg4 X4 k = arg4.view.read (Elt F) X4 (SBix i ((Rect.unit (k0_off6 k) ![128, 128] (k0_off6_inb k)).emb x)) := by
    unfold trip_k0_t3.sl.r
    refine congrArg (arg4.view.read (Elt F) X4) (funext fun a => Fin.ext ?_)
    have e1 := k0_off5_eq i k
    have e2 := k0_off6_eq k
    have hx0 : (x 0).val < 128 := (x 0).isLt
    have hx1 : (x 1).val < 128 := (x 1).isLt
    match a with
    | ⟨0, _⟩ =>
      have e10 : (k0_off5 i k) 0 = k.val := congrFun e1 0
      have e20 : (k0_off6 k) 0 = 128 * k.val := congrFun e2 0
      show (k0_off5 i k) 0 + 1 * 0 = ((k0_off6 k) 0 + 1 * (x 0).val) / 128
      omega
    | ⟨1, _⟩ =>
      have e11 : (k0_off5 i k) 1 = 4 * (i 1).val + 2 := congrFun e1 1
      have e21 : (k0_off6 k) 1 = 256 := congrFun e2 1
      show (k0_off5 i k) 1 + 1 * 0 = 4 * (i 1).val + ((k0_off6 k) 1 + 1 * (x 1).val) / 128
      omega
  unfold k0_pay5 WB SB
  simp only [shapeCast_self]
  rw [hs]
  rfl

/-- The cells that loop 3's trip `k` writes. -/
theorem trip3_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t3_loop.trips) (y : S7168x512.Idx)
    (h0 : (y 0).val / 128 = k.val) (h1 : (y 1).val / 128 = 2) :
    ∃ p ∈ tripL_k0_t3 (F := F) Variants.none c none i arg2 harg2 arg3 harg3 arg4 harg4 arg5 harg5 arg6 harg6 arg7 harg7 arg8 harg8 arg9 harg9 arg10 harg10 X3 X4 k, y ∈ p.1.set := by
  unfold tripL_k0_t3 trip_k0_t3
  dsimp only
  refine ⟨_, List.mem_singleton.mpr rfl, ?_⟩
  have e2 := k0_off6_eq k
  have e20 : (k0_off6 k) 0 = 128 * k.val := congrFun e2 0
  have e21 : (k0_off6 k) 1 = 256 := congrFun e2 1
  rw [Rect.mem_set_unit]
  intro a
  match a with
  | ⟨0, _⟩ =>
    show (k0_off6 k) 0 ≤ (y 0).val ∧ (y 0).val < (k0_off6 k) 0 + 128
    omega
  | ⟨1, _⟩ =>
    show (k0_off6 k) 1 ≤ (y 1).val ∧ (y 1).val < (k0_off6 k) 1 + 128
    omega

/-- Every write of loop 3 stores the widened weights of the cells it covers. -/
theorem pb3_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) :
    ∀ n, n ≤ k0_t3_loop.trips → ∀ p ∈ pb_k0_t3 (F := F) Variants.none c none i arg2 harg2 arg3 harg3 arg4 harg4 arg5 harg5 arg6 harg6 arg7 harg7 arg8 harg8 arg9 harg9 arg10 harg10 X3 X4 n, ∀ x, p.2 x = WB i (arg3.view.read (Elt F) X3) (arg4.view.read (Elt F) X4) (p.1.emb x)
  | 0, _, p, hp => by rw [pb_k0_t3.eq_1] at hp; exact absurd hp List.not_mem_nil
  | n + 1, hn, p, hp => by
    rw [pb_k0_t3_succ (k := ⟨n, hn⟩)] at hp
    rcases List.mem_append.mp hp with h | h
    · exact trip3_piece c i arg2 harg2 arg3 harg3 arg4 harg4 arg5 harg5 arg6 harg6 arg7 harg7 arg8 harg8 arg9 harg9 arg10 harg10 X3 X4 ⟨n, hn⟩ p h
    · exact pb3_piece c i arg2 harg2 arg3 harg3 arg4 harg4 arg5 harg5 arg6 harg6 arg7 harg7 arg8 harg8 arg9 harg9 arg10 harg10 X3 X4 n (Nat.le_of_succ_le hn) p h

/-- Loop 3 writes every cell of its 128 columns. -/
theorem pb3_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (y : S7168x512.Idx) (h1 : (y 1).val / 128 = 2) :
    ∀ n, n ≤ k0_t3_loop.trips → (y 0).val / 128 < n → ∃ p ∈ pb_k0_t3 (F := F) Variants.none c none i arg2 harg2 arg3 harg3 arg4 harg4 arg5 harg5 arg6 harg6 arg7 harg7 arg8 harg8 arg9 harg9 arg10 harg10 X3 X4 n, y ∈ p.1.set
  | 0, _, h => absurd h (Nat.not_lt_zero _)
  | n + 1, hn, h => by
    rw [pb_k0_t3_succ (k := ⟨n, hn⟩)]
    by_cases h0 : (y 0).val / 128 = n
    · obtain ⟨p, hp, hy⟩ := trip3_cover c i arg2 harg2 arg3 harg3 arg4 harg4 arg5 harg5 arg6 harg6 arg7 harg7 arg8 harg8 arg9 harg9 arg10 harg10 X3 X4 ⟨n, hn⟩ y h0 h1
      exact ⟨p, List.mem_append_left _ hp, hy⟩
    · obtain ⟨p, hp, hy⟩ := pb3_cover c i arg2 harg2 arg3 harg3 arg4 harg4 arg5 harg5 arg6 harg6 arg7 harg7 arg8 harg8 arg9 harg9 arg10 harg10 X3 X4 y h1 n (Nat.le_of_succ_le hn) (by omega)
      exact ⟨p, List.mem_append_right _ hp, hy⟩

theorem trips4_eq : k0_t4_loop.trips = 56 := by decide +kernel

/-- Every write of loop 4's trip `k` stores the widened weights of the cells it covers. -/
theorem trip4_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t4_loop.trips) :
    ∀ p ∈ tripL_k0_t4 (F := F) Variants.none c none i arg2 harg2 arg3 harg3 arg4 harg4 arg5 harg5 arg6 harg6 arg7 harg7 arg8 harg8 arg9 harg9 arg10 harg10 X3 X4 k, ∀ x, p.2 x = WB i (arg3.view.read (Elt F) X3) (arg4.view.read (Elt F) X4) (p.1.emb x) := by
  unfold tripL_k0_t4 trip_k0_t4
  dsimp only
  intro p hp
  obtain rfl := List.mem_singleton.mp hp
  intro x
  dsimp only at x ⊢
  have hs : trip_k0_t4.sl.r i arg4 X4 k = arg4.view.read (Elt F) X4 (SBix i ((Rect.unit (k0_off8 k) ![128, 128] (k0_off8_inb k)).emb x)) := by
    unfold trip_k0_t4.sl.r
    refine congrArg (arg4.view.read (Elt F) X4) (funext fun a => Fin.ext ?_)
    have e1 := k0_off7_eq i k
    have e2 := k0_off8_eq k
    have hx0 : (x 0).val < 128 := (x 0).isLt
    have hx1 : (x 1).val < 128 := (x 1).isLt
    match a with
    | ⟨0, _⟩ =>
      have e10 : (k0_off7 i k) 0 = k.val := congrFun e1 0
      have e20 : (k0_off8 k) 0 = 128 * k.val := congrFun e2 0
      show (k0_off7 i k) 0 + 1 * 0 = ((k0_off8 k) 0 + 1 * (x 0).val) / 128
      omega
    | ⟨1, _⟩ =>
      have e11 : (k0_off7 i k) 1 = 4 * (i 1).val + 3 := congrFun e1 1
      have e21 : (k0_off8 k) 1 = 384 := congrFun e2 1
      show (k0_off7 i k) 1 + 1 * 0 = 4 * (i 1).val + ((k0_off8 k) 1 + 1 * (x 1).val) / 128
      omega
  unfold k0_pay6 WB SB
  simp only [shapeCast_self]
  rw [hs]
  rfl

/-- The cells that loop 4's trip `k` writes. -/
theorem trip4_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (k : Fin k0_t4_loop.trips) (y : S7168x512.Idx)
    (h0 : (y 0).val / 128 = k.val) (h1 : (y 1).val / 128 = 3) :
    ∃ p ∈ tripL_k0_t4 (F := F) Variants.none c none i arg2 harg2 arg3 harg3 arg4 harg4 arg5 harg5 arg6 harg6 arg7 harg7 arg8 harg8 arg9 harg9 arg10 harg10 X3 X4 k, y ∈ p.1.set := by
  unfold tripL_k0_t4 trip_k0_t4
  dsimp only
  refine ⟨_, List.mem_singleton.mpr rfl, ?_⟩
  have e2 := k0_off8_eq k
  have e20 : (k0_off8 k) 0 = 128 * k.val := congrFun e2 0
  have e21 : (k0_off8 k) 1 = 384 := congrFun e2 1
  rw [Rect.mem_set_unit]
  intro a
  match a with
  | ⟨0, _⟩ =>
    show (k0_off8 k) 0 ≤ (y 0).val ∧ (y 0).val < (k0_off8 k) 0 + 128
    omega
  | ⟨1, _⟩ =>
    show (k0_off8 k) 1 ≤ (y 1).val ∧ (y 1).val < (k0_off8 k) 1 + 128
    omega

/-- Every write of loop 4 stores the widened weights of the cells it covers. -/
theorem pb4_piece (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) :
    ∀ n, n ≤ k0_t4_loop.trips → ∀ p ∈ pb_k0_t4 (F := F) Variants.none c none i arg2 harg2 arg3 harg3 arg4 harg4 arg5 harg5 arg6 harg6 arg7 harg7 arg8 harg8 arg9 harg9 arg10 harg10 X3 X4 n, ∀ x, p.2 x = WB i (arg3.view.read (Elt F) X3) (arg4.view.read (Elt F) X4) (p.1.emb x)
  | 0, _, p, hp => by rw [pb_k0_t4.eq_1] at hp; exact absurd hp List.not_mem_nil
  | n + 1, hn, p, hp => by
    rw [pb_k0_t4_succ (k := ⟨n, hn⟩)] at hp
    rcases List.mem_append.mp hp with h | h
    · exact trip4_piece c i arg2 harg2 arg3 harg3 arg4 harg4 arg5 harg5 arg6 harg6 arg7 harg7 arg8 harg8 arg9 harg9 arg10 harg10 X3 X4 ⟨n, hn⟩ p h
    · exact pb4_piece c i arg2 harg2 arg3 harg3 arg4 harg4 arg5 harg5 arg6 harg6 arg7 harg7 arg8 harg8 arg9 harg9 arg10 harg10 X3 X4 n (Nat.le_of_succ_le hn) p h

/-- Loop 4 writes every cell of its 128 columns. -/
theorem pb4_cover (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (y : S7168x512.Idx) (h1 : (y 1).val / 128 = 3) :
    ∀ n, n ≤ k0_t4_loop.trips → (y 0).val / 128 < n → ∃ p ∈ pb_k0_t4 (F := F) Variants.none c none i arg2 harg2 arg3 harg3 arg4 harg4 arg5 harg5 arg6 harg6 arg7 harg7 arg8 harg8 arg9 harg9 arg10 harg10 X3 X4 n, y ∈ p.1.set
  | 0, _, h => absurd h (Nat.not_lt_zero _)
  | n + 1, hn, h => by
    rw [pb_k0_t4_succ (k := ⟨n, hn⟩)]
    by_cases h0 : (y 0).val / 128 = n
    · obtain ⟨p, hp, hy⟩ := trip4_cover c i arg2 harg2 arg3 harg3 arg4 harg4 arg5 harg5 arg6 harg6 arg7 harg7 arg8 harg8 arg9 harg9 arg10 harg10 X3 X4 ⟨n, hn⟩ y h0 h1
      exact ⟨p, List.mem_append_left _ hp, hy⟩
    · obtain ⟨p, hp, hy⟩ := pb4_cover c i arg2 harg2 arg3 harg3 arg4 harg4 arg5 harg5 arg6 harg6 arg7 harg7 arg8 harg8 arg9 harg9 arg10 harg10 X3 X4 y h1 n (Nat.le_of_succ_le hn) (by omega)
      exact ⟨p, List.mem_append_right _ hp, hy⟩

/-- After the four loops the weight scratch holds the widened weights, whatever it held before. -/
theorem read_loops (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (X3 : BufTy.Contents (Elt F) arg3.view.ty) (X4 : BufTy.Contents (Elt F) arg4.view.ty) (f : BufTy.Contents (Elt F) arg7.view.ty) :
    arg7.view.read (Elt F) (arg7.view.writes (Elt F) f
      (pb_k0_t4 Variants.none c none i arg2 harg2 arg3 harg3 arg4 harg4 arg5 harg5 arg6 harg6 arg7 harg7 arg8 harg8 arg9 harg9 arg10 harg10 X3 X4 (Scf.trips k0_t4_loop.lb k0_t4_loop.ub k0_t4_loop.st) ++
        (pb_k0_t3 Variants.none c none i arg2 harg2 arg3 harg3 arg4 harg4 arg5 harg5 arg6 harg6 arg7 harg7 arg8 harg8 arg9 harg9 arg10 harg10 X3 X4 (Scf.trips k0_t3_loop.lb k0_t3_loop.ub k0_t3_loop.st) ++
          (pb_k0_t2 Variants.none c none i arg2 harg2 arg3 harg3 arg4 harg4 arg5 harg5 arg6 harg6 arg7 harg7 arg8 harg8 arg9 harg9 arg10 harg10 X3 X4 (Scf.trips k0_t2_loop.lb k0_t2_loop.ub k0_t2_loop.st) ++
            pb_k0_t1 Variants.none c none i arg2 harg2 arg3 harg3 arg4 harg4 arg5 harg5 arg6 harg6 arg7 harg7 arg8 harg8 arg9 harg9 arg10 harg10 X3 X4 (Scf.trips k0_t1_loop.lb k0_t1_loop.ub k0_t1_loop.st)))))
      = WB i (arg3.view.read (Elt F) X3) (arg4.view.read (Elt F) X4) := by
  funext y
  have y0 : (y 0).val < 7168 := (y 0).isLt
  have y1 : (y 1).val < 512 := (y 1).isLt
  refine View.read_writes_apply_of_pieces arg7.view f (WB i (arg3.view.read (Elt F) X3) (arg4.view.read (Elt F) X4)) _ ?_ y ?_
  · intro p hp
    rcases List.mem_append.mp hp with h | hp
    · exact pb4_piece c i arg2 harg2 arg3 harg3 arg4 harg4 arg5 harg5 arg6 harg6 arg7 harg7 arg8 harg8 arg9 harg9 arg10 harg10 X3 X4 _ le_rfl p h
    rcases List.mem_append.mp hp with h | hp
    · exact pb3_piece c i arg2 harg2 arg3 harg3 arg4 harg4 arg5 harg5 arg6 harg6 arg7 harg7 arg8 harg8 arg9 harg9 arg10 harg10 X3 X4 _ le_rfl p h
    rcases List.mem_append.mp hp with h | hp
    · exact pb2_piece c i arg2 harg2 arg3 harg3 arg4 harg4 arg5 harg5 arg6 harg6 arg7 harg7 arg8 harg8 arg9 harg9 arg10 harg10 X3 X4 _ le_rfl p h
    · exact pb1_piece c i arg2 harg2 arg3 harg3 arg4 harg4 arg5 harg5 arg6 harg6 arg7 harg7 arg8 harg8 arg9 harg9 arg10 harg10 X3 X4 _ le_rfl p hp
  · have hq : (y 1).val / 128 = 0 ∨ (y 1).val / 128 = 1 ∨ (y 1).val / 128 = 2 ∨ (y 1).val / 128 = 3 := by omega
    rcases hq with h | h | h | h
    · obtain ⟨p, hp, hy⟩ := pb1_cover c i arg2 harg2 arg3 harg3 arg4 harg4 arg5 harg5 arg6 harg6 arg7 harg7 arg8 harg8 arg9 harg9 arg10 harg10 X3 X4 y h k0_t1_loop.trips le_rfl (by rw [trips1_eq]; omega)
      exact ⟨p, List.mem_append_right _ (List.mem_append_right _ (List.mem_append_right _ hp)), hy⟩
    · obtain ⟨p, hp, hy⟩ := pb2_cover c i arg2 harg2 arg3 harg3 arg4 harg4 arg5 harg5 arg6 harg6 arg7 harg7 arg8 harg8 arg9 harg9 arg10 harg10 X3 X4 y h k0_t2_loop.trips le_rfl (by rw [trips2_eq]; omega)
      exact ⟨p, List.mem_append_right _ (List.mem_append_right _ (List.mem_append_left _ hp)), hy⟩
    · obtain ⟨p, hp, hy⟩ := pb3_cover c i arg2 harg2 arg3 harg3 arg4 harg4 arg5 harg5 arg6 harg6 arg7 harg7 arg8 harg8 arg9 harg9 arg10 harg10 X3 X4 y h k0_t3_loop.trips le_rfl (by rw [trips3_eq]; omega)
      exact ⟨p, List.mem_append_right _ (List.mem_append_left _ hp), hy⟩
    · obtain ⟨p, hp, hy⟩ := pb4_cover c i arg2 harg2 arg3 harg3 arg4 harg4 arg5 harg5 arg6 harg6 arg7 harg7 arg8 harg8 arg9 harg9 arg10 harg10 X3 X4 y h k0_t4_loop.trips le_rfl (by rw [trips4_eq]; omega)
      exact ⟨p, List.mem_append_left _ hp, hy⟩

end Cert.HeadIdeal.Hand
-- ==== Proof.HeadBody.lean ====
module

public import proofs.«01_k».proof.Proof.Gen.HeadIdeal.Frame
public import proofs.«01_k».proof.Proof.Gen.HeadIdeal.Skeleton
public import proofs.«01_k».proof.Proof.Gen.HeadIdeal.Loops
public import proofs.«01_k».proof.Proof.HeadLoops
public import Idealize.ShloMosaic.Lib.VecWindow
public import Idealize.ShloMosaic.Lib.WholeRead
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The point starts a row block: column block 0. -/
abbrev cond0_0 (i : grid0.Coords) : Prop := (Scalar.cmpi .ne (Scalar.extui (Scalar.cmpi .eq (BitVec.ofNat 32 (i 1).val) 0#32)) 0#32) = 1#1
/-- The point ends a row block: column block 63. -/
abbrev cond0_1 (i : grid0.Coords) : Prop := k0_cond2 i = 1#1

/-- The running maxima after a point. -/
def Mst (i : grid0.Coords) (x0 : Vec F S1024x7168 .bf16) (x1 : Vec F S7168x512 .fp8e4m3) (x2 : Vec F S56x256 .f32) (m : Vec F S1024x128 .f32) : Vec F S1024x128 .f32 :=
  k0_pay16 x0 (WB i x1 x2) m

/-- The running sums after a point. -/
def Lst (i : grid0.Coords) (x0 : Vec F S1024x7168 .bf16) (x1 : Vec F S7168x512 .fp8e4m3) (x2 : Vec F S56x256 .f32) (m l : Vec F S1024x128 .f32) : Vec F S1024x128 .f32 :=
  k0_pay18 (k0_pay11 x0 (WB i x1 x2)) (k0_pay12 x0 (WB i x1 x2)) (k0_pay13 x0 (WB i x1 x2)) (k0_pay14 x0 (WB i x1 x2)) m (k0_pay15 x0 (WB i x1 x2) m) l

/-- The target logits found so far, after a point. -/
def Tst (i : grid0.Coords) (x0 : Vec F S1024x7168 .bf16) (x1 : Vec F S7168x512 .fp8e4m3) (x2 : Vec F S56x256 .f32) (x3 : Vec F S1024x1 .i32) (t : Vec F S1024x128 .f32) : Vec F S1024x128 .f32 :=
  k0_pay1 (k0_pay17 (BitVec.ofNat 32 (i 1).val) (k0_pay11 x0 (WB i x1 x2)) (k0_pay12 x0 (WB i x1 x2)) (k0_pay13 x0 (WB i x1 x2)) (k0_pay14 x0 (WB i x1 x2)) t x3)

set_option maxHeartbeats 4000000 in
/-- The body's run in case A. -/
theorem runA (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (hc0 : cond0_0 i) (hc1 : ¬cond0_1 i)
    (x0 : Vec F S1024x7168 .bf16) (x1 : Vec F S7168x512 .fp8e4m3) (x2 : Vec F S56x256 .f32) (x3 : Vec F S1024x1 .i32) (x4 : Vec F S1024x1 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ (∃ d, owns (c : Thread nD τ) arg7 fullShare d)
                ∗ owns (c : Thread nD τ) arg8 fullShare (Mst i x0 x1 x2 k0_pay7) ∗ owns (c : Thread nD τ) arg9 fullShare (Lst i x0 x1 x2 k0_pay7 k0_pay8) ∗ owns (c : Thread nD τ) arg10 fullShare (Tst i x0 x1 x2 x3 k0_pay9)) -∗ K ⟨⟩))
          ⊢ wp frame (wpE (defs₀ (F := F)) Variants.none c none) E (cc0_head i arg2 harg2 arg3 harg3 arg4 harg4 arg5 harg5 arg6 harg6 arg7 harg7 arg8 harg8 arg9 harg9 arg10 harg10) K := by
  simp only [cc0_head_eq_skeleton]; unfold cc0_head_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H4]; · iexists _; isplitr; (ipureintro; exact hf4); iexact H4
  isplitl [H7]
  · iexists (WB i x1 x2); iexists _; isplitr; rotate_left
    · iexact H7
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    exact hl
  isplitl [H8]
  · iexists _; isplitr; rotate_left; iexact H8
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runA.sl.H10_1); (try delta runA.sl.H9_1); (try delta runA.sl.H8_1); (try delta runA.sl.r_6); (try delta runA.sl.r_5); (try delta runA.sl.r_4); (try delta runA.sl.r_3); (try delta runA.sl.r_2); (try delta runA.sl.r_1); (try delta runA.sl.r); (try delta runA.sl.v15); (try delta runA.sl.v23); (try delta runA.sl.v27); (try delta runA.sl.H10_1); (try delta runA.sl.H9_1); (try delta runA.sl.H8_1); (try delta runA.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view])
    exact View.read_writes_full _ _ _ _ _
  isplitl [H9]
  · iexists _; isplitr; rotate_left; iexact H9
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runA.sl.H10_1); (try delta runA.sl.H9_1); (try delta runA.sl.H8_1); (try delta runA.sl.r_6); (try delta runA.sl.r_5); (try delta runA.sl.r_4); (try delta runA.sl.r_3); (try delta runA.sl.r_2); (try delta runA.sl.r_1); (try delta runA.sl.r); (try delta runA.sl.v15); (try delta runA.sl.v23); (try delta runA.sl.v27); (try delta runA.sl.H10_1); (try delta runA.sl.H9_1); (try delta runA.sl.H8_1); (try delta runA.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view])
    exact View.read_writes_full _ _ _ _ _
  iexists _; isplitr; rotate_left; iexact H10
  ipureintro
  have hl := read_loops c i arg2 harg2 arg3 harg3 arg4 harg4 arg5 harg5 arg6 harg6 arg7 harg7 arg8 harg8 arg9 harg9 arg10 harg10 (harg3.unread x1) (harg4.unread x2) f7
  rw [hf1, hf2] at hl
  skip
  change _ = _
  (try delta runA.sl.H10_1); (try delta runA.sl.H9_1); (try delta runA.sl.H8_1); (try delta runA.sl.r_6); (try delta runA.sl.r_5); (try delta runA.sl.r_4); (try delta runA.sl.r_3); (try delta runA.sl.r_2); (try delta runA.sl.r_1); (try delta runA.sl.r); (try delta runA.sl.v15); (try delta runA.sl.v23); (try delta runA.sl.v27); (try delta runA.sl.H10_1); (try delta runA.sl.H9_1); (try delta runA.sl.H8_1); (try delta runA.sl.v9)
  (try rw [View.readAt_full arg2.view, hf0]); (try rw [View.readAt_full arg7.view, hl]); (try rw [View.readAt_full arg5.view, hf3])
  (try rw [View.readCov_full arg8.view]); (try rw [View.readCov_full arg9.view]); (try rw [View.readCov_full arg10.view])
  exact View.read_writes_full _ _ _ _ _

set_option maxHeartbeats 4000000 in
/-- The body's run in case B. -/
theorem runB (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (hc0 : ¬cond0_0 i) (hc1 : ¬cond0_1 i)
    (x0 : Vec F S1024x7168 .bf16) (x1 : Vec F S7168x512 .fp8e4m3) (x2 : Vec F S56x256 .f32) (x3 : Vec F S1024x1 .i32) (x4 : Vec F S1024x1 .f32) (xm xl xt : Vec F S1024x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ (∃ d, owns (c : Thread nD τ) arg7 fullShare d)
            ∗ owns (c : Thread nD τ) arg8 fullShare xm ∗ owns (c : Thread nD τ) arg9 fullShare xl ∗ owns (c : Thread nD τ) arg10 fullShare xt
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ (∃ d, owns (c : Thread nD τ) arg7 fullShare d)
                ∗ owns (c : Thread nD τ) arg8 fullShare (Mst i x0 x1 x2 xm) ∗ owns (c : Thread nD τ) arg9 fullShare (Lst i x0 x1 x2 xm xl) ∗ owns (c : Thread nD τ) arg10 fullShare (Tst i x0 x1 x2 x3 xt)) -∗ K ⟨⟩))
          ⊢ wp frame (wpE (defs₀ (F := F)) Variants.none c none) E (cc0_head i arg2 harg2 arg3 harg3 arg4 harg4 arg5 harg5 arg6 harg6 arg7 harg7 arg8 harg8 arg9 harg9 arg10 harg10) K := by
  simp only [cc0_head_eq_skeleton]; unfold cc0_head_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg8.eq_unread hf8; obtain rfl := harg9.eq_unread hf9; obtain rfl := harg10.eq_unread hf10; obtain rfl := harg6.eq_unread hf4
  sl_exec (disch := first | sl_exact hc0 | sl_exact hc1)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H4]; · iexists _; isplitr; (ipureintro; exact hf4); iexact H4
  isplitl [H7]
  · iexists (WB i x1 x2); iexists _; isplitr; rotate_left
    · iexact H7
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    exact hl
  isplitl [H8]
  · iexists _; isplitr; rotate_left; iexact H8
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runB.sl.H10_1); (try delta runB.sl.H9_1); (try delta runB.sl.H8_1); (try delta runB.sl.r_6); (try delta runB.sl.r_5); (try delta runB.sl.r_4); (try delta runB.sl.r_3); (try delta runB.sl.r_2); (try delta runB.sl.r_1); (try delta runB.sl.r); (try delta runB.sl.H10_1); (try delta runB.sl.H9_1); (try delta runB.sl.H8_1); (try delta runB.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  isplitl [H9]
  · iexists _; isplitr; rotate_left; iexact H9
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runB.sl.H10_1); (try delta runB.sl.H9_1); (try delta runB.sl.H8_1); (try delta runB.sl.r_6); (try delta runB.sl.r_5); (try delta runB.sl.r_4); (try delta runB.sl.r_3); (try delta runB.sl.r_2); (try delta runB.sl.r_1); (try delta runB.sl.r); (try delta runB.sl.H10_1); (try delta runB.sl.H9_1); (try delta runB.sl.H8_1); (try delta runB.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  iexists _; isplitr; rotate_left; iexact H10
  ipureintro
  have hl := read_loops c i arg2 harg2 arg3 harg3 arg4 harg4 arg5 harg5 arg6 harg6 arg7 harg7 arg8 harg8 arg9 harg9 arg10 harg10 (harg3.unread x1) (harg4.unread x2) f7
  rw [hf1, hf2] at hl
  skip
  change _ = _
  (try delta runB.sl.H10_1); (try delta runB.sl.H9_1); (try delta runB.sl.H8_1); (try delta runB.sl.r_6); (try delta runB.sl.r_5); (try delta runB.sl.r_4); (try delta runB.sl.r_3); (try delta runB.sl.r_2); (try delta runB.sl.r_1); (try delta runB.sl.r); (try delta runB.sl.H10_1); (try delta runB.sl.H9_1); (try delta runB.sl.H8_1); (try delta runB.sl.v9)
  (try rw [View.readAt_full arg2.view, hf0]); (try rw [View.readAt_full arg7.view, hl]); (try rw [View.readAt_full arg5.view, hf3])
  (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
  exact View.read_writes_full _ _ _ _ _

set_option maxHeartbeats 4000000 in
/-- The body's run in case C. -/
theorem runC (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .smem S56x256 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S7168x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (hc0 : ¬cond0_0 i) (hc1 : cond0_1 i)
    (x0 : Vec F S1024x7168 .bf16) (x1 : Vec F S7168x512 .fp8e4m3) (x2 : Vec F S56x256 .f32) (x3 : Vec F S1024x1 .i32)  (xm xl xt : Vec F S1024x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xm ∗ owns (c : Thread nD τ) arg9 fullShare xl ∗ owns (c : Thread nD τ) arg10 fullShare xt
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay2 (Mst i x0 x1 x2 xm) (Lst i x0 x1 x2 xm xl) (Tst i x0 x1 x2 x3 xt)) ∗ (∃ d, owns (c : Thread nD τ) arg7 fullShare d)
                ∗ owns (c : Thread nD τ) arg8 fullShare (Mst i x0 x1 x2 xm) ∗ owns (c : Thread nD τ) arg9 fullShare (Lst i x0 x1 x2 xm xl) ∗ owns (c : Thread nD τ) arg10 fullShare (Tst i x0 x1 x2 x3 xt)) -∗ K ⟨⟩))
          ⊢ wp frame (wpE (defs₀ (F := F)) Variants.none c none) E (cc0_head i arg2 harg2 arg3 harg3 arg4 harg4 arg5 harg5 arg6 harg6 arg7 harg7 arg8 harg8 arg9 harg9 arg10 harg10) K := by
  simp only [cc0_head_eq_skeleton]; unfold cc0_head_skel
  unfold owns
  iintro ⟨⟨%f0, %hf0, H0⟩, ⟨%f1, %hf1, H1⟩, ⟨%f2, %hf2, H2⟩, ⟨%f3, %hf3, H3⟩, ⟨%d4, %f4, -, H4⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg8.eq_unread hf8; obtain rfl := harg9.eq_unread hf9; obtain rfl := harg10.eq_unread hf10
  sl_exec (disch := first | sl_exact hc0 | sl_exact hc1)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H4]
  · iexists _; isplitr; rotate_left; iexact H4
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runC.sl.v85); (try delta runC.sl.v78); (try delta runC.sl.v75); (try delta runC.sl.H10_1); (try delta runC.sl.H9_1); (try delta runC.sl.H8_1); (try delta runC.sl.r_6); (try delta runC.sl.r_5); (try delta runC.sl.r_4); (try delta runC.sl.r_3); (try delta runC.sl.r_2); (try delta runC.sl.r_1); (try delta runC.sl.r); (try delta runC.sl.H10_1); (try delta runC.sl.H9_1); (try delta runC.sl.H8_1); (try delta runC.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  isplitl [H7]
  · iexists (WB i x1 x2); iexists _; isplitr; rotate_left
    · iexact H7
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    exact hl
  isplitl [H8]
  · iexists _; isplitr; rotate_left; iexact H8
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runC.sl.v85); (try delta runC.sl.v78); (try delta runC.sl.v75); (try delta runC.sl.H10_1); (try delta runC.sl.H9_1); (try delta runC.sl.H8_1); (try delta runC.sl.r_6); (try delta runC.sl.r_5); (try delta runC.sl.r_4); (try delta runC.sl.r_3); (try delta runC.sl.r_2); (try delta runC.sl.r_1); (try delta runC.sl.r); (try delta runC.sl.H10_1); (try delta runC.sl.H9_1); (try delta runC.sl.H8_1); (try delta runC.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  isplitl [H9]
  · iexists _; isplitr; rotate_left; iexact H9
    ipureintro
    have hl := read_loops c i arg2 harg2 arg3 harg3 arg4 harg4 arg5 harg5 arg6 harg6 arg7 harg7 arg8 harg8 arg9 harg9 arg10 harg10 (harg3.unread x1) (harg4.unread x2) f7
    rw [hf1, hf2] at hl
    skip
    change _ = _
    (try delta runC.sl.v85); (try delta runC.sl.v78); (try delta runC.sl.v75); (try delta runC.sl.H10_1); (try delta runC.sl.H9_1); (try delta runC.sl.H8_1); (try delta runC.sl.r_6); (try delta runC.sl.r_5); (try delta runC.sl.r_4); (try delta runC.sl.r_3); (try delta runC.sl.r_2); (try delta runC.sl.r_1); (try delta runC.sl.r); (try delta runC.sl.H10_1); (try delta runC.sl.H9_1); (try delta runC.sl.H8_1); (try delta runC.sl.v9)
    (try rw [View.readAt_full arg2.view, hf0]); (try rw [View.readAt_full arg7.view, hl]); (try rw [View.readAt_full arg5.view, hf3])
    (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
    exact View.read_writes_full _ _ _ _ _
  iexists _; isplitr; rotate_left; iexact H10
  ipureintro
  have hl := read_loops c i arg2 harg2 arg3 harg3 arg4 harg4 arg5 harg5 arg6 harg6 arg7 harg7 arg8 harg8 arg9 harg9 arg10 harg10 (harg3.unread x1) (harg4.unread x2) f7
  rw [hf1, hf2] at hl
  skip
  change _ = _
  (try delta runC.sl.v85); (try delta runC.sl.v78); (try delta runC.sl.v75); (try delta runC.sl.H10_1); (try delta runC.sl.H9_1); (try delta runC.sl.H8_1); (try delta runC.sl.r_6); (try delta runC.sl.r_5); (try delta runC.sl.r_4); (try delta runC.sl.r_3); (try delta runC.sl.r_2); (try delta runC.sl.r_1); (try delta runC.sl.r); (try delta runC.sl.H10_1); (try delta runC.sl.H9_1); (try delta runC.sl.H8_1); (try delta runC.sl.v9)
  (try rw [View.readAt_full arg2.view, hf0]); (try rw [View.readAt_full arg7.view, hl]); (try rw [View.readAt_full arg5.view, hf3])
  (try rw [View.readCov_full arg8.view]); (try rw [View.readCov_full arg9.view]); (try rw [View.readCov_full arg10.view]); (try rw [View.readAt_full arg8.view, hf8]); (try rw [View.readAt_full arg9.view, hf9]); (try rw [View.readAt_full arg10.view, hf10])
  exact View.read_writes_full _ _ _ _ _

end Cert.HeadIdeal.Hand
-- ==== Proof.HeadFrame.lean ====
module

public import proofs.«01_k».proof.Proof.Gen.HeadIdeal.Frame
public import proofs.«01_k».proof.Proof.Gen.HeadIdeal.Skeleton
public import proofs.«01_k».proof.Proof.Gen.HeadIdeal.Loops
public import proofs.«01_k».proof.Proof.HeadBody
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

variable (m : (ℓ : Loc nD τ sig) → Buf (Elt F) ℓ) (ρ : Dev nD → PrngReg)

/-- The points that start a row block. -/
theorem hcond0_0 : ∀ t : Fin cfg0.N, cond0_0 (grid0.coords t) ↔ t.val % 64 = 0 :=
  (fun t => by
    have ht : t.val < 512 := Nat.lt_of_lt_of_eq t.isLt N_0
    have e1 : (grid0.coords t 1).val = t.val / 1 % 64 := Pipeline.Grid.coords_val t 1 (by decide) rfl
    simp only [cond0_0, e1]
    word_cmp
   : ∀ t : Fin grid0.N, cond0_0 (grid0.coords t) ↔ t.val % 64 = 0)

/-- The points that end a row block. -/
theorem hcond0_1 : ∀ t : Fin cfg0.N, cond0_1 (grid0.coords t) ↔ t.val % 64 = 63 :=
  (fun t => by
    have ht : t.val < 512 := Nat.lt_of_lt_of_eq t.isLt N_0
    have e1 : (grid0.coords t 1).val = t.val / 1 % 64 := Pipeline.Grid.coords_val t 1 (by decide) rfl
    simp only [cond0_1, k0_cond2, e1]
    word_cmp
   : ∀ t : Fin grid0.N, cond0_1 (grid0.coords t) ↔ t.val % 64 = 63)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- The result's window is idle except at the end of a row block. -/
theorem idleAt0_4 : ∀ t : Fin cfg0.N, t.val % 64 ≠ 63 → cfg0.idle 4 (grid0.coords t) = true := by decide +kernel
theorem noFlush0_4 : ∀ t : Fin cfg0.N, t.val % 64 ≠ 63 → (cfg0.win 4).flush t = false := by decide +kernel
theorem liveAt0_4 : ∀ t : Fin cfg0.N, t.val % 64 = 63 → cfg0.idle 4 (grid0.coords t) = false := by decide +kernel

abbrev ms0_0 (t : Fin cfg0.N) : Memref sig .tc .vmem S1024x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S56x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev scM0_0 : Memref sig .tc .vmem S7168x512 .bf16 := Memref.whole cc0_scratch0
abbrev scM0_1 : Memref sig .tc .vmem S1024x128 .f32 := Memref.whole cc0_scratch1
abbrev scM0_2 : Memref sig .tc .vmem S1024x128 .f32 := Memref.whole cc0_scratch2
abbrev scM0_3 : Memref sig .tc .vmem S1024x128 .f32 := Memref.whole cc0_scratch3

/-- The kit's invariant, each scratch owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The running maxima, sums and target logits. -/
structure St (F : FTy → Type) where
  /-- the running maxima -/
  m : Vec F S1024x128 .f32
  /-- the running sums -/
  l : Vec F S1024x128 .f32
  /-- the target logits found -/
  t : Vec F S1024x128 .f32

/-- What a row block starts from. -/
def initS : St F := ⟨k0_pay7, k0_pay8, k0_pay9⟩

/-- One point's update. -/
def stepS (c : Dev nD) (t : Fin cfg0.N) (s : St F) : St F :=
  ⟨Mst (grid0.coords t) (iblk m c 0 t) (iblk m c 1 t) (iblk m c 2 t) s.m, Lst (grid0.coords t) (iblk m c 0 t) (iblk m c 1 t) (iblk m c 2 t) s.m s.l,
    Tst (grid0.coords t) (iblk m c 0 t) (iblk m c 1 t) (iblk m c 2 t) (iblk m c 3 t) s.t⟩

/-- The carried scratch after each point: a row block starts afresh. -/
def stAt (c : Dev nD) : (n : ℕ) → n < cfg0.N → St F
  | 0, hn => stepS m c ⟨0, hn⟩ initS
  | n + 1, hn => stepS m c ⟨n + 1, hn⟩ (if (n + 1) % 64 = 0 then initS else stAt c n (Nat.lt_of_succ_lt hn))

theorem stAt_first (c : Dev nD) (t : Fin cfg0.N) (h0 : t.val % 64 = 0) : stAt m c t.val t.isLt = stepS m c t initS := by
  obtain ⟨n, hn⟩ := t
  cases n with
  | zero => rfl
  | succ n => exact congrArg (stepS m c ⟨n + 1, hn⟩) (if_pos h0)

theorem stAt_next (c : Dev nD) (t : Fin cfg0.N) (h0 : ¬t.val % 64 = 0) :
    stAt m c t.val t.isLt = stepS m c t (stAt m c (t.val - 1) (Nat.lt_of_le_of_lt (Nat.sub_le _ _) t.isLt)) := by
  obtain ⟨n, hn⟩ := t
  cases n with
  | zero => exact absurd (Nat.zero_mod _) h0
  | succ n => exact congrArg (stepS m c ⟨n + 1, hn⟩) (if_neg h0)

/-- What is carried between points: the weights' scratch at anything, the three others at the running values. -/
def SInv (c : Dev nD) (s : St F) : sProp 𝕄 :=
  iprop(iprop((∃ d, owns (c : Thread nD τ) scM0_0 fullShare d) ∗ owns (c : Thread nD τ) scM0_1 fullShare s.m ∗ owns (c : Thread nD τ) scM0_2 fullShare s.l ∗ owns (c : Thread nD τ) scM0_3 fullShare s.t) ∗ (∃ r, prngReg c r))

/-- The invariant before position `n`. -/
def PhiS (c : Dev nD) : (n : ℕ) → n ≤ cfg0.N → sProp 𝕄
  | 0, _ => Pipeline.ΦA spec0 c
  | n + 1, hn => SInv c (stAt m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = SInv c (stAt m c n hn) := rfl

theorem PhiS_pos (c : Dev nD) (n : ℕ) (h : n ≤ cfg0.N) (hz : n ≠ 0) : PhiS m c n h = SInv c (stAt m c (n - 1) (by omega)) := by
  cases n with
  | zero => exact absurd rfl hz
  | succ n => rfl

/-- What a row block's last point leaves in the result's buffer. -/
def outAt (c : Dev nD) (t : Fin cfg0.N) : Vec F S1024x1 .f32 :=
  k0_pay2 (stAt m c t.val t.isLt).m (stAt m c t.val t.isLt).l (stAt m c t.val t.isLt).t

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 64 = 0
  · have h1 : ¬t.val % 64 = 63 := by omega
    rw [Dat.leavesExact_idle (dats m 0 c) 4 t (idleAt0_4 t h1) (noFlush0_4 t h1)]
    by_cases hz : t.val = 0
    · rw [PhiS_castSucc m c t, PhiS_zero m c _ _ hz, PhiA0_eq]
      rw [stAt_first m c t h0]
      unfold SInv stepS; dsimp only
      iintro ⟨⟨⟨HS0, HS1, HS2, HS3⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      rw [stAt_first m c t h0]
      unfold SInv stepS; dsimp only
      iintro ⟨⟨⟨HS0, HS1, HS2, HS3⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexists _; iexact HS1
      isplitl [HS2]; · iexists _; iexact HS2
      isplitl [HS3]; · iexists _; iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro h; exact h0 (by rw [h])
    by_cases h1 : t.val % 64 = 63
    · rw [show (dats m 0 c).leavesExact 4 t = owns (c : Thread nD τ) (ms0_4 t) fullShare ((dats m 0 c).after 4 t) from by
        unfold Dat.leavesExact; rw [liveAt0_4 t h1], after0_4]
      rw [PhiS_castSucc m c t, PhiS_pos m c _ _ hz]
      rw [stAt_next m c t h0]
      rw [show outAt m c t = _ from rfl, outAt, stAt_next m c t h0]
      unfold SInv stepS; dsimp only
      iintro ⟨⟨⟨HS0, HS1, HS2, HS3⟩, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idleAt0_4 t h1) (noFlush0_4 t h1)]
      rw [PhiS_castSucc m c t, PhiS_pos m c _ _ hz]
      rw [stAt_next m c t h0]
      unfold SInv stepS; dsimp only
      iintro ⟨⟨⟨HS0, HS1, HS2, HS3⟩, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 512 := N_0; omega
  rw [show (dats m 0 c).Φ (Fin.last cfg0.N) = PhiS m c (Fin.last cfg0.N).val (Nat.le_of_lt_succ (Fin.last cfg0.N).isLt) from rfl, PhiS_pos m c _ _ ht, PhiA0_eq]
  unfold SInv
  iintro ⟨⟨HS0, HS1, HS2, HS3⟩, Hg⟩
  isplitl [HS0 HS1 HS2 HS3]
  · isplitl [HS0]; · iexact HS0
    isplitl [HS1]; · iexists _; iexact HS1
    isplitl [HS2]; · iexists _; iexact HS2
    iexists _; iexact HS3
  iexact Hg

set_option backward.isDefEq.respectTransparency.types false in
/-- The launch: what the pipeline computes, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.HeadIdeal.Hand
-- ==== Proof.OnlineMath.lean ====
module

public import Idealize.ShloMosaic.PureOps.Ideal
public import Idealize.ShloMosaic.PureOps.Ideal.Laws

@[expose] public section

namespace Cert.Online

open Idealize.ShloMosaic Finset

theorem exp_nonneg (x : EReal) : 0 ≤ Ideal.exp x := by
  induction x using EReal.rec with
  | bot => simp
  | coe r => rw [Ideal.exp_coe]; exact_mod_cast (Real.exp_pos r).le
  | top => simp

theorem sub_top' (x : EReal) : x - ⊤ = ⊥ := by
  rw [sub_eq_add_neg, EReal.neg_top, EReal.add_bot]

theorem bot_sub' (x : EReal) : ⊥ - x = ⊥ := by
  rw [sub_eq_add_neg, EReal.bot_add]

/-- Moving an exponential from one running maximum to a larger one. -/
theorem exp_shift {q a b : EReal} (h1 : q ≤ a) (h2 : a ≤ b) :
    Ideal.exp (q - a) * Ideal.exp (a - b) = Ideal.exp (q - b) := by
  induction b using EReal.rec with
  | bot =>
    have ha : a = ⊥ := le_bot_iff.mp h2
    subst ha
    have hq : q = ⊥ := le_bot_iff.mp h1
    subst hq
    simp only [bot_sub', Ideal.exp_bot, mul_zero]
  | top => simp only [sub_top', Ideal.exp_bot, mul_zero]
  | coe b =>
    induction a using EReal.rec with
    | bot =>
      have hq : q = ⊥ := le_bot_iff.mp h1
      subst hq
      simp only [bot_sub', Ideal.exp_bot, mul_zero]
    | top => exact absurd (top_le_iff.mp h2) (EReal.coe_ne_top b)
    | coe a =>
      induction q using EReal.rec with
      | bot => simp only [bot_sub', Ideal.exp_bot, zero_mul]
      | top => exact absurd (top_le_iff.mp h1) (EReal.coe_ne_top a)
      | coe q =>
        rw [← EReal.coe_sub, ← EReal.coe_sub, ← EReal.coe_sub, Ideal.exp_coe, Ideal.exp_coe, Ideal.exp_coe, ← EReal.coe_mul, ← Real.exp_add]
        congr 2; ring

/-- A sum of exponentials moved from one running maximum to a larger one. -/
theorem sum_shift {ι : Type*} (s : Finset ι) (z : ι → EReal) {a b : EReal} (h1 : ∀ v ∈ s, z v ≤ a) (h2 : a ≤ b) :
    (∑ v ∈ s, Ideal.exp (z v - a)) * Ideal.exp (a - b) = ∑ v ∈ s, Ideal.exp (z v - b) := by
  classical
  induction s using Finset.induction_on with
  | empty => simp
  | insert v s hv ih =>
    rw [sum_insert hv, sum_insert hv, EReal.right_distrib_of_nonneg (exp_nonneg _) (sum_nonneg fun _ _ => exp_nonneg _),
      exp_shift (h1 v (mem_insert_self _ _)) h2, ih fun w hw => h1 w (mem_insert_of_mem hw)]

/-- What one lane carries after `G` chunks of its columns: the largest logit, the sum of exponentials below it, and the
    target's logit once the target's chunk is past (`0` before, and in other lanes). -/
structure Inv (z : ℕ → EReal) (tgt p G : ℕ) (m l t : EReal) : Prop where
  hm : ∀ u, m ≤ u ↔ ∀ g < G, z (128 * g + p) ≤ u
  hl : l = ∑ g ∈ range G, Ideal.exp (z (128 * g + p) - m)
  ht : t = if tgt % 128 = p ∧ tgt / 128 < G then z tgt else 0

theorem Inv.init (z : ℕ → EReal) (tgt p : ℕ) : Inv z tgt p 0 ⊥ 0 0 :=
  ⟨fun u => by simp, by simp, by simp⟩

theorem Inv.le {z : ℕ → EReal} {tgt p G : ℕ} {m l t : EReal} (h : Inv z tgt p G m l t) {g : ℕ} (hg : g < G) :
    z (128 * g + p) ≤ m := (h.hm m).mp le_rfl g hg

/-- One block of four chunks. -/
theorem Inv.step {z : ℕ → EReal} {tgt p G : ℕ} {m l t : EReal} (h : Inv z tgt p G m l t) (hp : p < 128) {q0 q1 q2 q3 : EReal}
    (h0 : q0 = z (128 * G + p)) (h1 : q1 = z (128 * (G + 1) + p)) (h2 : q2 = z (128 * (G + 2) + p)) (h3 : q3 = z (128 * (G + 3) + p))
    {m' l' t' : EReal} (hm' : m' = max (max (max (max m q0) q1) q2) q3)
    (hl' : l' = l * Ideal.exp (m - m') + Ideal.exp (q0 - m') + Ideal.exp (q1 - m') + Ideal.exp (q2 - m') + Ideal.exp (q3 - m'))
    (ht' : t' = if 128 * (G + 3) + p = tgt then q3 else if 128 * (G + 2) + p = tgt then q2 else
      if 128 * (G + 1) + p = tgt then q1 else if 128 * G + p = tgt then q0 else t) :
    Inv z tgt p (G + 4) m' l' t' := by
  have hmm : m ≤ m' := by
    rw [hm']; exact le_max_of_le_left (le_max_of_le_left (le_max_of_le_left (le_max_left _ _)))
  refine ⟨fun u => ?_, ?_, ?_⟩
  · rw [hm', max_le_iff, max_le_iff, max_le_iff, max_le_iff, h.hm u, h0, h1, h2, h3]
    constructor
    · rintro ⟨⟨⟨⟨a, b⟩, c⟩, d⟩, e⟩ g hg
      rcases Nat.lt_or_ge g G with hlt | hge
      · exact a g hlt
      · obtain rfl | rfl | rfl | rfl : g = G ∨ g = G + 1 ∨ g = G + 2 ∨ g = G + 3 := by omega
        · exact b
        · exact c
        · exact d
        · exact e
    · intro a
      exact ⟨⟨⟨⟨fun g hg => a g (by omega), a _ (by omega)⟩, a _ (by omega)⟩, a _ (by omega)⟩, a _ (by omega)⟩
  · rw [hl', h.hl, sum_shift _ (fun g => z (128 * g + p)) (fun g hg => h.le (mem_range.mp hg)) hmm, h0, h1, h2, h3]
    rw [sum_range_succ, sum_range_succ, sum_range_succ, sum_range_succ]
  · have hd := Nat.div_add_mod tgt 128
    have hr := Nat.mod_lt tgt (show 0 < 128 by decide)
    rw [ht', h.ht]
    by_cases e3 : 128 * (G + 3) + p = tgt
    · rw [if_pos e3, if_pos (by omega), h3, e3]
    rw [if_neg e3]
    by_cases e2 : 128 * (G + 2) + p = tgt
    · rw [if_pos e2, if_pos (by omega), h2, e2]
    rw [if_neg e2]
    by_cases e1 : 128 * (G + 1) + p = tgt
    · rw [if_pos e1, if_pos (by omega), h1, e1]
    rw [if_neg e1]
    by_cases e0 : 128 * G + p = tgt
    · rw [if_pos e0, if_pos (by omega), h0, e0]
    rw [if_neg e0]
    exact if_congr (by omega) rfl rfl

theorem sum_tiles (f : ℕ → EReal) (G : ℕ) :
    ∑ p ∈ range 128, ∑ g ∈ range G, f (128 * g + p) = ∑ v ∈ range (128 * G), f v := by
  rw [sum_comm]
  induction G with
  | zero => simp
  | succ G ih => rw [sum_range_succ, ih, Nat.mul_succ, sum_range_add]

/-- The lanes put together: the maximum, the sum of exponentials and the target's logit of a whole row. -/
theorem finish {z : ℕ → EReal} {tgt : ℕ} (htgt : tgt < 32768) {m l t : Fin 128 → EReal}
    (h : ∀ p : Fin 128, Inv z tgt p.val 256 (m p) (l p) (t p)) {mx : EReal} (hmx : ∀ u, mx ≤ u ↔ ∀ p, m p ≤ u) :
    (∀ u, mx ≤ u ↔ ∀ v : Fin 32768, z v.val ≤ u)
    ∧ ∑ p, l p * Ideal.exp (m p - mx) = ∑ v : Fin 32768, Ideal.exp (z v.val - mx)
    ∧ ∑ p, t p = z tgt := by
  have hle : ∀ p, m p ≤ mx := (hmx mx).mp le_rfl
  refine ⟨fun u => ?_, ?_, ?_⟩
  · rw [hmx]
    constructor
    · intro a v
      have hv := v.isLt
      have hd := Nat.div_add_mod v.val 128
      have b := (((h ⟨v.val % 128, Nat.mod_lt _ (by decide)⟩).hm u).mp (a _)) (v.val / 128) (by omega)
      rw [← hd]; exact b
    · intro a p
      have hp := p.isLt
      exact ((h p).hm u).mpr fun g hg => a ⟨128 * g + p.val, by omega⟩
  · have e : ∀ p : Fin 128, l p * Ideal.exp (m p - mx) = ∑ g ∈ range 256, Ideal.exp (z (128 * g + p.val) - mx) := fun p => by
      rw [(h p).hl, sum_shift _ (fun g => z (128 * g + p.val)) (fun g hg => (h p).le (mem_range.mp hg)) (hle p)]
    rw [sum_congr rfl fun p _ => e p, ← Finset.sum_range (fun p => ∑ g ∈ range 256, Ideal.exp (z (128 * g + p) - mx)),
      sum_tiles (fun v => Ideal.exp (z v - mx)) 256, ← Finset.sum_range (fun v => Ideal.exp (z v - mx))]
  · have e : ∀ p : Fin 128, t p = if p = (⟨tgt % 128, Nat.mod_lt _ (by decide)⟩ : Fin 128) then z tgt else 0 := fun p => by
      rw [(h p).ht]
      refine if_congr ⟨fun a => Fin.ext a.1.symm, fun a => ?_⟩ rfl rfl
      subst a
      exact ⟨rfl, by omega⟩
    rw [sum_congr rfl fun p _ => e p, Finset.sum_ite_eq' univ _ fun _ => z tgt, if_pos (mem_univ _)]

/-- A maximum is determined by its upper bounds. -/
theorem eq_of_ub {a b : EReal} (h : ∀ u, a ≤ u ↔ b ≤ u) : a = b := le_antisymm ((h b).mpr le_rfl) ((h a).mp le_rfl)

theorem fold_max_le {ι : Type*} (s : Finset ι) (f : ι → EReal) (u : EReal) : s.fold max ⊥ f ≤ u ↔ ∀ x ∈ s, f x ≤ u := by
  rw [Finset.fold_max_le]; simp

end Cert.Online
-- ==== Proof.HeadPure.lean ====
module

public import proofs.«01_k».proof.Proof.HeadBody
public import proofs.«01_k».proof.Proof.OnlineMath
public import Idealize.ShloMosaic.Lib.Pointwise
public import Idealize.ShloMosaic.Lib.WordCmp

@[expose] public section

set_option maxRecDepth 16384

noncomputable section

namespace Cert.HeadIdeal.Hand

open Cert.HeadIdeal Cert.HeadIdeal.Gen
open Idealize.ShloMosaic Idealize.ShloMosaic.TcCoe

variable (i : grid0.Coords) (x0 : FVec Ideal S1024x7168 .bf16) (x1 : FVec Ideal S7168x512 .fp8e4m3) (x2 : FVec Ideal S56x256 .f32)

theorem col_lt (i : grid0.Coords) : (i 1).val < 64 := (i 1).isLt

/-- The logit of a row of the block and a column of column block `i 1`. -/
def lg (r : Fin 1024) (y : Fin 512) : EReal :=
  ∑ k : Fin 7168, x0 (ix2 r k) * (x1 (ix2 k y) * x2 (ix2 ⟨k.val / 128, by omega⟩ ⟨4 * (i 1).val + y.val / 128, by have := col_lt i; omega⟩))

theorem pay10_at (r : Fin 1024) (y : Fin 512) : k0_pay10 (F := Ideal) x0 (WB (F := Ideal) i x1 x2) (ix2 r y) = lg i x0 x1 x2 r y := by
  pointwise [k0_pay10]
  unfold lg
  refine Finset.sum_congr rfl fun k _ => congrArg (x0 (ix2 r k) * ·) ?_
  have e : SB (F := Ideal) i x2 (ix2 k y) = x2 (ix2 ⟨k.val / 128, by omega⟩ ⟨4 * (i 1).val + y.val / 128, by have := col_lt i; omega⟩) := by
    unfold SB
    refine congrArg x2 (funext fun a => Fin.ext ?_)
    match a with
    | ⟨0, _⟩ => rfl
    | ⟨1, _⟩ => rfl
  exact congrArg (fun s : EReal => (x1 (ix2 k y) : EReal) * s) e

theorem pay11_at (r : Fin 1024) (p : Fin 128) : k0_pay11 (F := Ideal) x0 (WB (F := Ideal) i x1 x2) (ix2 r p) = lg i x0 x1 x2 r ⟨p.val, by omega⟩ := by
  rw [← pay10_at]; pointwise [k0_pay11]
theorem pay12_at (r : Fin 1024) (p : Fin 128) : k0_pay12 (F := Ideal) x0 (WB (F := Ideal) i x1 x2) (ix2 r p) = lg i x0 x1 x2 r ⟨128 + p.val, by omega⟩ := by
  rw [← pay10_at]; pointwise [k0_pay12]
theorem pay13_at (r : Fin 1024) (p : Fin 128) : k0_pay13 (F := Ideal) x0 (WB (F := Ideal) i x1 x2) (ix2 r p) = lg i x0 x1 x2 r ⟨256 + p.val, by omega⟩ := by
  rw [← pay10_at]; pointwise [k0_pay13]
theorem pay14_at (r : Fin 1024) (p : Fin 128) : k0_pay14 (F := Ideal) x0 (WB (F := Ideal) i x1 x2) (ix2 r p) = lg i x0 x1 x2 r ⟨384 + p.val, by omega⟩ := by
  rw [← pay10_at]; pointwise [k0_pay14]

theorem pay15_at (m : FVec Ideal S1024x128 .f32) (r : Fin 1024) (p : Fin 128) : k0_pay15 (F := Ideal) x0 (WB (F := Ideal) i x1 x2) m (ix2 r p)
    = max (max (max (max (m (ix2 r p)) (lg i x0 x1 x2 r ⟨p.val, by omega⟩)) (lg i x0 x1 x2 r ⟨128 + p.val, by omega⟩))
        (lg i x0 x1 x2 r ⟨256 + p.val, by omega⟩)) (lg i x0 x1 x2 r ⟨384 + p.val, by omega⟩) := by
  rw [← pay11_at, ← pay12_at, ← pay13_at, ← pay14_at]; pointwise [k0_pay15]

theorem Mst_at (m : FVec Ideal S1024x128 .f32) (r : Fin 1024) (p : Fin 128) : Mst (F := Ideal) i x0 x1 x2 m (ix2 r p)
    = max (max (max (max (m (ix2 r p)) (lg i x0 x1 x2 r ⟨p.val, by omega⟩)) (lg i x0 x1 x2 r ⟨128 + p.val, by omega⟩))
        (lg i x0 x1 x2 r ⟨256 + p.val, by omega⟩)) (lg i x0 x1 x2 r ⟨384 + p.val, by omega⟩) := by
  rw [← pay15_at]; unfold Mst; pointwise [k0_pay16]

theorem Lst_at (m l : FVec Ideal S1024x128 .f32) (r : Fin 1024) (p : Fin 128) : Lst (F := Ideal) i x0 x1 x2 m l (ix2 r p)
    = l (ix2 r p) * Ideal.exp (m (ix2 r p) - Mst (F := Ideal) i x0 x1 x2 m (ix2 r p))
      + Ideal.exp (lg i x0 x1 x2 r ⟨p.val, by omega⟩ - Mst (F := Ideal) i x0 x1 x2 m (ix2 r p))
      + Ideal.exp (lg i x0 x1 x2 r ⟨128 + p.val, by omega⟩ - Mst (F := Ideal) i x0 x1 x2 m (ix2 r p))
      + Ideal.exp (lg i x0 x1 x2 r ⟨256 + p.val, by omega⟩ - Mst (F := Ideal) i x0 x1 x2 m (ix2 r p))
      + Ideal.exp (lg i x0 x1 x2 r ⟨384 + p.val, by omega⟩ - Mst (F := Ideal) i x0 x1 x2 m (ix2 r p)) := by
  rw [Mst_at, ← pay15_at, ← pay11_at, ← pay12_at, ← pay13_at, ← pay14_at]; unfold Lst; pointwise [k0_pay18]

theorem sel_eq {a b : BitVec 32} {P : Prop} [Decidable P] (h : a = b ↔ P) (x y : EReal) :
    Scalar.select (IntOp.cmpi .eq a b) x y = if P then x else y := by
  by_cases hp : P
  · rw [if_pos hp, h.mpr hp]; simp [Scalar.select, IntOp.cmpi]
  · have : a ≠ b := fun e => hp (h.mp e)
    have hb : (a == b) = false := beq_eq_false_iff_ne.mpr this
    rw [if_neg hp]; simp [Scalar.select, IntOp.cmpi, hb]

theorem word_eq (p j c tgt : ℕ) (hp : p < 128) (hj : j < 64) (hc : c < 4) (ht : tgt < 32768) :
    IntOp.addi (BitVec.ofNat 32 p) (BitVec.ofNat 32 (128 * c)) = IntOp.subi (BitVec.ofNat 32 tgt) (Scalar.muli (BitVec.ofNat 32 j) 512#32)
      ↔ 128 * (4 * j + c) + p = tgt := by
  show BitVec.ofNat 32 p + BitVec.ofNat 32 (128 * c) = BitVec.ofNat 32 tgt - BitVec.ofNat 32 j * 512#32 ↔ _
  rw [← BitVec.toNat_inj]
  simp only [BitVec.toNat_add, BitVec.toNat_sub, BitVec.toNat_mul, BitVec.toNat_ofNat]
  rw [Nat.mod_eq_of_lt (show p < 2 ^ 32 by omega), Nat.mod_eq_of_lt (show 128 * c < 2 ^ 32 by omega), Nat.mod_eq_of_lt (show tgt < 2 ^ 32 by omega),
    Nat.mod_eq_of_lt (show j < 2 ^ 32 by omega), Nat.mod_eq_of_lt (show 512 < 2 ^ 32 by omega), Nat.mod_eq_of_lt (show j * 512 < 2 ^ 32 by omega)]
  omega

theorem Tst_at (x3 : IVec S1024x1 32) (t : FVec Ideal S1024x128 .f32) (r : Fin 1024) (p : Fin 128) (tgt : ℕ) (htgt : tgt < 32768)
    (h3 : x3 (ix2 r 0) = BitVec.ofNat 32 tgt) : Tst (F := Ideal) i x0 x1 x2 x3 t (ix2 r p)
    = if 128 * (4 * (i 1).val + 3) + p.val = tgt then lg i x0 x1 x2 r ⟨384 + p.val, by omega⟩
      else if 128 * (4 * (i 1).val + 2) + p.val = tgt then lg i x0 x1 x2 r ⟨256 + p.val, by omega⟩
      else if 128 * (4 * (i 1).val + 1) + p.val = tgt then lg i x0 x1 x2 r ⟨128 + p.val, by omega⟩
      else if 128 * (4 * (i 1).val) + p.val = tgt then lg i x0 x1 x2 r ⟨p.val, by omega⟩
      else t (ix2 r p) := by
  rw [← pay11_at, ← pay12_at, ← pay13_at, ← pay14_at]; unfold Tst; pointwise [k0_pay1, k0_pay17, h3]
  have hj := col_lt i
  rw [sel_eq (word_eq p.val (i 1).val 3 tgt p.isLt hj (by decide) htgt), sel_eq (word_eq p.val (i 1).val 2 tgt p.isLt hj (by decide) htgt),
    sel_eq (word_eq p.val (i 1).val 1 tgt p.isLt hj (by decide) htgt), sel_eq (word_eq p.val (i 1).val 0 tgt p.isLt hj (by decide) htgt)]
  rfl

theorem neg_inf : Ideal.ofBits FTy.f32 0xFF800000#32 = ⊥ := by simp [Ideal.ofBits, Ideal.ieee]

theorem pay2_at (m l t : FVec Ideal S1024x128 .f32) (r : Fin 1024) : k0_pay2 (F := Ideal) m l t (ix2 r 0)
    = Ideal.log (∑ p : Fin 128, l (ix2 r p) * Ideal.exp (m (ix2 r p) - Finset.univ.fold max ⊥ (fun p : Fin 128 => m (ix2 r p))))
      + Finset.univ.fold max ⊥ (fun p : Fin 128 => m (ix2 r p)) - (∑ p : Fin 128, t (ix2 r p)) - Ideal.ofBits FTy.f32 0x41265AF6#32 := by
  pointwise [k0_pay2, neg_inf]

theorem pay7_at (y) : k0_pay7 (F := Ideal) y = (⊥ : EReal) := by pointwise [k0_pay7, neg_inf]
theorem pay8_at (y) : k0_pay8 (F := Ideal) y = (0 : EReal) := by pointwise [k0_pay8]
theorem pay9_at (y) : k0_pay9 (F := Ideal) y = (0 : EReal) := by pointwise [k0_pay9]

end Cert.HeadIdeal.Hand
-- ==== Proof.HeadValue.lean ====
module

public import proofs.«01_k».proof.Proof.HeadFrame
public import proofs.«01_k».proof.Proof.HeadPure
public import Idealize.ShloMosaic.Lib.Pipeline.ValueKit
public import Idealize.ShloMosaic.Lib.Claim

@[expose] public section

set_option maxRecDepth 16384

noncomputable section

namespace Cert.HeadIdeal.Hand

open Cert.HeadIdeal Cert.HeadIdeal.Gen
open Idealize.ShloMosaic Idealize.ShloMosaic.TcCoe Idealize.SL.Sem
open Idealize.ShloMosaic.Pipeline (Dat)

/-- The logit of row `R` and vocabulary entry `v`, from the arrays: activations times dequantised weights. -/
def Z (X0 : FVec Ideal S8192x7168 .bf16) (X1 : FVec Ideal S7168x32768 .fp8e4m3) (X2 : FVec Ideal S56x256 .f32) (R : Fin 8192) (v : ℕ) : EReal :=
  if h : v < 32768 then ∑ k : Fin 7168, X0 (ix2 R k) * (X1 (ix2 k ⟨v, h⟩) * X2 (ix2 ⟨k.val / 128, by omega⟩ ⟨v / 128, by omega⟩)) else 0

/-- The largest logit of a row. -/
def MX (X0 : FVec Ideal S8192x7168 .bf16) (X1 : FVec Ideal S7168x32768 .fp8e4m3) (X2 : FVec Ideal S56x256 .f32) (R : Fin 8192) : EReal :=
  Finset.univ.fold max ⊥ (fun v : Fin 32768 => Z X0 X1 X2 R v.val)

/-- The loss of a row: the logarithm of the summed exponentials less the target's logit and the logarithm of the vocabulary's size. -/
def LOSS (X0 : FVec Ideal S8192x7168 .bf16) (X1 : FVec Ideal S7168x32768 .fp8e4m3) (X2 : FVec Ideal S56x256 .f32) (X3 : IVec S8192 32) (R : Fin 8192) : EReal :=
  Ideal.log (∑ v : Fin 32768, Ideal.exp (Z X0 X1 X2 R v.val - MX X0 X1 X2 R)) + MX X0 X1 X2 R - Z X0 X1 X2 R (X3 (ix1 R)).toNat
    - Ideal.ofBits FTy.f32 0x41265AF6#32

variable (m : (ℓ : Loc nD τ sig) → Buf (Elt Ideal) ℓ)

/-- The activations. -/
abbrev A0 (c : Dev nD) : FVec Ideal S8192x7168 .bf16 := m ((c : Thread nD τ).loc main_arg0)
/-- The weight codes. -/
abbrev A1 (c : Dev nD) : FVec Ideal S7168x32768 .fp8e4m3 := m ((c : Thread nD τ).loc main_arg1)
/-- The weight scales. -/
abbrev A2 (c : Dev nD) : FVec Ideal S56x256 .f32 := m ((c : Thread nD τ).loc main_arg2)
/-- The targets. -/
abbrev A3 (c : Dev nD) : IVec S8192 32 := m ((c : Thread nD τ).loc main_arg3)

theorem idx : ∀ t : Fin cfg0.N, win0_0.index t = ![t.val / 64, 0] ∧ win0_1.index t = ![0, t.val % 64] ∧ win0_2.index t = ![0, 0]
    ∧ win0_3.index t = ![t.val / 64, 0] ∧ win0_4.index t = ![t.val / 64, 0] :=
  (by decide +kernel : ∀ t : Fin grid0.N, _)

theorem lt512 (t : Fin cfg0.N) : t.val < 512 := Nat.lt_of_lt_of_eq t.isLt N_0

/-- The array's row at row `r` of point `t`'s block. -/
def row (t : Fin cfg0.N) (r : Fin 1024) : Fin 8192 := ⟨t.val / 64 * 1024 + r.val, by have := lt512 t; omega⟩

theorem blk0 (c : Dev nD) (t : Fin cfg0.N) (r : Fin 1024) (k : Fin 7168) : iblk m c 0 t (ix2 r k) = A0 m c (ix2 (row t r) k) := by
  unfold row
  blk_ext [iblk, V, idx t]

theorem blk1 (c : Dev nD) (t : Fin cfg0.N) (k : Fin 7168) (y : Fin 512) :
    iblk m c 1 t (ix2 k y) = A1 m c (ix2 k ⟨512 * (t.val % 64) + y.val, by omega⟩) := by
  blk_ext [iblk, V, idx t]

theorem blk2 (c : Dev nD) (t : Fin cfg0.N) (a : Fin 56) (b : Fin 256) : iblk m c 2 t (ix2 a b) = A2 m c (ix2 a b) := by
  blk_ext [iblk, V, idx t]

theorem entry3 (c : Dev nD) : V m c main_v0 = shapeCast S8192x1 (A3 m c) shapeCasts_S8192_S8192x1 := by
  entry_read
  rfl

theorem blk3 (c : Dev nD) (t : Fin cfg0.N) (r : Fin 1024) : iblk m c 3 t (ix2 r 0) = A3 m c (ix1 (row t r)) := by
  have e : iblk m c 3 t (ix2 r 0) = V m c main_v0 (ix2 (row t r) 0) := by
    unfold row
    blk_ext [iblk, idx t]
  rw [e, entry3]
  pointwise

/-- The logits of point `t`'s block. -/
theorem lg_blk (c : Dev nD) (t : Fin cfg0.N) (r : Fin 1024) (y : Fin 512) :
    lg (grid0.coords t) (iblk m c 0 t) (iblk m c 1 t) (iblk m c 2 t) r y = Z (A0 m c) (A1 m c) (A2 m c) (row t r) (512 * (t.val % 64) + y.val) := by
  have h : 512 * (t.val % 64) + y.val < 32768 := by omega
  have e1 : (grid0.coords t 1).val = t.val / 1 % 64 := Pipeline.Grid.coords_val t 1 (by decide) rfl
  unfold lg Z
  rw [dif_pos h]
  refine Finset.sum_congr rfl fun k _ => ?_
  refine Ideal.mul_congr (blk0 m c t r k) (Ideal.mul_congr (blk1 m c t k y) ?_)
  refine (blk2 m c t _ _).trans (congrArg (A2 m c) ?_)
  refine (ix2_inj ..).2 ⟨rfl, Fin.ext ?_⟩
  show 4 * (grid0.coords t 1).val + y.val / 128 = (512 * (t.val % 64) + y.val) / 128
  omega

/-- The invariant at a point, from the state before it. -/
theorem step_inv (c : Dev nD) (hT : ∀ R : Fin 8192, (A3 m c (ix1 R)).toNat < 32768) (t : Fin cfg0.N) (s : St Ideal) (r : Fin 1024) (p : Fin 128)
    (h : Online.Inv (Z (A0 m c) (A1 m c) (A2 m c) (row t r)) (A3 m c (ix1 (row t r))).toNat p.val (4 * (t.val % 64)) (s.m (ix2 r p)) (s.l (ix2 r p)) (s.t (ix2 r p))) :
    Online.Inv (Z (A0 m c) (A1 m c) (A2 m c) (row t r)) (A3 m c (ix1 (row t r))).toNat p.val (4 * (t.val % 64) + 4)
      ((stepS m c t s).m (ix2 r p)) ((stepS m c t s).l (ix2 r p)) ((stepS m c t s).t (ix2 r p)) := by
  have e1 : (grid0.coords t 1).val = t.val % 64 := by
    have h : (grid0.coords t 1).val = t.val / 1 % 64 := Pipeline.Grid.coords_val t 1 (by decide) rfl
    rw [h]; exact congrArg (· % 64) (Nat.div_one _)
  have h3 : iblk m c 3 t (ix2 r 0) = BitVec.ofNat 32 (A3 m c (ix1 (row t r))).toNat := by
    rw [blk3, BitVec.ofNat_toNat, BitVec.setWidth_eq]
  have hm := Mst_at (grid0.coords t) (iblk m c 0 t) (iblk m c 1 t) (iblk m c 2 t) s.m r p
  have hl := Lst_at (grid0.coords t) (iblk m c 0 t) (iblk m c 1 t) (iblk m c 2 t) s.m s.l r p
  have ht := Tst_at (grid0.coords t) (iblk m c 0 t) (iblk m c 1 t) (iblk m c 2 t) (iblk m c 3 t) s.t r p _ (hT (row t r)) h3
  rw [e1] at ht
  refine h.step p.isLt ?_ ?_ ?_ ?_ hm hl ht
  · rw [lg_blk]; exact congrArg _ (by show 512 * (t.val % 64) + p.val = _; omega)
  · rw [lg_blk]; exact congrArg _ (by show 512 * (t.val % 64) + (128 + p.val) = _; omega)
  · rw [lg_blk]; exact congrArg _ (by show 512 * (t.val % 64) + (256 + p.val) = _; omega)
  · rw [lg_blk]; exact congrArg _ (by show 512 * (t.val % 64) + (384 + p.val) = _; omega)

/-- The invariant after every point. -/
theorem inv (c : Dev nD) (hT : ∀ R : Fin 8192, (A3 m c (ix1 R)).toNat < 32768) (r : Fin 1024) (p : Fin 128) : ∀ (n : ℕ) (hn : n < cfg0.N),
    Online.Inv (Z (A0 m c) (A1 m c) (A2 m c) (row ⟨n, hn⟩ r)) (A3 m c (ix1 (row ⟨n, hn⟩ r))).toNat p.val (4 * (n % 64) + 4)
      ((stAt m c n hn).m (ix2 r p)) ((stAt m c n hn).l (ix2 r p)) ((stAt m c n hn).t (ix2 r p)) := by
  intro n
  induction n with
  | zero =>
    intro hn
    rw [stAt_first m c ⟨0, hn⟩ rfl]
    refine step_inv m c hT ⟨0, hn⟩ initS r p ?_
    unfold initS; dsimp only
    rw [pay7_at, pay8_at, pay9_at]
    exact Online.Inv.init _ _ _
  | succ n ih =>
    intro hn
    by_cases h0 : (n + 1) % 64 = 0
    · rw [stAt_first m c ⟨n + 1, hn⟩ h0]
      refine step_inv m c hT ⟨n + 1, hn⟩ initS r p ?_
      unfold initS; dsimp only
      rw [pay7_at, pay8_at, pay9_at, h0]
      exact Online.Inv.init _ _ _
    · have hs := stAt_next m c ⟨n + 1, hn⟩ h0
      rw [hs]
      refine step_inv m c hT ⟨n + 1, hn⟩ _ r p ?_
      have hi := ih (Nat.lt_of_succ_lt hn)
      have er : row ⟨n, Nat.lt_of_succ_lt hn⟩ r = row ⟨n + 1, hn⟩ r := Fin.ext (by show n / 64 * 1024 + r.val = (n + 1) / 64 * 1024 + r.val; omega)
      have eg : 4 * (n % 64) + 4 = 4 * ((n + 1) % 64) := by omega
      rw [er, eg] at hi
      exact hi

/-- What a row block's last point leaves in the result's buffer: the losses of its rows. -/
theorem out_at (c : Dev nD) (hT : ∀ R : Fin 8192, (A3 m c (ix1 R)).toNat < 32768) (t : Fin cfg0.N) (h63 : t.val % 64 = 63) (r : Fin 1024) :
    outAt m c t (ix2 r 0) = LOSS (A0 m c) (A1 m c) (A2 m c) (A3 m c) (row t r) := by
  have hi : ∀ p : Fin 128, Online.Inv (Z (A0 m c) (A1 m c) (A2 m c) (row t r)) (A3 m c (ix1 (row t r))).toNat p.val 256
      ((stAt m c t.val t.isLt).m (ix2 r p)) ((stAt m c t.val t.isLt).l (ix2 r p)) ((stAt m c t.val t.isLt).t (ix2 r p)) := fun p => by
    have h := inv m c hT r p t.val t.isLt
    rw [h63] at h
    exact h
  obtain ⟨f1, f2, f3⟩ := Online.finish (hT (row t r)) hi (mx := Finset.univ.fold max ⊥ fun p : Fin 128 => (stAt m c t.val t.isLt).m (ix2 r p))
    (fun u => by rw [Online.fold_max_le]; simp)
  have hx : (Finset.univ.fold max ⊥ fun p : Fin 128 => (stAt m c t.val t.isLt).m (ix2 r p)) = MX (A0 m c) (A1 m c) (A2 m c) (row t r) :=
    Online.eq_of_ub fun u => by rw [f1 u]; unfold MX; rw [Online.fold_max_le]; simp
  unfold outAt LOSS
  rw [pay2_at, f2, f3, hx]

/-- The result array. -/
def RES (c : Dev nD) : FVec Ideal S8192x1 .f32 := fun i => LOSS (A0 m c) (A1 m c) (A2 m c) (A3 m c) (i 0)

theorem final (c : Dev nD) (hT : ∀ R : Fin 8192, (A3 m c (ix1 R)).toNat < 32768) : (dats m 0 c).arrAt 4 cfg0.N = RES m c := by
  refine (dats m 0 c).arrAt_eq_of_covers 4 _ (by decide +kernel) fun t hf y => ?_
  have h63 : t.val % 64 = 63 := (flush0_4 t).mp hf
  blk_simp
  rw [after0_4]
  have h1 : (y 1).val = 0 := by have h : (y 1).val < 1 := (y 1).isLt; omega
  have hy : y = (ix2 (y 0) 0 : S1024x1.Idx) := funext fun a => by
    match a with
    | ⟨0, _⟩ => rfl
    | ⟨1, _⟩ => exact Fin.ext h1
  have hr : (win0_4.blk t).view.emb y 0 = row t (y 0) := Fin.ext (by
    show ((win0_4.blk t).view.emb y 0).val = t.val / 64 * 1024 + (y 0).val
    blk_simp [idx t])
  refine (congrArg (outAt m c t) hy).trans ((out_at m c hT t h63 (y 0)).trans ?_)
  unfold RES
  rw [hr]

/-- The run: the result array holds the losses, the arguments unchanged. -/
theorem run (ρ : Dev nD → PrngReg) (hT : ∀ (c : Dev nD) (R : Fin 8192), (A3 m c (ix1 R)).toNat < 32768) :
    θ_run defs (onTc (τ := τ) (main (F := Ideal))) ⟨m, fun _ => 0, ρ⟩ (fun r => ∀ c : Dev nD,
      r.2.mem ((c.tc : Thread nD τ).loc main_v1) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final m c (hT c)), h.2 c⟩) (θ_run_and (run_main m ρ) (unchanged m ρ))

end Cert.HeadIdeal.Hand
-- ==== Proof.RefRun.lean ====
/- The reference's run: its later operations' composed term of the arguments and of the widened codes. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v0` (window 1's): not opened here. -/
def reg_main_v0 (c : Dev nD) : Buf (Elt F) ((c.tc : Thread nD τ).loc main_v0) := (Gen.dats m 0 c).arrAt 1 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg2`: as launched. -/
theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at the region's result array `main_v0`. -/
theorem exit_main_v0 (c : Dev nD) : exitV m c (Proc.devRef .tc main_v0) = reg_main_v0 m c :=
  Pipeline.withArrays_arr spec0 Gen.launch0.win.arr_inj c (Gen.V0 m c) _ 1

set_option maxRecDepth 8192 in
/-- `main_v22`'s composed term of the arguments and the region's results (named: it is long). -/
def res_main_v22 (c : Dev nD) : Buf (Elt F) ((c.tc : Thread nD τ).loc main_v22) :=
  shapeCast _ (subf (subf (addf (Host.log (Host.reduceAdd (Host.exp (subf (Host.dotGeneral dot_S8192x7168_S7168x32768_S8192x32768_1_0_0_1_n_n none (m ((c.tc : Thread nD τ).loc main_arg0)) (shapeCast _ (mulf (shapeCast _ (reg_main_v0 m c) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (m ((c.tc : Thread nD τ).loc main_arg2)) bitsLt_bf16_f32)))) shapeCasts_S56x128x256x128_S7168x32768)) (broadcastInDim S8192x32768 ![0, 1] bcast_S8192x1_S8192x32768_0_1 (broadcastInDim S8192x1 ![0] bcast_S8192_S8192x1_0 (Host.reduce FloatOps.maximumf (Host.dotGeneral dot_S8192x7168_S7168x32768_S8192x32768_1_0_0_1_n_n none (m ((c.tc : Thread nD τ).loc main_arg0)) (shapeCast _ (mulf (shapeCast _ (reg_main_v0 m c) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (m ((c.tc : Thread nD τ).loc main_arg2)) bitsLt_bf16_f32)))) shapeCasts_S56x128x256x128_S7168x32768)) (constant S_ .f32 0xFF800000#32) reducesTo_S8192x32768_S8192_d1 h_S_))))) (constant S_ .f32 0x00000000#32) reducesTo_S8192x32768_S8192_d1 h_S_)) (Host.reduce FloatOps.maximumf (Host.dotGeneral dot_S8192x7168_S7168x32768_S8192x32768_1_0_0_1_n_n none (m ((c.tc : Thread nD τ).loc main_arg0)) (shapeCast _ (mulf (shapeCast _ (reg_main_v0 m c) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (m ((c.tc : Thread nD τ).loc main_arg2)) bitsLt_bf16_f32)))) shapeCasts_S56x128x256x128_S7168x32768)) (constant S_ .f32 0xFF800000#32) reducesTo_S8192x32768_S8192_d1 h_S_)) (shapeCast _ (select (Host.reduce IntOp.andi (andi (cmpi .sge (shapeCast S8192x1x1 (select (cmpi .slt (broadcastInDim S8192x1 ![0] bcast_S8192_S8192x1_0 (m ((c.tc : Thread nD τ).loc main_arg3))) (broadcastInDim S8192x1 ![] bcast_S_S8192x1 (constantI S_ 32 0#32))) (addi (broadcastInDim S8192x1 ![0] bcast_S8192_S8192x1_0 (m ((c.tc : Thread nD τ).loc main_arg3))) (broadcastInDim S8192x1 ![] bcast_S_S8192x1 (constantI S_ 32 32768#32))) (broadcastInDim S8192x1 ![0] bcast_S8192_S8192x1_0 (m ((c.tc : Thread nD τ).loc main_arg3)))) shapeCasts_S8192x1_S8192x1x1) (broadcastInDim S8192x1x1 ![] bcast_S_S8192x1x1 (constantI S_ 32 0#32))) (cmpi .sle (shapeCast S8192x1x1 (select (cmpi .slt (broadcastInDim S8192x1 ![0] bcast_S8192_S8192x1_0 (m ((c.tc : Thread nD τ).loc main_arg3))) (broadcastInDim S8192x1 ![] bcast_S_S8192x1 (constantI S_ 32 0#32))) (addi (broadcastInDim S8192x1 ![0] bcast_S8192_S8192x1_0 (m ((c.tc : Thread nD τ).loc main_arg3))) (broadcastInDim S8192x1 ![] bcast_S_S8192x1 (constantI S_ 32 32768#32))) (broadcastInDim S8192x1 ![0] bcast_S8192_S8192x1_0 (m ((c.tc : Thread nD τ).loc main_arg3)))) shapeCasts_S8192x1_S8192x1x1) (broadcastInDim S8192x1x1 ![0, 1, 2] bcast_S1x1x1_S8192x1x1_0_1_2 (broadcastInDim S1x1x1 ![2] bcast_S1_S1x1x1_2 (constantI S1 32 32767#32))))) (constantI S_ 1 1#1) reducesTo_S8192x1x1_S8192x1_d2 h_S_) (Host.gather gather_S8192x32768_S8192x1x1_S8192x1_n_1_0_0_1_2_11 (Host.dotGeneral dot_S8192x7168_S7168x32768_S8192x32768_1_0_0_1_n_n none (m ((c.tc : Thread nD τ).loc main_arg0)) (shapeCast _ (mulf (shapeCast _ (reg_main_v0 m c) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (m ((c.tc : Thread nD τ).loc main_arg2)) bitsLt_bf16_f32)))) shapeCasts_S56x128x256x128_S7168x32768)) (shapeCast S8192x1x1 (select (cmpi .slt (broadcastInDim S8192x1 ![0] bcast_S8192_S8192x1_0 (m ((c.tc : Thread nD τ).loc main_arg3))) (broadcastInDim S8192x1 ![] bcast_S_S8192x1 (constantI S_ 32 0#32))) (addi (broadcastInDim S8192x1 ![0] bcast_S8192_S8192x1_0 (m ((c.tc : Thread nD τ).loc main_arg3))) (broadcastInDim S8192x1 ![] bcast_S_S8192x1 (constantI S_ 32 32768#32))) (broadcastInDim S8192x1 ![0] bcast_S8192_S8192x1_0 (m ((c.tc : Thread nD τ).loc main_arg3)))) shapeCasts_S8192x1_S8192x1x1)) (broadcastInDim S8192x1 ![] bcast_S_S8192x1 (constant S_ .f32 0x7FC00000#32))) shapeCasts_S8192x1_S8192)) (broadcastInDim S8192 ![] bcast_S_S8192 (constant S_ .f32 0x41265AF6#32))) shapeCasts_S8192_S8192x1

/-- `res_main_v22` by its position among the values @main returns, 0 counting from 0: the name for hand proofs to cite, since
    a re-print renumbers `main_v22`. An abbreviation: it unfolds to the `res_main_v22` that `run` states. -/
abbrev res_out0 (c : Dev nD) : Buf (Elt F) ((c.tc : Thread nD τ).loc main_v22) := res_main_v22 m c

set_option maxRecDepth 8192 in
set_option maxHeartbeats 2000000 in
/-- The later operations from any contents `V0`, read at result `main_v22`. -/
theorem tail_main_v22 (V0 : Valuation τ sig (Elt F)) :
    after (List.flatten [Gen.hostOps1, Gen.hostOps1_1, Gen.hostOps1_2]) V0 (Proc.devRef .tc main_v22) = shapeCast _ (subf (subf (addf (Host.log (Host.reduceAdd (Host.exp (subf (Host.dotGeneral dot_S8192x7168_S7168x32768_S8192x32768_1_0_0_1_n_n none (V0 (Proc.devRef .tc main_arg0)) (shapeCast _ (mulf (shapeCast _ (V0 (Proc.devRef .tc main_v0)) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (V0 (Proc.devRef .tc main_arg2)) bitsLt_bf16_f32)))) shapeCasts_S56x128x256x128_S7168x32768)) (broadcastInDim S8192x32768 ![0, 1] bcast_S8192x1_S8192x32768_0_1 (broadcastInDim S8192x1 ![0] bcast_S8192_S8192x1_0 (Host.reduce FloatOps.maximumf (Host.dotGeneral dot_S8192x7168_S7168x32768_S8192x32768_1_0_0_1_n_n none (V0 (Proc.devRef .tc main_arg0)) (shapeCast _ (mulf (shapeCast _ (V0 (Proc.devRef .tc main_v0)) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (V0 (Proc.devRef .tc main_arg2)) bitsLt_bf16_f32)))) shapeCasts_S56x128x256x128_S7168x32768)) (constant S_ .f32 0xFF800000#32) reducesTo_S8192x32768_S8192_d1 h_S_))))) (constant S_ .f32 0x00000000#32) reducesTo_S8192x32768_S8192_d1 h_S_)) (Host.reduce FloatOps.maximumf (Host.dotGeneral dot_S8192x7168_S7168x32768_S8192x32768_1_0_0_1_n_n none (V0 (Proc.devRef .tc main_arg0)) (shapeCast _ (mulf (shapeCast _ (V0 (Proc.devRef .tc main_v0)) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (V0 (Proc.devRef .tc main_arg2)) bitsLt_bf16_f32)))) shapeCasts_S56x128x256x128_S7168x32768)) (constant S_ .f32 0xFF800000#32) reducesTo_S8192x32768_S8192_d1 h_S_)) (shapeCast _ (select (Host.reduce IntOp.andi (andi (cmpi .sge (shapeCast S8192x1x1 (select (cmpi .slt (broadcastInDim S8192x1 ![0] bcast_S8192_S8192x1_0 (V0 (Proc.devRef .tc main_arg3))) (broadcastInDim S8192x1 ![] bcast_S_S8192x1 (constantI S_ 32 0#32))) (addi (broadcastInDim S8192x1 ![0] bcast_S8192_S8192x1_0 (V0 (Proc.devRef .tc main_arg3))) (broadcastInDim S8192x1 ![] bcast_S_S8192x1 (constantI S_ 32 32768#32))) (broadcastInDim S8192x1 ![0] bcast_S8192_S8192x1_0 (V0 (Proc.devRef .tc main_arg3)))) shapeCasts_S8192x1_S8192x1x1) (broadcastInDim S8192x1x1 ![] bcast_S_S8192x1x1 (constantI S_ 32 0#32))) (cmpi .sle (shapeCast S8192x1x1 (select (cmpi .slt (broadcastInDim S8192x1 ![0] bcast_S8192_S8192x1_0 (V0 (Proc.devRef .tc main_arg3))) (broadcastInDim S8192x1 ![] bcast_S_S8192x1 (constantI S_ 32 0#32))) (addi (broadcastInDim S8192x1 ![0] bcast_S8192_S8192x1_0 (V0 (Proc.devRef .tc main_arg3))) (broadcastInDim S8192x1 ![] bcast_S_S8192x1 (constantI S_ 32 32768#32))) (broadcastInDim S8192x1 ![0] bcast_S8192_S8192x1_0 (V0 (Proc.devRef .tc main_arg3)))) shapeCasts_S8192x1_S8192x1x1) (broadcastInDim S8192x1x1 ![0, 1, 2] bcast_S1x1x1_S8192x1x1_0_1_2 (broadcastInDim S1x1x1 ![2] bcast_S1_S1x1x1_2 (constantI S1 32 32767#32))))) (constantI S_ 1 1#1) reducesTo_S8192x1x1_S8192x1_d2 h_S_) (Host.gather gather_S8192x32768_S8192x1x1_S8192x1_n_1_0_0_1_2_11 (Host.dotGeneral dot_S8192x7168_S7168x32768_S8192x32768_1_0_0_1_n_n none (V0 (Proc.devRef .tc main_arg0)) (shapeCast _ (mulf (shapeCast _ (V0 (Proc.devRef .tc main_v0)) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (V0 (Proc.devRef .tc main_arg2)) bitsLt_bf16_f32)))) shapeCasts_S56x128x256x128_S7168x32768)) (shapeCast S8192x1x1 (select (cmpi .slt (broadcastInDim S8192x1 ![0] bcast_S8192_S8192x1_0 (V0 (Proc.devRef .tc main_arg3))) (broadcastInDim S8192x1 ![] bcast_S_S8192x1 (constantI S_ 32 0#32))) (addi (broadcastInDim S8192x1 ![0] bcast_S8192_S8192x1_0 (V0 (Proc.devRef .tc main_arg3))) (broadcastInDim S8192x1 ![] bcast_S_S8192x1 (constantI S_ 32 32768#32))) (broadcastInDim S8192x1 ![0] bcast_S8192_S8192x1_0 (V0 (Proc.devRef .tc main_arg3)))) shapeCasts_S8192x1_S8192x1x1)) (broadcastInDim S8192x1 ![] bcast_S_S8192x1 (constant S_ .f32 0x7FC00000#32))) shapeCasts_S8192x1_S8192)) (broadcastInDim S8192 ![] bcast_S_S8192 (constant S_ .f32 0x41265AF6#32))) shapeCasts_S8192_S8192x1 := by
  simp only [Gen.hostOps1, Gen.hostOps1_1, Gen.hostOps1_2, TRef.binary, TRef.nullary, TRef.reshape, TRef.ternary, TRef.unary, TRef.toBuf, TRef.ofBuf, cast_eq, List.flatten_cons, List.flatten_nil, List.append_nil, List.cons_append, List.nil_append]
  after_results_simp <;> rfl
/-- Result `main_v22` after the later operations from the region's exit contents. -/
theorem fin_main_v22 (c : Dev nD) :
    Pipeline.afterTail₀ cfgs (Gen.dats m) 0 (Gen.V0 m) [Gen.hostOps1, Gen.hostOps1_1, Gen.hostOps1_2] c main_v22 = res_main_v22 m c :=
  by unfold res_main_v22; exact (tail_main_v22 (exitV m c)).trans (by rw [exit_main_arg0, exit_main_arg2, exit_main_arg3, exit_main_v0]; first | done | rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v22) = res_main_v22 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v22 (Pipeline.mem_restRefs_of main_v22 (by decide) (by decide))).trans (fin_main_v22 m c),
      ((h c).2 main_arg0 (Pipeline.mem_restRefs_of main_arg0 (by decide) (by decide))).trans (Gen.W_main_arg0 m (Gen.dats m) c),
      ((h c).1 0).trans (((Gen.dats m 0 c).arrAt_in 0 rfl _).trans ((Gen.A_eq m c 0).trans (Gen.V_main_arg1 m c))),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c)⟩) (Gen.run_main m ρ)

end Cert.ReferenceIdeal.Value

end
-- ==== Proof.RefRead.lean ====
/- The reference, one operation at a time, each read at an index. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %1 = stablehlo.reshape %0 : (tensor<7168x32768xbf16>) -> tensor<56x128x256x128xbf16>
def val_main_v1 (r0 : (⟨S7168x32768, .bf16⟩ : BufTy).Contents (Elt F)) : (⟨S56x128x256x128, .bf16⟩ : BufTy).Contents (Elt F) :=
  shapeCast _ (r0) shapeCasts_S7168x32768_S56x128x256x128
set_option backward.proofsInPublic true in
abbrev idx_main_v1 (i : S56x128x256x128.Idx) : S7168x32768.Idx := fun a => match a with
  | ⟨0, _⟩ => ⟨((((i 0).val * 128 + (i 1).val) * 256 + (i 2).val) * 128 + (i 3).val) / 32768, by have h0 : (i 0).val < 56 := (i 0).isLt; have h1 : (i 1).val < 128 := (i 1).isLt; have h2 : (i 2).val < 256 := (i 2).isLt; have h3 : (i 3).val < 128 := (i 3).isLt; show ((((i 0).val * 128 + (i 1).val) * 256 + (i 2).val) * 128 + (i 3).val) / 32768 < 7168; omega⟩
  | ⟨1, _⟩ => ⟨((((i 0).val * 128 + (i 1).val) * 256 + (i 2).val) * 128 + (i 3).val) % 32768, by have h0 : (i 0).val < 56 := (i 0).isLt; have h1 : (i 1).val < 128 := (i 1).isLt; have h2 : (i 2).val < 256 := (i 2).isLt; have h3 : (i 3).val < 128 := (i 3).isLt; show ((((i 0).val * 128 + (i 1).val) * 256 + (i 2).val) * 128 + (i 3).val) % 32768 < 32768; omega⟩
theorem val_main_v1_apply (r0 : (⟨S7168x32768, .bf16⟩ : BufTy).Contents (Elt F)) (i : S56x128x256x128.Idx) :
    val_main_v1 (F := F) r0 i = r0 (idx_main_v1 i) := by
  unfold val_main_v1
  exact shapeCast_apply r0 shapeCasts_S7168x32768_S56x128x256x128 i (idx_main_v1 i)
    (by rewrite [Shape.rowMajor_val_two, Shape.rowMajor_val_four]; have h0 : (i 0).val < 56 := (i 0).isLt; have h1 : (i 1).val < 128 := (i 1).isLt; have h2 : (i 2).val < 256 := (i 2).isLt; have h3 : (i 3).val < 128 := (i 3).isLt; show ((((i 0).val * 128 + (i 1).val) * 256 + (i 2).val) * 128 + (i 3).val) / 32768 * 32768 + ((((i 0).val * 128 + (i 1).val) * 256 + (i 2).val) * 128 + (i 3).val) % 32768 = (((i 0).val * 128 + (i 1).val) * 256 + (i 2).val) * 128 + (i 3).val; omega)

-- %2 = stablehlo.convert %arg2 : (tensor<56x256xf32>) -> tensor<56x256xbf16>
def val_main_v2 (x2 : (⟨S56x256, .f32⟩ : BufTy).Contents (Elt F)) : (⟨S56x256, .bf16⟩ : BufTy).Contents (Elt F) :=
  truncf .bf16 (x2) bitsLt_bf16_f32
theorem val_main_v2_apply (x2 : (⟨S56x256, .f32⟩ : BufTy).Contents (Elt F)) (i : S56x256.Idx) :
    val_main_v2 (F := F) x2 i = FloatOps.truncf .bf16 bitsLt_bf16_f32 (x2 i) := rfl

-- %3 = stablehlo.broadcast_in_dim %2, dims = [0, 2] : (tensor<56x256xbf16>) -> tensor<56x1x256x1xbf16>
def val_main_v3 (x2 : (⟨S56x256, .f32⟩ : BufTy).Contents (Elt F)) : (⟨S56x1x256x1, .bf16⟩ : BufTy).Contents (Elt F) :=
  broadcastInDim S56x1x256x1 ![0, 2] bcast_S56x256_S56x1x256x1_0_2 (val_main_v2 (F := F) x2)
abbrev idx_main_v3 (i : S56x1x256x1.Idx) : S56x256.Idx := fun a => match a with
  | ⟨0, _⟩ => ⟨(i 0).val, (i 0).isLt⟩
  | ⟨1, _⟩ => ⟨(i 2).val, (i 2).isLt⟩
theorem val_main_v3_apply (x2 : (⟨S56x256, .f32⟩ : BufTy).Contents (Elt F)) (i : S56x1x256x1.Idx) :
    val_main_v3 (F := F) x2 i = val_main_v2 (F := F) x2 (idx_main_v3 i) := by
  unfold val_main_v3
  generalize val_main_v2 (F := F) x2 = y
  exact broadcastInDim_apply _ bcast_S56x256_S56x1x256x1_0_2 y i (idx_main_v3 i) (fun a => match a with
    | ⟨0, _⟩ => by show (i 0).val = if (56 : Nat) = 1 then 0 else (i 0).val; rw [if_neg (by decide)]
    | ⟨1, _⟩ => by show (i 2).val = if (256 : Nat) = 1 then 0 else (i 2).val; rw [if_neg (by decide)])

-- %4 = stablehlo.broadcast_in_dim %3, dims = [0, 1, 2, 3] : (tensor<56x1x256x1xbf16>) -> tensor<56x128x256x128xbf16>
def val_main_v4 (x2 : (⟨S56x256, .f32⟩ : BufTy).Contents (Elt F)) : (⟨S56x128x256x128, .bf16⟩ : BufTy).Contents (Elt F) :=
  broadcastInDim S56x128x256x128 ![0, 1, 2, 3] bcast_S56x1x256x1_S56x128x256x128_0_1_2_3 (val_main_v3 (F := F) x2)
abbrev idx_main_v4 (i : S56x128x256x128.Idx) : S56x1x256x1.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨0, Nat.one_pos⟩
theorem val_main_v4_apply (x2 : (⟨S56x256, .f32⟩ : BufTy).Contents (Elt F)) (i : S56x128x256x128.Idx) :
    val_main_v4 (F := F) x2 i = val_main_v3 (F := F) x2 (idx_main_v4 i) := by
  unfold val_main_v4
  generalize val_main_v3 (F := F) x2 = y
  exact broadcastInDim_apply _ bcast_S56x1x256x1_S56x128x256x128_0_1_2_3 y i (idx_main_v4 i) (fun a => match a with
    | ⟨0, _⟩ => by show (i 0).val = if (56 : Nat) = 1 then 0 else (i 0).val; rw [if_neg (by decide)]
    | ⟨1, _⟩ => by show 0 = if (1 : Nat) = 1 then 0 else (i 1).val; rw [if_pos rfl]
    | ⟨2, _⟩ => by show (i 2).val = if (256 : Nat) = 1 then 0 else (i 2).val; rw [if_neg (by decide)]
    | ⟨3, _⟩ => by show 0 = if (1 : Nat) = 1 then 0 else (i 3).val; rw [if_pos rfl])

-- %5 = stablehlo.multiply %1, %4 : tensor<56x128x256x128xbf16>
def val_main_v5 (x2 : (⟨S56x256, .f32⟩ : BufTy).Contents (Elt F)) (r0 : (⟨S7168x32768, .bf16⟩ : BufTy).Contents (Elt F)) : (⟨S56x128x256x128, .bf16⟩ : BufTy).Contents (Elt F) :=
  mulf (val_main_v1 (F := F) r0) (val_main_v4 (F := F) x2)
theorem val_main_v5_apply (x2 : (⟨S56x256, .f32⟩ : BufTy).Contents (Elt F)) (r0 : (⟨S7168x32768, .bf16⟩ : BufTy).Contents (Elt F)) (i : S56x128x256x128.Idx) :
    val_main_v5 (F := F) x2 r0 i = FloatOps.mulf (val_main_v1 (F := F) r0 i) (val_main_v4 (F := F) x2 i) := rfl

-- %6 = stablehlo.reshape %5 : (tensor<56x128x256x128xbf16>) -> tensor<7168x32768xbf16>
def val_main_v6 (x2 : (⟨S56x256, .f32⟩ : BufTy).Contents (Elt F)) (r0 : (⟨S7168x32768, .bf16⟩ : BufTy).Contents (Elt F)) : (⟨S7168x32768, .bf16⟩ : BufTy).Contents (Elt F) :=
  shapeCast _ (val_main_v5 (F := F) x2 r0) shapeCasts_S56x128x256x128_S7168x32768
set_option backward.proofsInPublic true in
abbrev idx_main_v6 (i : S7168x32768.Idx) : S56x128x256x128.Idx := fun a => match a with
  | ⟨0, _⟩ => ⟨((i 0).val * 32768 + (i 1).val) / 4194304, by have h0 : (i 0).val < 7168 := (i 0).isLt; have h1 : (i 1).val < 32768 := (i 1).isLt; show ((i 0).val * 32768 + (i 1).val) / 4194304 < 56; omega⟩
  | ⟨1, _⟩ => ⟨((i 0).val * 32768 + (i 1).val) / 32768 % 128, by have h0 : (i 0).val < 7168 := (i 0).isLt; have h1 : (i 1).val < 32768 := (i 1).isLt; show ((i 0).val * 32768 + (i 1).val) / 32768 % 128 < 128; omega⟩
  | ⟨2, _⟩ => ⟨((i 0).val * 32768 + (i 1).val) / 128 % 256, by have h0 : (i 0).val < 7168 := (i 0).isLt; have h1 : (i 1).val < 32768 := (i 1).isLt; show ((i 0).val * 32768 + (i 1).val) / 128 % 256 < 256; omega⟩
  | ⟨3, _⟩ => ⟨((i 0).val * 32768 + (i 1).val) % 128, by have h0 : (i 0).val < 7168 := (i 0).isLt; have h1 : (i 1).val < 32768 := (i 1).isLt; show ((i 0).val * 32768 + (i 1).val) % 128 < 128; omega⟩
theorem val_main_v6_apply (x2 : (⟨S56x256, .f32⟩ : BufTy).Contents (Elt F)) (r0 : (⟨S7168x32768, .bf16⟩ : BufTy).Contents (Elt F)) (i : S7168x32768.Idx) :
    val_main_v6 (F := F) x2 r0 i = val_main_v5 (F := F) x2 r0 (idx_main_v6 i) := by
  unfold val_main_v6
  generalize val_main_v5 (F := F) x2 r0 = y
  exact shapeCast_apply y shapeCasts_S56x128x256x128_S7168x32768 i (idx_main_v6 i)
    (by rewrite [Shape.rowMajor_val_four, Shape.rowMajor_val_two]; have h0 : (i 0).val < 7168 := (i 0).isLt; have h1 : (i 1).val < 32768 := (i 1).isLt; show ((((i 0).val * 32768 + (i 1).val) / 4194304 * 128 + ((i 0).val * 32768 + (i 1).val) / 32768 % 128) * 256 + ((i 0).val * 32768 + (i 1).val) / 128 % 256) * 128 + ((i 0).val * 32768 + (i 1).val) % 128 = (i 0).val * 32768 + (i 1).val; omega)

-- %7 = stablehlo.dot_general %arg0, %6, contracting_dims = [1] x [0], precision = [DEFAULT, DEFAULT] : (tensor<8192x7168xbf16>, tensor<7168x32768xbf16>) -> tensor<8192x32768xf32>
def val_main_v7 (x0 : (⟨S8192x7168, .bf16⟩ : BufTy).Contents (Elt F)) (x2 : (⟨S56x256, .f32⟩ : BufTy).Contents (Elt F)) (r0 : (⟨S7168x32768, .bf16⟩ : BufTy).Contents (Elt F)) : (⟨S8192x32768, .f32⟩ : BufTy).Contents (Elt F) :=
  Host.dotGeneral dot_S8192x7168_S7168x32768_S8192x32768_1_0_0_1_n_n none (x0) (val_main_v6 (F := F) x2 r0)
theorem lhs_main_v7_0 (i : S8192x32768.Idx) (q : dot_S8192x7168_S7168x32768_S8192x32768_1_0_0_1_n_n.contr.Idx) :
    (dot_S8192x7168_S7168x32768_S8192x32768_1_0_0_1_n_n.lhsIdx i q 0).val = (i 0).val := by
  unfold DotDims.lhsIdx
  rw [dif_neg (show ¬(0 : Fin S8192x7168.rank) ∈ dot_S8192x7168_S7168x32768_S8192x32768_1_0_0_1_n_n.lhsBatch by decide), dif_pos (show (0 : Fin S8192x7168.rank) ∈ dot_S8192x7168_S7168x32768_S8192x32768_1_0_0_1_n_n.lhsNonContracting by decide)]
  rfl
theorem lhs_main_v7_1 (i : S8192x32768.Idx) (q : dot_S8192x7168_S7168x32768_S8192x32768_1_0_0_1_n_n.contr.Idx) :
    (dot_S8192x7168_S7168x32768_S8192x32768_1_0_0_1_n_n.lhsIdx i q 1).val = (q ⟨0, by decide⟩).val :=
  dot_S8192x7168_S7168x32768_S8192x32768_1_0_0_1_n_n.lhsIdx_val_of_single rfl i q
theorem rhs_main_v7_0 (i : S8192x32768.Idx) (q : dot_S8192x7168_S7168x32768_S8192x32768_1_0_0_1_n_n.contr.Idx) :
    (dot_S8192x7168_S7168x32768_S8192x32768_1_0_0_1_n_n.rhsIdx i q 0).val = (q ⟨0, by decide⟩).val :=
  dot_S8192x7168_S7168x32768_S8192x32768_1_0_0_1_n_n.rhsIdx_val_of_single rfl i q
theorem rhs_main_v7_1 (i : S8192x32768.Idx) (q : dot_S8192x7168_S7168x32768_S8192x32768_1_0_0_1_n_n.contr.Idx) :
    (dot_S8192x7168_S7168x32768_S8192x32768_1_0_0_1_n_n.rhsIdx i q 1).val = (i 1).val := by
  unfold DotDims.rhsIdx
  rw [dif_neg (show ¬(1 : Fin S7168x32768.rank) ∈ dot_S8192x7168_S7168x32768_S8192x32768_1_0_0_1_n_n.rhsBatch by decide), dif_pos (show (1 : Fin S7168x32768.rank) ∈ dot_S8192x7168_S7168x32768_S8192x32768_1_0_0_1_n_n.rhsNonContracting by decide)]
  rfl
abbrev lidx_main_v7 (i : S8192x32768.Idx) (k : Fin 7168) : S8192x7168.Idx := fun a => match a with
  | ⟨0, _⟩ => ⟨(i 0).val, (i 0).isLt⟩
  | ⟨1, _⟩ => ⟨k.val, k.isLt⟩
abbrev ridx_main_v7 (i : S8192x32768.Idx) (k : Fin 7168) : S7168x32768.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v7_apply (x0 : (⟨S8192x7168, .bf16⟩ : BufTy).Contents (Elt Ideal)) (x2 : (⟨S56x256, .f32⟩ : BufTy).Contents (Elt Ideal)) (r0 : (⟨S7168x32768, .bf16⟩ : BufTy).Contents (Elt Ideal)) (i : S8192x32768.Idx) :
    val_main_v7 (F := Ideal) x0 x2 r0 i = ∑ k : Fin 7168, x0 (lidx_main_v7 i k) * (val_main_v6 (F := Ideal) x2 r0) (ridx_main_v7 i k) := by
  unfold val_main_v7
  generalize val_main_v6 (F := Ideal) x2 r0 = y0
  simp only [Host.dotGeneral]
  rw [Ideal.dotGeneral_apply, ← Equiv.sum_comp (ValueIdx.contrEquiv1 dot_S8192x7168_S7168x32768_S8192x32768_1_0_0_1_n_n 7168 rfl rfl).symm]
  refine Finset.sum_congr rfl fun k _ => ?_
  have hk := ValueIdx.contrEquiv1_symm_val dot_S8192x7168_S7168x32768_S8192x32768_1_0_0_1_n_n 7168 rfl rfl k
  have el : dot_S8192x7168_S7168x32768_S8192x32768_1_0_0_1_n_n.lhsIdx i ((ValueIdx.contrEquiv1 dot_S8192x7168_S7168x32768_S8192x32768_1_0_0_1_n_n 7168 rfl rfl).symm k) = lidx_main_v7 i k := funext fun a => Fin.ext (by
    match a with
    | ⟨0, _⟩ => exact lhs_main_v7_0 _ _
    | ⟨1, _⟩ => exact (lhs_main_v7_1 _ _).trans hk)
  have er : dot_S8192x7168_S7168x32768_S8192x32768_1_0_0_1_n_n.rhsIdx i ((ValueIdx.contrEquiv1 dot_S8192x7168_S7168x32768_S8192x32768_1_0_0_1_n_n 7168 rfl rfl).symm k) = ridx_main_v7 i k := funext fun a => Fin.ext (by
    match a with
    | ⟨0, _⟩ => exact (rhs_main_v7_0 _ _).trans hk
    | ⟨1, _⟩ => exact rhs_main_v7_1 _ _)
  rw [el, er]

-- %cst = stablehlo.constant dense<0xFF800000> : tensor<f32>
def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

-- %8 = stablehlo.reduce(%7 init: %cst) applies stablehlo.maximum across dimensions = [1] : (tensor<8192x32768xf32>, tensor<f32>) -> tensor<8192xf32> {
def val_main_v8 (x0 : (⟨S8192x7168, .bf16⟩ : BufTy).Contents (Elt F)) (x2 : (⟨S56x256, .f32⟩ : BufTy).Contents (Elt F)) (r0 : (⟨S7168x32768, .bf16⟩ : BufTy).Contents (Elt F)) : (⟨S8192, .f32⟩ : BufTy).Contents (Elt F) :=
  Host.reduce FloatOps.maximumf (val_main_v7 (F := F) x0 x2 r0) (val_main_cst (F := F)) reducesTo_S8192x32768_S8192_d1 h_S_

-- %9 = stablehlo.broadcast_in_dim %8, dims = [0] : (tensor<8192xf32>) -> tensor<8192x1xf32>
def val_main_v9 (x0 : (⟨S8192x7168, .bf16⟩ : BufTy).Contents (Elt F)) (x2 : (⟨S56x256, .f32⟩ : BufTy).Contents (Elt F)) (r0 : (⟨S7168x32768, .bf16⟩ : BufTy).Contents (Elt F)) : (⟨S8192x1, .f32⟩ : BufTy).Contents (Elt F) :=
  broadcastInDim S8192x1 ![0] bcast_S8192_S8192x1_0 (val_main_v8 (F := F) x0 x2 r0)
abbrev idx_main_v9 (i : S8192x1.Idx) : S8192.Idx := fun a => match a with
  | ⟨0, _⟩ => ⟨(i 0).val, (i 0).isLt⟩
theorem val_main_v9_apply (x0 : (⟨S8192x7168, .bf16⟩ : BufTy).Contents (Elt F)) (x2 : (⟨S56x256, .f32⟩ : BufTy).Contents (Elt F)) (r0 : (⟨S7168x32768, .bf16⟩ : BufTy).Contents (Elt F)) (i : S8192x1.Idx) :
    val_main_v9 (F := F) x0 x2 r0 i = val_main_v8 (F := F) x0 x2 r0 (idx_main_v9 i) := by
  unfold val_main_v9
  generalize val_main_v8 (F := F) x0 x2 r0 = y
  exact broadcastInDim_apply _ bcast_S8192_S8192x1_0 y i (idx_main_v9 i) (fun a => match a with
    | ⟨0, _⟩ => by show (i 0).val = if (8192 : Nat) = 1 then 0 else (i 0).val; rw [if_neg (by decide)])

-- %10 = stablehlo.broadcast_in_dim %9, dims = [0, 1] : (tensor<8192x1xf32>) -> tensor<8192x32768xf32>
def val_main_v10 (x0 : (⟨S8192x7168, .bf16⟩ : BufTy).Contents (Elt F)) (x2 : (⟨S56x256, .f32⟩ : BufTy).Contents (Elt F)) (r0 : (⟨S7168x32768, .bf16⟩ : BufTy).Contents (Elt F)) : (⟨S8192x32768, .f32⟩ : BufTy).Contents (Elt F) :=
  broadcastInDim S8192x32768 ![0, 1] bcast_S8192x1_S8192x32768_0_1 (val_main_v9 (F := F) x0 x2 r0)
abbrev idx_main_v10 (i : S8192x32768.Idx) : S8192x1.Idx := fun a => match a with
  | ⟨0, _⟩ => ⟨(i 0).val, (i 0).isLt⟩
  | ⟨1, _⟩ => ⟨0, Nat.one_pos⟩
theorem val_main_v10_apply (x0 : (⟨S8192x7168, .bf16⟩ : BufTy).Contents (Elt F)) (x2 : (⟨S56x256, .f32⟩ : BufTy).Contents (Elt F)) (r0 : (⟨S7168x32768, .bf16⟩ : BufTy).Contents (Elt F)) (i : S8192x32768.Idx) :
    val_main_v10 (F := F) x0 x2 r0 i = val_main_v9 (F := F) x0 x2 r0 (idx_main_v10 i) := by
  unfold val_main_v10
  generalize val_main_v9 (F := F) x0 x2 r0 = y
  exact broadcastInDim_apply _ bcast_S8192x1_S8192x32768_0_1 y i (idx_main_v10 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %11 = stablehlo.subtract %7, %10 : tensor<8192x32768xf32>
def val_main_v11 (x0 : (⟨S8192x7168, .bf16⟩ : BufTy).Contents (Elt F)) (x2 : (⟨S56x256, .f32⟩ : BufTy).Contents (Elt F)) (r0 : (⟨S7168x32768, .bf16⟩ : BufTy).Contents (Elt F)) : (⟨S8192x32768, .f32⟩ : BufTy).Contents (Elt F) :=
  subf (val_main_v7 (F := F) x0 x2 r0) (val_main_v10 (F := F) x0 x2 r0)
theorem val_main_v11_apply (x0 : (⟨S8192x7168, .bf16⟩ : BufTy).Contents (Elt F)) (x2 : (⟨S56x256, .f32⟩ : BufTy).Contents (Elt F)) (r0 : (⟨S7168x32768, .bf16⟩ : BufTy).Contents (Elt F)) (i : S8192x32768.Idx) :
    val_main_v11 (F := F) x0 x2 r0 i = FloatOps.subf (val_main_v7 (F := F) x0 x2 r0 i) (val_main_v10 (F := F) x0 x2 r0 i) := rfl

-- %12 = stablehlo.exponential %11 : tensor<8192x32768xf32>
def val_main_v12 (x0 : (⟨S8192x7168, .bf16⟩ : BufTy).Contents (Elt F)) (x2 : (⟨S56x256, .f32⟩ : BufTy).Contents (Elt F)) (r0 : (⟨S7168x32768, .bf16⟩ : BufTy).Contents (Elt F)) : (⟨S8192x32768, .f32⟩ : BufTy).Contents (Elt F) :=
  Host.exp (val_main_v11 (F := F) x0 x2 r0)
theorem val_main_v12_apply (x0 : (⟨S8192x7168, .bf16⟩ : BufTy).Contents (Elt F)) (x2 : (⟨S56x256, .f32⟩ : BufTy).Contents (Elt F)) (r0 : (⟨S7168x32768, .bf16⟩ : BufTy).Contents (Elt F)) (i : S8192x32768.Idx) :
    val_main_v12 (F := F) x0 x2 r0 i = FloatOps.hostUnary .exp (val_main_v11 (F := F) x0 x2 r0 i) := rfl

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %13 = stablehlo.reduce(%12 init: %cst_0) applies stablehlo.add across dimensions = [1] : (tensor<8192x32768xf32>, tensor<f32>) -> tensor<8192xf32> {
def val_main_v13 (x0 : (⟨S8192x7168, .bf16⟩ : BufTy).Contents (Elt F)) (x2 : (⟨S56x256, .f32⟩ : BufTy).Contents (Elt F)) (r0 : (⟨S7168x32768, .bf16⟩ : BufTy).Contents (Elt F)) : (⟨S8192, .f32⟩ : BufTy).Contents (Elt F) :=
  Host.reduceAdd (val_main_v12 (F := F) x0 x2 r0) (val_main_cst_0 (F := F)) reducesTo_S8192x32768_S8192_d1 h_S_
abbrev idx_main_v13 (i : S8192.Idx) (k : Fin 32768) : S8192x32768.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v13_apply (x0 : (⟨S8192x7168, .bf16⟩ : BufTy).Contents (Elt Ideal)) (x2 : (⟨S56x256, .f32⟩ : BufTy).Contents (Elt Ideal)) (r0 : (⟨S7168x32768, .bf16⟩ : BufTy).Contents (Elt Ideal)) (i : S8192.Idx) :
    val_main_v13 (F := Ideal) x0 x2 r0 i = (val_main_cst_0 (F := Ideal)) (Shape.Idx.first h_S_) + ∑ k : Fin 32768, (val_main_v12 (F := Ideal) x0 x2 r0) (idx_main_v13 i k) := by
  unfold val_main_v13
  generalize val_main_v12 (F := Ideal) x0 x2 r0 = y0
  simp only [Host.reduceAdd, Ideal.hostReduceAdd_def]
  rw [Ideal.hostReduceAdd_single reducesTo_S8192x32768_S8192_d1 (by decide)]
  refine congrArg (_ + ·) (Finset.sum_congr rfl fun k _ => ?_)
  exact congrArg y0 (funext fun a => Fin.ext (by match a with | ⟨0, _⟩ => rfl | ⟨1, _⟩ => rfl))

-- %14 = stablehlo.log %13 : tensor<8192xf32>
def val_main_v14 (x0 : (⟨S8192x7168, .bf16⟩ : BufTy).Contents (Elt F)) (x2 : (⟨S56x256, .f32⟩ : BufTy).Contents (Elt F)) (r0 : (⟨S7168x32768, .bf16⟩ : BufTy).Contents (Elt F)) : (⟨S8192, .f32⟩ : BufTy).Contents (Elt F) :=
  Host.log (val_main_v13 (F := F) x0 x2 r0)
theorem val_main_v14_apply (x0 : (⟨S8192x7168, .bf16⟩ : BufTy).Contents (Elt F)) (x2 : (⟨S56x256, .f32⟩ : BufTy).Contents (Elt F)) (r0 : (⟨S7168x32768, .bf16⟩ : BufTy).Contents (Elt F)) (i : S8192.Idx) :
    val_main_v14 (F := F) x0 x2 r0 i = FloatOps.hostUnary .log (val_main_v13 (F := F) x0 x2 r0 i) := rfl

-- %15 = stablehlo.add %14, %8 : tensor<8192xf32>
def val_main_v15 (x0 : (⟨S8192x7168, .bf16⟩ : BufTy).Contents (Elt F)) (x2 : (⟨S56x256, .f32⟩ : BufTy).Contents (Elt F)) (r0 : (⟨S7168x32768, .bf16⟩ : BufTy).Contents (Elt F)) : (⟨S8192, .f32⟩ : BufTy).Contents (Elt F) :=
  addf (val_main_v14 (F := F) x0 x2 r0) (val_main_v8 (F := F) x0 x2 r0)
theorem val_main_v15_apply (x0 : (⟨S8192x7168, .bf16⟩ : BufTy).Contents (Elt F)) (x2 : (⟨S56x256, .f32⟩ : BufTy).Contents (Elt F)) (r0 : (⟨S7168x32768, .bf16⟩ : BufTy).Contents (Elt F)) (i : S8192.Idx) :
    val_main_v15 (F := F) x0 x2 r0 i = FloatOps.addf (val_main_v14 (F := F) x0 x2 r0 i) (val_main_v8 (F := F) x0 x2 r0 i) := rfl

-- %16 = stablehlo.broadcast_in_dim %arg3, dims = [0] : (tensor<8192xi32>) -> tensor<8192x1xi32>
def val_main_v16 (x3 : (⟨S8192, .i32⟩ : BufTy).Contents (Elt F)) : (⟨S8192x1, .i32⟩ : BufTy).Contents (Elt F) :=
  broadcastInDim S8192x1 ![0] bcast_S8192_S8192x1_0 (x3)
abbrev idx_main_v16 (i : S8192x1.Idx) : S8192.Idx := fun a => match a with
  | ⟨0, _⟩ => ⟨(i 0).val, (i 0).isLt⟩
theorem val_main_v16_apply (x3 : (⟨S8192, .i32⟩ : BufTy).Contents (Elt F)) (i : S8192x1.Idx) :
    val_main_v16 (F := F) x3 i = x3 (idx_main_v16 i) := by
  unfold val_main_v16
  exact broadcastInDim_apply _ bcast_S8192_S8192x1_0 x3 i (idx_main_v16 i) (fun a => match a with
    | ⟨0, _⟩ => by show (i 0).val = if (8192 : Nat) = 1 then 0 else (i 0).val; rw [if_neg (by decide)])

-- @take_along_axis's %c = stablehlo.constant dense<0> : tensor<i32>, in %17 = func.call @take_along_axis(…) (record main_call0)
def val_main_call0_c : (⟨S_, .i32⟩ : BufTy).Contents (Elt F) :=
  constantI S_ 32 0#32
theorem val_main_call0_c_apply (i : S_.Idx) :
    val_main_call0_c (F := F) i = 0#32 := rfl

-- @take_along_axis's %0 = stablehlo.broadcast_in_dim %c, dims = [] : (tensor<i32>) -> tensor<8192x1xi32>, in %17 = func.call @take_along_axis(…) (record main_call0)
def val_main_call0_v0 : (⟨S8192x1, .i32⟩ : BufTy).Contents (Elt F) :=
  broadcastInDim S8192x1 ![] bcast_S_S8192x1 (val_main_call0_c (F := F))
abbrev idx_main_call0_v0 (i : S8192x1.Idx) : S_.Idx := fun a => a.elim0
theorem val_main_call0_v0_apply (i : S8192x1.Idx) :
    val_main_call0_v0 (F := F) i = val_main_call0_c (F := F) (idx_main_call0_v0 i) := by
  unfold val_main_call0_v0
  generalize val_main_call0_c (F := F) = y
  exact broadcastInDim_apply _ bcast_S_S8192x1 y i (idx_main_call0_v0 i) (fun a => a.elim0)

-- @take_along_axis's %1 = stablehlo.compare LT, %arg1, %0, SIGNED : (tensor<8192x1xi32>, tensor<8192x1xi32>) -> tensor<8192x1xi1>, in %17 = func.call @take_along_axis(…) (record main_call0)
def val_main_call0_v1 (x3 : (⟨S8192, .i32⟩ : BufTy).Contents (Elt F)) : (⟨S8192x1, .i1⟩ : BufTy).Contents (Elt F) :=
  cmpi .slt (val_main_v16 (F := F) x3) (val_main_call0_v0 (F := F))
theorem val_main_call0_v1_apply (x3 : (⟨S8192, .i32⟩ : BufTy).Contents (Elt F)) (i : S8192x1.Idx) :
    val_main_call0_v1 (F := F) x3 i = IntOp.cmpi .slt (val_main_v16 (F := F) x3 i) (val_main_call0_v0 (F := F) i) := rfl

-- @take_along_axis's %c_0 = stablehlo.constant dense<32768> : tensor<i32>, in %17 = func.call @take_along_axis(…) (record main_call0)
def val_main_call0_c_0 : (⟨S_, .i32⟩ : BufTy).Contents (Elt F) :=
  constantI S_ 32 32768#32
theorem val_main_call0_c_0_apply (i : S_.Idx) :
    val_main_call0_c_0 (F := F) i = 32768#32 := rfl

-- @take_along_axis's %2 = stablehlo.broadcast_in_dim %c_0, dims = [] : (tensor<i32>) -> tensor<8192x1xi32>, in %17 = func.call @take_along_axis(…) (record main_call0)
def val_main_call0_v2 : (⟨S8192x1, .i32⟩ : BufTy).Contents (Elt F) :=
  broadcastInDim S8192x1 ![] bcast_S_S8192x1 (val_main_call0_c_0 (F := F))
abbrev idx_main_call0_v2 (i : S8192x1.Idx) : S_.Idx := fun a => a.elim0
theorem val_main_call0_v2_apply (i : S8192x1.Idx) :
    val_main_call0_v2 (F := F) i = val_main_call0_c_0 (F := F) (idx_main_call0_v2 i) := by
  unfold val_main_call0_v2
  generalize val_main_call0_c_0 (F := F) = y
  exact broadcastInDim_apply _ bcast_S_S8192x1 y i (idx_main_call0_v2 i) (fun a => a.elim0)

-- @take_along_axis's %3 = stablehlo.add %arg1, %2 : tensor<8192x1xi32>, in %17 = func.call @take_along_axis(…) (record main_call0)
def val_main_call0_v3 (x3 : (⟨S8192, .i32⟩ : BufTy).Contents (Elt F)) : (⟨S8192x1, .i32⟩ : BufTy).Contents (Elt F) :=
  addi (val_main_v16 (F := F) x3) (val_main_call0_v2 (F := F))
theorem val_main_call0_v3_apply (x3 : (⟨S8192, .i32⟩ : BufTy).Contents (Elt F)) (i : S8192x1.Idx) :
    val_main_call0_v3 (F := F) x3 i = IntOp.addi (val_main_v16 (F := F) x3 i) (val_main_call0_v2 (F := F) i) := rfl

-- @take_along_axis's %4 = stablehlo.select %1, %3, %arg1 : tensor<8192x1xi1>, tensor<8192x1xi32>, in %17 = func.call @take_along_axis(…) (record main_call0)
def val_main_call0_v4 (x3 : (⟨S8192, .i32⟩ : BufTy).Contents (Elt F)) : (⟨S8192x1, .i32⟩ : BufTy).Contents (Elt F) :=
  select (val_main_call0_v1 (F := F) x3) (val_main_call0_v3 (F := F) x3) (val_main_v16 (F := F) x3)
theorem val_main_call0_v4_apply (x3 : (⟨S8192, .i32⟩ : BufTy).Contents (Elt F)) (i : S8192x1.Idx) :
    val_main_call0_v4 (F := F) x3 i = Scalar.select (val_main_call0_v1 (F := F) x3 i) (val_main_call0_v3 (F := F) x3 i) (val_main_v16 (F := F) x3 i) := rfl

-- @take_along_axis's %5 = stablehlo.reshape %4 : (tensor<8192x1xi32>) -> tensor<8192x1x1xi32>, in %17 = func.call @take_along_axis(…) (record main_call0)
def val_main_call0_v5 (x3 : (⟨S8192, .i32⟩ : BufTy).Contents (Elt F)) : (⟨S8192x1x1, .i32⟩ : BufTy).Contents (Elt F) :=
  shapeCast S8192x1x1 (val_main_call0_v4 (F := F) x3) shapeCasts_S8192x1_S8192x1x1
set_option backward.proofsInPublic true in
abbrev idx_main_call0_v5 (i : S8192x1x1.Idx) : S8192x1.Idx := fun a => match a with
  | ⟨0, _⟩ => ⟨(((i 0).val * 1 + (i 1).val) * 1 + (i 2).val) / 1, by have h0 : (i 0).val < 8192 := (i 0).isLt; have h1 : (i 1).val < 1 := (i 1).isLt; have h2 : (i 2).val < 1 := (i 2).isLt; show (((i 0).val * 1 + (i 1).val) * 1 + (i 2).val) / 1 < 8192; omega⟩
  | ⟨1, _⟩ => ⟨0, Nat.one_pos⟩
theorem val_main_call0_v5_apply (x3 : (⟨S8192, .i32⟩ : BufTy).Contents (Elt F)) (i : S8192x1x1.Idx) :
    val_main_call0_v5 (F := F) x3 i = val_main_call0_v4 (F := F) x3 (idx_main_call0_v5 i) := by
  unfold val_main_call0_v5
  generalize val_main_call0_v4 (F := F) x3 = y
  exact shapeCast_apply y shapeCasts_S8192x1_S8192x1x1 i (idx_main_call0_v5 i)
    (by rewrite [Shape.rowMajor_val_two, Shape.rowMajor_val_three]; have h0 : (i 0).val < 8192 := (i 0).isLt; have h1 : (i 1).val < 1 := (i 1).isLt; have h2 : (i 2).val < 1 := (i 2).isLt; show (((i 0).val * 1 + (i 1).val) * 1 + (i 2).val) / 1 * 1 + 0 = ((i 0).val * 1 + (i 1).val) * 1 + (i 2).val; omega)

-- @take_along_axis's %c_1 = stablehlo.constant dense<32767> : tensor<1xi32>, in %17 = func.call @take_along_axis(…) (record main_call0)
def val_main_call0_c_1 : (⟨S1, .i32⟩ : BufTy).Contents (Elt F) :=
  constantI S1 32 32767#32
theorem val_main_call0_c_1_apply (i : S1.Idx) :
    val_main_call0_c_1 (F := F) i = 32767#32 := rfl

-- @take_along_axis's %c_2 = stablehlo.constant dense<0> : tensor<i32>, in %17 = func.call @take_along_axis(…) (record main_call0)
def val_main_call0_c_2 : (⟨S_, .i32⟩ : BufTy).Contents (Elt F) :=
  constantI S_ 32 0#32
theorem val_main_call0_c_2_apply (i : S_.Idx) :
    val_main_call0_c_2 (F := F) i = 0#32 := rfl

-- @take_along_axis's %6 = stablehlo.broadcast_in_dim %c_2, dims = [] : (tensor<i32>) -> tensor<8192x1x1xi32>, in %17 = func.call @take_along_axis(…) (record main_call0)
def val_main_call0_v6 : (⟨S8192x1x1, .i32⟩ : BufTy).Contents (Elt F) :=
  broadcastInDim S8192x1x1 ![] bcast_S_S8192x1x1 (val_main_call0_c_2 (F := F))
abbrev idx_main_call0_v6 (i : S8192x1x1.Idx) : S_.Idx := fun a => a.elim0
theorem val_main_call0_v6_apply (i : S8192x1x1.Idx) :
    val_main_call0_v6 (F := F) i = val_main_call0_c_2 (F := F) (idx_main_call0_v6 i) := by
  unfold val_main_call0_v6
  generalize val_main_call0_c_2 (F := F) = y
  exact broadcastInDim_apply _ bcast_S_S8192x1x1 y i (idx_main_call0_v6 i) (fun a => a.elim0)

-- @take_along_axis's %7 = stablehlo.compare GE, %5, %6, SIGNED : (tensor<8192x1x1xi32>, tensor<8192x1x1xi32>) -> tensor<8192x1x1xi1>, in %17 = func.call @take_along_axis(…) (record main_call0)
def val_main_call0_v7 (x3 : (⟨S8192, .i32⟩ : BufTy).Contents (Elt F)) : (⟨S8192x1x1, .i1⟩ : BufTy).Contents (Elt F) :=
  cmpi .sge (val_main_call0_v5 (F := F) x3) (val_main_call0_v6 (F := F))
theorem val_main_call0_v7_apply (x3 : (⟨S8192, .i32⟩ : BufTy).Contents (Elt F)) (i : S8192x1x1.Idx) :
    val_main_call0_v7 (F := F) x3 i = IntOp.cmpi .sge (val_main_call0_v5 (F := F) x3 i) (val_main_call0_v6 (F := F) i) := rfl

-- @take_along_axis's %8 = stablehlo.broadcast_in_dim %c_1, dims = [2] : (tensor<1xi32>) -> tensor<1x1x1xi32>, in %17 = func.call @take_along_axis(…) (record main_call0)
def val_main_call0_v8 : (⟨S1x1x1, .i32⟩ : BufTy).Contents (Elt F) :=
  broadcastInDim S1x1x1 ![2] bcast_S1_S1x1x1_2 (val_main_call0_c_1 (F := F))
abbrev idx_main_call0_v8 (i : S1x1x1.Idx) : S1.Idx := fun a => match a with
  | ⟨0, _⟩ => ⟨0, Nat.one_pos⟩
theorem val_main_call0_v8_apply (i : S1x1x1.Idx) :
    val_main_call0_v8 (F := F) i = val_main_call0_c_1 (F := F) (idx_main_call0_v8 i) := by
  unfold val_main_call0_v8
  generalize val_main_call0_c_1 (F := F) = y
  exact broadcastInDim_apply _ bcast_S1_S1x1x1_2 y i (idx_main_call0_v8 i) (fun a => match a with
    | ⟨0, _⟩ => by show 0 = if (1 : Nat) = 1 then 0 else (i 2).val; rw [if_pos rfl])

-- @take_along_axis's %9 = stablehlo.broadcast_in_dim %8, dims = [0, 1, 2] : (tensor<1x1x1xi32>) -> tensor<8192x1x1xi32>, in %17 = func.call @take_along_axis(…) (record main_call0)
def val_main_call0_v9 : (⟨S8192x1x1, .i32⟩ : BufTy).Contents (Elt F) :=
  broadcastInDim S8192x1x1 ![0, 1, 2] bcast_S1x1x1_S8192x1x1_0_1_2 (val_main_call0_v8 (F := F))
abbrev idx_main_call0_v9 (i : S8192x1x1.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_call0_v9_apply (i : S8192x1x1.Idx) :
    val_main_call0_v9 (F := F) i = val_main_call0_v8 (F := F) (idx_main_call0_v9 i) := by
  unfold val_main_call0_v9
  generalize val_main_call0_v8 (F := F) = y
  exact broadcastInDim_apply _ bcast_S1x1x1_S8192x1x1_0_1_2 y i (idx_main_call0_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

-- @take_along_axis's %10 = stablehlo.compare LE, %5, %9, SIGNED : (tensor<8192x1x1xi32>, tensor<8192x1x1xi32>) -> tensor<8192x1x1xi1>, in %17 = func.call @take_along_axis(…) (record main_call0)
def val_main_call0_v10 (x3 : (⟨S8192, .i32⟩ : BufTy).Contents (Elt F)) : (⟨S8192x1x1, .i1⟩ : BufTy).Contents (Elt F) :=
  cmpi .sle (val_main_call0_v5 (F := F) x3) (val_main_call0_v9 (F := F))
theorem val_main_call0_v10_apply (x3 : (⟨S8192, .i32⟩ : BufTy).Contents (Elt F)) (i : S8192x1x1.Idx) :
    val_main_call0_v10 (F := F) x3 i = IntOp.cmpi .sle (val_main_call0_v5 (F := F) x3 i) (val_main_call0_v9 (F := F) i) := rfl

-- @take_along_axis's %11 = stablehlo.and %7, %10 : tensor<8192x1x1xi1>, in %17 = func.call @take_along_axis(…) (record main_call0)
def val_main_call0_v11 (x3 : (⟨S8192, .i32⟩ : BufTy).Contents (Elt F)) : (⟨S8192x1x1, .i1⟩ : BufTy).Contents (Elt F) :=
  andi (val_main_call0_v7 (F := F) x3) (val_main_call0_v10 (F := F) x3)
theorem val_main_call0_v11_apply (x3 : (⟨S8192, .i32⟩ : BufTy).Contents (Elt F)) (i : S8192x1x1.Idx) :
    val_main_call0_v11 (F := F) x3 i = IntOp.andi (val_main_call0_v7 (F := F) x3 i) (val_main_call0_v10 (F := F) x3 i) := rfl

-- @take_along_axis's %c_3 = stablehlo.constant dense<true> : tensor<i1>, in %17 = func.call @take_along_axis(…) (record main_call0)
def val_main_call0_c_3 : (⟨S_, .i1⟩ : BufTy).Contents (Elt F) :=
  constantI S_ 1 1#1
theorem val_main_call0_c_3_apply (i : S_.Idx) :
    val_main_call0_c_3 (F := F) i = 1#1 := rfl

-- @take_along_axis's %12 = stablehlo.reduce(%11 init: %c_3) applies stablehlo.and across dimensions = [2] : (tensor<8192x1x1xi1>, tensor<i1>) -> tensor<8192x1xi1> {, in %17 = func.call @take_along_axis(…) (record main_call0)
def val_main_call0_v12 (x3 : (⟨S8192, .i32⟩ : BufTy).Contents (Elt F)) : (⟨S8192x1, .i1⟩ : BufTy).Contents (Elt F) :=
  Host.reduce IntOp.andi (val_main_call0_v11 (F := F) x3) (val_main_call0_c_3 (F := F)) reducesTo_S8192x1x1_S8192x1_d2 h_S_

-- @take_along_axis's %13 = "stablehlo.gather"(%arg0, %5) <{dimension_numbers = #stablehlo.gather<collapsed_slice_dims = [1], operand_batching_dims = [0], start_indices_batching_dims = [0], start_index_map = [1], index_vector_dim = 2>, indices_are_sorted = false, slice_sizes = array<i64: 1, 1>}> : (tensor<8192x32768xf32>, tensor<8192x1x1xi32>) -> tensor<8192x1xf32>, in %17 = func.call @take_along_axis(…) (record main_call0)
def val_main_call0_v13 (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) : (⟨S8192x1, .f32⟩ : BufTy).Contents (Elt F) :=
  Host.gather gather_S8192x32768_S8192x1x1_S8192x1_n_1_0_0_1_2_11 (val_main_v7 (F := F) x0 x2 r0) (val_main_call0_v5 (F := F) x3)

-- @take_along_axis's %cst = stablehlo.constant dense<0x7FC00000> : tensor<f32>, in %17 = func.call @take_along_axis(…) (record main_call0)
def val_main_call0_cst : (⟨S_, .f32⟩ : BufTy).Contents (Elt F) :=
  constant S_ .f32 0x7FC00000#32
theorem val_main_call0_cst_apply (i : S_.Idx) :
    val_main_call0_cst (F := F) i = FloatOps.ofBits .f32 0x7FC00000#32 := rfl

-- @take_along_axis's %14 = stablehlo.broadcast_in_dim %cst, dims = [] : (tensor<f32>) -> tensor<8192x1xf32>, in %17 = func.call @take_along_axis(…) (record main_call0)
def val_main_call0_v14 : (⟨S8192x1, .f32⟩ : BufTy).Contents (Elt F) :=
  broadcastInDim S8192x1 ![] bcast_S_S8192x1 (val_main_call0_cst (F := F))
abbrev idx_main_call0_v14 (i : S8192x1.Idx) : S_.Idx := fun a => a.elim0
theorem val_main_call0_v14_apply (i : S8192x1.Idx) :
    val_main_call0_v14 (F := F) i = val_main_call0_cst (F := F) (idx_main_call0_v14 i) := by
  unfold val_main_call0_v14
  generalize val_main_call0_cst (F := F) = y
  exact broadcastInDim_apply _ bcast_S_S8192x1 y i (idx_main_call0_v14 i) (fun a => a.elim0)

-- %17 = func.call @take_along_axis(…) (record main_call0) result 0: @take_along_axis's %15 = stablehlo.select %12, %13, %14 : tensor<8192x1xi1>, tensor<8192x1xf32>
def val_main_v17 (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) : (⟨S8192x1, .f32⟩ : BufTy).Contents (Elt F) :=
  select (val_main_call0_v12 (F := F) x3) (val_main_call0_v13 (F := F) x0 x2 x3 r0) (val_main_call0_v14 (F := F))
theorem val_main_v17_apply (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) (i : S8192x1.Idx) :
    val_main_v17 (F := F) x0 x2 x3 r0 i = Scalar.select (val_main_call0_v12 (F := F) x3 i) (val_main_call0_v13 (F := F) x0 x2 x3 r0 i) (val_main_call0_v14 (F := F) i) := rfl

-- %18 = stablehlo.reshape %17 : (tensor<8192x1xf32>) -> tensor<8192xf32>
def val_main_v18 (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) : (⟨S8192, .f32⟩ : BufTy).Contents (Elt F) :=
  shapeCast _ (val_main_v17 (F := F) x0 x2 x3 r0) shapeCasts_S8192x1_S8192
set_option backward.proofsInPublic true in
abbrev idx_main_v18 (i : S8192.Idx) : S8192x1.Idx := fun a => match a with
  | ⟨0, _⟩ => ⟨((i 0).val) / 1, by have h0 : (i 0).val < 8192 := (i 0).isLt; show ((i 0).val) / 1 < 8192; omega⟩
  | ⟨1, _⟩ => ⟨0, Nat.one_pos⟩
theorem val_main_v18_apply (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) (i : S8192.Idx) :
    val_main_v18 (F := F) x0 x2 x3 r0 i = val_main_v17 (F := F) x0 x2 x3 r0 (idx_main_v18 i) := by
  unfold val_main_v18
  generalize val_main_v17 (F := F) x0 x2 x3 r0 = y
  exact shapeCast_apply y shapeCasts_S8192x1_S8192 i (idx_main_v18 i)
    (by rewrite [Shape.rowMajor_val_two, Shape.rowMajor_val_one]; have h0 : (i 0).val < 8192 := (i 0).isLt; show ((i 0).val) / 1 * 1 + 0 = (i 0).val; omega)

-- %19 = stablehlo.subtract %15, %18 : tensor<8192xf32>
def val_main_v19 (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) : (⟨S8192, .f32⟩ : BufTy).Contents (Elt F) :=
  subf (val_main_v15 (F := F) x0 x2 r0) (val_main_v18 (F := F) x0 x2 x3 r0)
theorem val_main_v19_apply (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) (i : S8192.Idx) :
    val_main_v19 (F := F) x0 x2 x3 r0 i = FloatOps.subf (val_main_v15 (F := F) x0 x2 r0 i) (val_main_v18 (F := F) x0 x2 x3 r0 i) := rfl

-- %cst_1 = stablehlo.constant dense<10.3972073> : tensor<f32>
def val_main_cst_1 : (⟨S_, .f32⟩ : BufTy).Contents (Elt F) :=
  constant S_ .f32 0x41265AF6#32
theorem val_main_cst_1_apply (i : S_.Idx) :
    val_main_cst_1 (F := F) i = FloatOps.ofBits .f32 0x41265AF6#32 := rfl

-- %20 = stablehlo.broadcast_in_dim %cst_1, dims = [] : (tensor<f32>) -> tensor<8192xf32>
def val_main_v20 : (⟨S8192, .f32⟩ : BufTy).Contents (Elt F) :=
  broadcastInDim S8192 ![] bcast_S_S8192 (val_main_cst_1 (F := F))
abbrev idx_main_v20 (i : S8192.Idx) : S_.Idx := fun a => a.elim0
theorem val_main_v20_apply (i : S8192.Idx) :
    val_main_v20 (F := F) i = val_main_cst_1 (F := F) (idx_main_v20 i) := by
  unfold val_main_v20
  generalize val_main_cst_1 (F := F) = y
  exact broadcastInDim_apply _ bcast_S_S8192 y i (idx_main_v20 i) (fun a => a.elim0)

-- %21 = stablehlo.subtract %19, %20 : tensor<8192xf32>
def val_main_v21 (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) : (⟨S8192, .f32⟩ : BufTy).Contents (Elt F) :=
  subf (val_main_v19 (F := F) x0 x2 x3 r0) (val_main_v20 (F := F))
theorem val_main_v21_apply (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) (i : S8192.Idx) :
    val_main_v21 (F := F) x0 x2 x3 r0 i = FloatOps.subf (val_main_v19 (F := F) x0 x2 x3 r0 i) (val_main_v20 (F := F) i) := rfl

-- %22 = stablehlo.reshape %21 : (tensor<8192xf32>) -> tensor<8192x1xf32>
def val_main_v22 (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) : (⟨S8192x1, .f32⟩ : BufTy).Contents (Elt F) :=
  shapeCast _ (val_main_v21 (F := F) x0 x2 x3 r0) shapeCasts_S8192_S8192x1
set_option backward.proofsInPublic true in
abbrev idx_main_v22 (i : S8192x1.Idx) : S8192.Idx := fun a => match a with
  | ⟨0, _⟩ => ⟨(i 0).val * 1 + (i 1).val, by have h0 : (i 0).val < 8192 := (i 0).isLt; have h1 : (i 1).val < 1 := (i 1).isLt; show (i 0).val * 1 + (i 1).val < 8192; omega⟩
theorem val_main_v22_apply (x0 : (⟨S8192x7168, .bf16⟩ : BufTy).Contents (Elt F)) (x2 : (⟨S56x256, .f32⟩ : BufTy).Contents (Elt F)) (x3 : (⟨S8192, .i32⟩ : BufTy).Contents (Elt F)) (r0 : (⟨S7168x32768, .bf16⟩ : BufTy).Contents (Elt F)) (i : S8192x1.Idx) :
    val_main_v22 (F := F) x0 x2 x3 r0 i = val_main_v21 (F := F) x0 x2 x3 r0 (idx_main_v22 i) := by
  unfold val_main_v22
  generalize val_main_v21 (F := F) x0 x2 x3 r0 = y
  exact shapeCast_apply y shapeCasts_S8192_S8192x1 i (idx_main_v22 i)
    (by rewrite [Shape.rowMajor_val_one, Shape.rowMajor_val_two]; have h0 : (i 0).val < 8192 := (i 0).isLt; have h1 : (i 1).val < 1 := (i 1).isLt; show (i 0).val * 1 + (i 1).val = (i 0).val * 1 + (i 1).val; omega)

/-- The term the Run module states for `main_v22` over any contents `V0` is the stage. -/
theorem val_main_v22_eq (V0 : Valuation τ sig (Elt F)) :
    shapeCast _ (subf (subf (addf (Host.log (Host.reduceAdd (Host.exp (subf (Host.dotGeneral dot_S8192x7168_S7168x32768_S8192x32768_1_0_0_1_n_n none (V0 (Proc.devRef .tc main_arg0)) (shapeCast _ (mulf (shapeCast _ (V0 (Proc.devRef .tc main_v0)) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (V0 (Proc.devRef .tc main_arg2)) bitsLt_bf16_f32)))) shapeCasts_S56x128x256x128_S7168x32768)) (broadcastInDim S8192x32768 ![0, 1] bcast_S8192x1_S8192x32768_0_1 (broadcastInDim S8192x1 ![0] bcast_S8192_S8192x1_0 (Host.reduce FloatOps.maximumf (Host.dotGeneral dot_S8192x7168_S7168x32768_S8192x32768_1_0_0_1_n_n none (V0 (Proc.devRef .tc main_arg0)) (shapeCast _ (mulf (shapeCast _ (V0 (Proc.devRef .tc main_v0)) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (V0 (Proc.devRef .tc main_arg2)) bitsLt_bf16_f32)))) shapeCasts_S56x128x256x128_S7168x32768)) (constant S_ .f32 0xFF800000#32) reducesTo_S8192x32768_S8192_d1 h_S_))))) (constant S_ .f32 0x00000000#32) reducesTo_S8192x32768_S8192_d1 h_S_)) (Host.reduce FloatOps.maximumf (Host.dotGeneral dot_S8192x7168_S7168x32768_S8192x32768_1_0_0_1_n_n none (V0 (Proc.devRef .tc main_arg0)) (shapeCast _ (mulf (shapeCast _ (V0 (Proc.devRef .tc main_v0)) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (V0 (Proc.devRef .tc main_arg2)) bitsLt_bf16_f32)))) shapeCasts_S56x128x256x128_S7168x32768)) (constant S_ .f32 0xFF800000#32) reducesTo_S8192x32768_S8192_d1 h_S_)) (shapeCast _ (select (Host.reduce IntOp.andi (andi (cmpi .sge (shapeCast S8192x1x1 (select (cmpi .slt (broadcastInDim S8192x1 ![0] bcast_S8192_S8192x1_0 (V0 (Proc.devRef .tc main_arg3))) (broadcastInDim S8192x1 ![] bcast_S_S8192x1 (constantI S_ 32 0#32))) (addi (broadcastInDim S8192x1 ![0] bcast_S8192_S8192x1_0 (V0 (Proc.devRef .tc main_arg3))) (broadcastInDim S8192x1 ![] bcast_S_S8192x1 (constantI S_ 32 32768#32))) (broadcastInDim S8192x1 ![0] bcast_S8192_S8192x1_0 (V0 (Proc.devRef .tc main_arg3)))) shapeCasts_S8192x1_S8192x1x1) (broadcastInDim S8192x1x1 ![] bcast_S_S8192x1x1 (constantI S_ 32 0#32))) (cmpi .sle (shapeCast S8192x1x1 (select (cmpi .slt (broadcastInDim S8192x1 ![0] bcast_S8192_S8192x1_0 (V0 (Proc.devRef .tc main_arg3))) (broadcastInDim S8192x1 ![] bcast_S_S8192x1 (constantI S_ 32 0#32))) (addi (broadcastInDim S8192x1 ![0] bcast_S8192_S8192x1_0 (V0 (Proc.devRef .tc main_arg3))) (broadcastInDim S8192x1 ![] bcast_S_S8192x1 (constantI S_ 32 32768#32))) (broadcastInDim S8192x1 ![0] bcast_S8192_S8192x1_0 (V0 (Proc.devRef .tc main_arg3)))) shapeCasts_S8192x1_S8192x1x1) (broadcastInDim S8192x1x1 ![0, 1, 2] bcast_S1x1x1_S8192x1x1_0_1_2 (broadcastInDim S1x1x1 ![2] bcast_S1_S1x1x1_2 (constantI S1 32 32767#32))))) (constantI S_ 1 1#1) reducesTo_S8192x1x1_S8192x1_d2 h_S_) (Host.gather gather_S8192x32768_S8192x1x1_S8192x1_n_1_0_0_1_2_11 (Host.dotGeneral dot_S8192x7168_S7168x32768_S8192x32768_1_0_0_1_n_n none (V0 (Proc.devRef .tc main_arg0)) (shapeCast _ (mulf (shapeCast _ (V0 (Proc.devRef .tc main_v0)) shapeCasts_S7168x32768_S56x128x256x128) (broadcastInDim S56x128x256x128 ![0, 1, 2, 3] bcast_S56x1x256x1_S56x128x256x128_0_1_2_3 (broadcastInDim S56x1x256x1 ![0, 2] bcast_S56x256_S56x1x256x1_0_2 (truncf .bf16 (V0 (Proc.devRef .tc main_arg2)) bitsLt_bf16_f32)))) shapeCasts_S56x128x256x128_S7168x32768)) (shapeCast S8192x1x1 (select (cmpi .slt (broadcastInDim S8192x1 ![0] bcast_S8192_S8192x1_0 (V0 (Proc.devRef .tc main_arg3))) (broadcastInDim S8192x1 ![] bcast_S_S8192x1 (constantI S_ 32 0#32))) (addi (broadcastInDim S8192x1 ![0] bcast_S8192_S8192x1_0 (V0 (Proc.devRef .tc main_arg3))) (broadcastInDim S8192x1 ![] bcast_S_S8192x1 (constantI S_ 32 32768#32))) (broadcastInDim S8192x1 ![0] bcast_S8192_S8192x1_0 (V0 (Proc.devRef .tc main_arg3)))) shapeCasts_S8192x1_S8192x1x1)) (broadcastInDim S8192x1 ![] bcast_S_S8192x1 (constant S_ .f32 0x7FC00000#32))) shapeCasts_S8192x1_S8192)) (broadcastInDim S8192 ![] bcast_S_S8192 (constant S_ .f32 0x41265AF6#32))) shapeCasts_S8192_S8192x1
      = val_main_v22 (F := F) (V0 (Proc.devRef .tc main_arg0)) (V0 (Proc.devRef .tc main_arg2)) (V0 (Proc.devRef .tc main_arg3)) (V0 (Proc.devRef .tc main_v0)) := rfl

end Cert.ReferenceIdeal.Read

end
-- ==== Proof.RefValue.lean ====
module

public import proofs.«01_k».proof.Proof.HeadValue
public import proofs.«01_k».proof.Proof.Gen.ReferenceIdeal.Frame
public import proofs.«01_k».proof.Proof.RefRun
public import proofs.«01_k».proof.Proof.RefRead
public import Idealize.ShloMosaic.Lib.Pipeline.ValueKit
public import Idealize.ShloMosaic.Lib.Pointwise
public import Idealize.ShloMosaic.Lib.WordCmp
public import Idealize.ShloMosaic.Lib.ReduceAll

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Idealize.ShloMosaic.Pipeline (Dat)

/-- One column per row of a rank-2 operand: the operand at the row and its clamped start index. -/
theorem gather_row (x : S8192x32768.Idx → EReal) (idx : IVec S8192x1x1 32) (R : Fin 8192) :
    Host.gather gather_S8192x32768_S8192x1x1_S8192x1_n_1_0_0_1_2_11 x idx (ix2 R 0)
      = x (ix2 R ⟨min (idx (ix3 R 0 0)).toInt.toNat (32768 - 1), by omega⟩) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x32768_S8192x1x1_S8192x1_n_1_0_0_1_2_11.operandBatchingDims from List.mem_singleton.mpr rfl)]
    rfl
  · rw [GatherDims.batchCoord_eq_zero _ _ _ (fun h => by simp [gather_S8192x32768_S8192x1x1_S8192x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x32768_S8192x1x1_S8192x1_n_1_0_0_1_2_11.startIndexMap from List.mem_singleton.mpr rfl)]
    have hsi : gather_S8192x32768_S8192x1x1_S8192x1_n_1_0_0_1_2_11.siIdx (ix2 R 0)
        ⟨List.idxOf (1 : Fin 2) gather_S8192x32768_S8192x1x1_S8192x1_n_1_0_0_1_2_11.startIndexMap,
          List.idxOf_lt_length_iff.2 (List.mem_singleton.mpr rfl)⟩ = ix3 R 0 0 := by
      funext b; refine Fin.ext ?_
      match b with
      | ⟨0, _⟩ => rfl
      | ⟨1, _⟩ => rfl
      | ⟨2, _⟩ => rfl
    rw [hsi]
    rfl

section Values
variable (x0 : FVec Ideal S8192x7168 .bf16) (x1 : FVec Ideal S7168x32768 .fp8e4m3) (x2 : FVec Ideal S56x256 .f32) (x3 : IVec S8192 32)
  (r0 : FVec Ideal S7168x32768 .bf16) (hr : ∀ i, r0 i = x1 i)

include hr in
theorem weight (k : Fin 7168) (v : Fin 32768) :
    val_main_v6 (F := Ideal) x2 r0 (ix2 k v) = x1 (ix2 k v) * x2 (ix2 ⟨k.val / 128, by omega⟩ ⟨v.val / 128, by omega⟩) := by
  rw [val_main_v6_apply, val_main_v5_apply, val_main_v4_apply, val_main_v3_apply, val_main_v2_apply, val_main_v1_apply, hr]
  have e1 : idx_main_v1 (idx_main_v6 (ix2 k v)) = ix2 k v := by
    funext a
    refine Fin.ext ?_
    match a with
    | ⟨0, _⟩ => show ((((k.val * 32768 + v.val) / 4194304 * 128 + (k.val * 32768 + v.val) / 32768 % 128) * 256 + (k.val * 32768 + v.val) / 128 % 256) * 128 + (k.val * 32768 + v.val) % 128) / 32768 = k.val; omega
    | ⟨1, _⟩ => show ((((k.val * 32768 + v.val) / 4194304 * 128 + (k.val * 32768 + v.val) / 32768 % 128) * 256 + (k.val * 32768 + v.val) / 128 % 256) * 128 + (k.val * 32768 + v.val) % 128) % 32768 = v.val; omega
  have e2 : idx_main_v3 (idx_main_v4 (idx_main_v6 (ix2 k v))) = ix2 ⟨k.val / 128, by omega⟩ ⟨v.val / 128, by omega⟩ := by
    funext a
    refine Fin.ext ?_
    match a with
    | ⟨0, _⟩ => show (k.val * 32768 + v.val) / 4194304 = k.val / 128; omega
    | ⟨1, _⟩ => show (k.val * 32768 + v.val) / 128 % 256 = v.val / 128; omega
  rw [e1, e2]
  rfl

include hr in
theorem logit (R : Fin 8192) (v : Fin 32768) : val_main_v7 (F := Ideal) x0 x2 r0 (ix2 R v) = Cert.HeadIdeal.Hand.Z x0 x1 x2 R v.val := by
  rw [val_main_v7_apply]
  unfold Cert.HeadIdeal.Hand.Z
  rw [dif_pos v.isLt]
  refine Finset.sum_congr rfl fun k _ => ?_
  have e1 : lidx_main_v7 (ix2 R v) k = ix2 R k := by
    funext a
    match a with
    | ⟨0, _⟩ => rfl
    | ⟨1, _⟩ => rfl
  have e2 : ridx_main_v7 (ix2 R v) k = ix2 k v := by
    funext a
    match a with
    | ⟨0, _⟩ => rfl
    | ⟨1, _⟩ => rfl
  rw [e1, e2, weight x1 x2 r0 hr]

include hr in
theorem rowMax (R : Fin 8192) : val_main_v8 (F := Ideal) x0 x2 r0 (ix1 R) = Cert.HeadIdeal.Hand.MX x0 x1 x2 R := by
  have e : val_main_v8 (F := Ideal) x0 x2 r0 (ix1 R) = Finset.univ.fold max ⊥ (fun v : Fin 32768 => val_main_v7 (F := Ideal) x0 x2 r0 (ix2 R v)) := by
    unfold val_main_v8
    generalize val_main_v7 (F := Ideal) x0 x2 r0 = y
    pointwise [val_main_cst, Cert.HeadIdeal.Hand.neg_inf]
  rw [e]
  unfold Cert.HeadIdeal.Hand.MX
  exact congrArg (fun f : Fin 32768 → EReal => Finset.univ.fold max ⊥ f) (funext fun v => logit x0 x1 x2 r0 hr R v)

include hr in
theorem rowSum (R : Fin 8192) : val_main_v13 (F := Ideal) x0 x2 r0 (ix1 R)
    = ∑ v : Fin 32768, Ideal.exp (Cert.HeadIdeal.Hand.Z x0 x1 x2 R v.val - Cert.HeadIdeal.Hand.MX x0 x1 x2 R) := by
  rw [val_main_v13_apply, val_main_cst_0_apply]
  have z : (FloatOps.ofBits (F := Ideal) .f32 0x00000000#32 : EReal) = 0 := Ideal.ofBits_zero_f32
  rw [z, zero_add]
  refine Finset.sum_congr rfl fun v _ => ?_
  have e0 : idx_main_v13 (ix1 R) v = ix2 R v := by
    funext a
    match a with
    | ⟨0, _⟩ => rfl
    | ⟨1, _⟩ => rfl
  have e1 : idx_main_v9 (idx_main_v10 (ix2 R v)) = ix1 R := by
    funext a
    match a with
    | ⟨0, _⟩ => rfl
  rw [val_main_v12_apply, val_main_v11_apply, val_main_v10_apply, val_main_v9_apply, e0, e1, logit x0 x1 x2 r0 hr, rowMax x0 x1 x2 r0 hr]
  rfl

/-- The start index of the row: the target itself, which is not negative. -/
theorem start_at (R : Fin 8192) (hT : (x3 (ix1 R)).toNat < 32768) (i : S8192x1x1.Idx) (hi : (i 0).val = R.val) :
    val_main_call0_v5 (F := Ideal) x3 i = x3 (ix1 R) := by
  have e : idx_main_v16 (idx_main_call0_v5 i) = ix1 R := by
    funext a
    refine Fin.ext ?_
    match a with
    | ⟨0, _⟩ =>
      show (((i 0).val * 1 + (i 1).val) * 1 + (i 2).val) / 1 = R.val
      have h1 : (i 1).val < 1 := (i 1).isLt
      have h2 : (i 2).val < 1 := (i 2).isLt
      omega
  rw [val_main_call0_v5_apply, val_main_call0_v4_apply, val_main_call0_v1_apply, val_main_v16_apply, val_main_call0_v0_apply, val_main_call0_c_apply, e]
  have h : IntOp.cmpi .slt (x3 (ix1 R)) 0#32 = 0#1 := by
    rcases eq_or_ne (IntOp.cmpi .slt (x3 (ix1 R)) 0#32) 1#1 with h | h
    · exact absurd (IntOp.cmpi_slt.1 h) (by rw [BitVec.toInt_eq_toNat_cond]; simp; omega)
    · exact ValueIdx.eq_zero_of_ne_one h
  rw [h]
  rfl

theorem mask_at (hT : ∀ R : Fin 8192, (x3 (ix1 R)).toNat < 32768) (R : Fin 8192) : val_main_call0_v12 (F := Ideal) x3 (ix2 R 0) = 1#1 := by
  unfold val_main_call0_v12
  refine Host.reduce_andi_one _ _ _ _ _ rfl fun i => ?_
  rw [val_main_call0_v11_apply, val_main_call0_v7_apply, val_main_call0_v10_apply,
    start_at x3 (i 0) (hT _) i rfl, val_main_call0_v6_apply, val_main_call0_c_2_apply, val_main_call0_v9_apply, val_main_call0_v8_apply, val_main_call0_c_1_apply]
  have h := hT (i 0)
  have ht : (x3 (ix1 (i 0))).toInt = (x3 (ix1 (i 0))).toNat := by rw [BitVec.toInt_eq_toNat_cond, if_pos (by omega)]
  have a : IntOp.cmpi .sge (x3 (ix1 (i 0))) 0#32 = 1#1 := IntOp.cmpi_sge.2 (by rw [ht]; simp)
  have b : IntOp.cmpi .sle (x3 (ix1 (i 0))) 32767#32 = 1#1 := IntOp.cmpi_sle.2 (by rw [ht]; simp; omega)
  rw [a, b]
  rfl

include hr in
theorem target (hT : ∀ R : Fin 8192, (x3 (ix1 R)).toNat < 32768) (R : Fin 8192) :
    val_main_v17 (F := Ideal) x0 x2 x3 r0 (ix2 R 0) = Cert.HeadIdeal.Hand.Z x0 x1 x2 R (x3 (ix1 R)).toNat := by
  rw [val_main_v17_apply, mask_at x3 hT R]
  show val_main_call0_v13 (F := Ideal) x0 x2 x3 r0 (ix2 R 0) = _
  unfold val_main_call0_v13
  rw [gather_row, logit x0 x1 x2 r0 hr]
  refine congrArg (Cert.HeadIdeal.Hand.Z x0 x1 x2 R) ?_
  show min (val_main_call0_v5 (F := Ideal) x3 (ix3 R 0 0)).toInt.toNat (32768 - 1) = _
  rw [start_at x3 R (hT R) (ix3 R 0 0) rfl]
  have h := hT R
  have ht : (x3 (ix1 R)).toInt = (x3 (ix1 R)).toNat := by rw [BitVec.toInt_eq_toNat_cond, if_pos (by omega)]
  rw [ht]
  omega

include hr in
theorem loss (hT : ∀ R : Fin 8192, (x3 (ix1 R)).toNat < 32768) (R : Fin 8192) :
    val_main_v22 (F := Ideal) x0 x2 x3 r0 (ix2 R 0) = Cert.HeadIdeal.Hand.LOSS x0 x1 x2 x3 R := by
  have e : idx_main_v22 (ix2 R 0) = ix1 R := by
    funext a
    refine Fin.ext ?_
    match a with
    | ⟨0, _⟩ => show R.val * 1 + 0 = R.val; omega
  have e2 : idx_main_v18 (ix1 R) = ix2 R 0 := by
    funext a
    refine Fin.ext ?_
    match a with
    | ⟨0, _⟩ => show R.val / 1 = R.val; omega
    | ⟨1, _⟩ => rfl
  unfold Cert.HeadIdeal.Hand.LOSS
  rw [val_main_v22_apply, e, val_main_v21_apply, val_main_v19_apply, val_main_v15_apply, val_main_v14_apply, val_main_v18_apply, e2,
    val_main_v20_apply, val_main_cst_1_apply, target x0 x1 x2 x3 r0 hr hT, rowSum x0 x1 x2 r0 hr, rowMax x0 x1 x2 r0 hr]
  generalize (∑ v : Fin 32768, Ideal.exp (Cert.HeadIdeal.Hand.Z x0 x1 x2 R v.val - Cert.HeadIdeal.Hand.MX x0 x1 x2 R)) = s
  generalize Cert.HeadIdeal.Hand.MX x0 x1 x2 R = mx
  generalize Cert.HeadIdeal.Hand.Z x0 x1 x2 R (x3 (ix1 R)).toNat = z
  rw [Ideal.ofBits_def]
  rfl

end Values

variable (m : (ℓ : Loc nD τ sig) → Buf (Elt Ideal) ℓ)

theorem idx : ∀ t : Fin cfg0.N, win0_0.index t = ![0, 0] ∧ win0_1.index t = ![0, 0] :=
  (by decide +kernel : ∀ t : Fin grid0.N, _)

/-- The widened codes are the codes: over the reals a cast changes nothing. -/
theorem widened (c : Dev nD) (i : S7168x32768.Idx) :
    (Value.reg_main_v0 m c : FVec Ideal S7168x32768 .bf16) i = (m ((c : Thread nD τ).loc main_arg1) : FVec Ideal S7168x32768 .fp8e4m3) i := by
  have e : Value.reg_main_v0 m c = (fun i => (m ((c : Thread nD τ).loc main_arg1) : FVec Ideal S7168x32768 .fp8e4m3) i : FVec Ideal S7168x32768 .bf16) := by
    unfold Value.reg_main_v0
    refine (dats m 0 c).arrAt_eq_of_after_last 1 t0_0 (by decide +kernel) _ fun j => ?_
    blk_simp
    rw [after0_1]
    frame_out
    blk_point [iblk, V, idx t0_0]
  rw [e]

/-- The reference's run: each row's loss, the arguments unchanged. -/
theorem run (ρ : Dev nD → PrngReg)
    (hT : ∀ (c : Dev nD) (R : Fin 8192), ((m ((c : Thread nD τ).loc main_arg3) : IVec S8192 32) (ix1 R)).toNat < 32768) :
    θ_run defs (onTc (τ := τ) (main (F := Ideal))) ⟨m, fun _ => 0, ρ⟩ fun r => ∀ c : Dev nD,
      r.2.mem ((c.tc : Thread nD τ).loc main_v22) = (fun i => Cert.HeadIdeal.Hand.LOSS (m ((c : Thread nD τ).loc main_arg0)) (m ((c : Thread nD τ).loc main_arg1))
        (m ((c : Thread nD τ).loc main_arg2)) (m ((c : Thread nD τ).loc main_arg3)) (i 0) : FVec Ideal S8192x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨((h c).1).trans ?_, (h c).2⟩) (Value.run m ρ)
  have e : Value.res_main_v22 m c = val_main_v22 (F := Ideal) (m ((c : Thread nD τ).loc main_arg0)) (m ((c : Thread nD τ).loc main_arg2))
      (m ((c : Thread nD τ).loc main_arg3)) (Value.reg_main_v0 m c) := by
    unfold Value.res_main_v22
    have h := val_main_v22_eq (F := Ideal) (Value.exitV m c)
    rw [Value.exit_main_arg0, Value.exit_main_arg2, Value.exit_main_arg3, Value.exit_main_v0] at h
    exact h
  rw [e]
  funext i
  have ei : i = ix2 (i 0 : Fin 8192) 0 := by
    funext a
    match a with
    | ⟨0, _⟩ => rfl
    | ⟨1, _⟩ => exact Fin.ext (by have h : (i 1).val < 1 := (i 1).isLt; show (i 1).val = 0; omega)
  rw [ei]
  exact loss _ (m ((c : Thread nD τ).loc main_arg1)) _ _ _ (widened m c) (hT c) (i 0)

end Cert.ReferenceIdeal.Hand
-- ==== Proof.BitsProjLoops.lean ====
module

public import proofs.«01_k».proof.Proof.Gen.Proj.Frame
public import proofs.«01_k».proof.Proof.Gen.Proj.Skeleton
public import proofs.«01_k».proof.Proof.Gen.Proj.Loops
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Proj.Hand

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The cell of the scale table that scales weight `y` of column block `i 1`: row `y 0 / 128`, column `2 * i 1 + y 1 / 128`. -/
def SBix (i : grid0.Coords) (y : S14336x256.Idx) : S112x56.Idx := fun a => match a with
    | ⟨0, _⟩ => ⟨(y 0).val / 128, by have := (y 0).isLt; simp only [S14336x256, S112x56] at *; dsimp at *; omega⟩
    | ⟨1, _⟩ => ⟨2 * (i 1).val + (y 1).val / 128, by have := (y 1).isLt; have := (i 1).isLt; simp only [S14336x256, S112x56, grid0] at *; dsimp at *; omega⟩

/-- The scale of each weight of column block `i 1`. -/
def SB (i : grid0.Coords) (x2 : Vec F S112x56 .f32) : FVec F S14336x256 .f32 := fun y => x2 (SBix i y)

/-- The widened weights of column block `i 1`: each code times its scale rounded to bfloat16. -/
def WB (i : grid0.Coords) (x1 : Vec F S14336x256 .fp8e4m3) (x2 : Vec F S112x56 .f32) : FVec F S14336x256 .bf16 :=
  mulf (extf .bf16 x1 bitsLt_fp8e4m3_bf16) (truncf .bf16 (SB i x2) bitsLt_bf16_f32)

theorem trips1_eq : k0_t1_loop.trips = 112 := by decide +kernel

/-- Every write of loop 1's trip `k` stores the widened weights of the cells it covers. -/
theorem trip1_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t1_loop.trips) :
    ∀ p ∈ tripL_k0_t1 (F := F) Variants.none c none i arg2 harg2 arg3 harg3 arg4 harg4 arg5 harg5 arg6 harg6 arg7 harg7 arg8 harg8 arg9 harg9 arg10 harg10 arg11 harg11 X3 X4 k, ∀ x, p.2 x = WB i (arg3.view.read (Elt F) X3) (arg4.view.read (Elt F) X4) (p.1.emb x) := by
  unfold tripL_k0_t1 trip_k0_t1
  dsimp only
  intro p hp
  obtain rfl := List.mem_singleton.mp hp
  intro x
  dsimp only at x ⊢
  have hs : trip_k0_t1.sl.r i arg4 X4 k = arg4.view.read (Elt F) X4 (SBix i ((Rect.unit (k0_off2 k) ![128, 128] (k0_off2_inb k)).emb x)) := by
    unfold trip_k0_t1.sl.r
    refine congrArg (arg4.view.read (Elt F) X4) (funext fun a => Fin.ext ?_)
    have e1 := k0_off1_eq i k
    have e2 := k0_off2_eq k
    have hx0 : (x 0).val < 128 := (x 0).isLt
    have hx1 : (x 1).val < 128 := (x 1).isLt
    match a with
    | ⟨0, _⟩ =>
      have e10 : (k0_off1 i k) 0 = k.val := congrFun e1 0
      have e20 : (k0_off2 k) 0 = 128 * k.val := congrFun e2 0
      show (k0_off1 i k) 0 + 1 * 0 = ((k0_off2 k) 0 + 1 * (x 0).val) / 128
      omega
    | ⟨1, _⟩ =>
      have e11 : (k0_off1 i k) 1 = 2 * (i 1).val := congrFun e1 1
      have e21 : (k0_off2 k) 1 = 0 := congrFun e2 1
      show (k0_off1 i k) 1 + 1 * 0 = 2 * (i 1).val + ((k0_off2 k) 1 + 1 * (x 1).val) / 128
      omega
  unfold k0_pay1 WB SB
  simp only [shapeCast_self]
  rw [hs]
  rfl

/-- The cells that loop 1's trip `k` writes. -/
theorem trip1_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t1_loop.trips) (y : S14336x256.Idx)
    (h0 : (y 0).val / 128 = k.val) (h1 : (y 1).val / 128 = 0) :
    ∃ p ∈ tripL_k0_t1 (F := F) Variants.none c none i arg2 harg2 arg3 harg3 arg4 harg4 arg5 harg5 arg6 harg6 arg7 harg7 arg8 harg8 arg9 harg9 arg10 harg10 arg11 harg11 X3 X4 k, y ∈ p.1.set := by
  unfold tripL_k0_t1 trip_k0_t1
  dsimp only
  refine ⟨_, List.mem_singleton.mpr rfl, ?_⟩
  have e2 := k0_off2_eq k
  have e20 : (k0_off2 k) 0 = 128 * k.val := congrFun e2 0
  have e21 : (k0_off2 k) 1 = 0 := congrFun e2 1
  rw [Rect.mem_set_unit]
  intro a
  match a with
  | ⟨0, _⟩ =>
    show (k0_off2 k) 0 ≤ (y 0).val ∧ (y 0).val < (k0_off2 k) 0 + 128
    omega
  | ⟨1, _⟩ =>
    show (k0_off2 k) 1 ≤ (y 1).val ∧ (y 1).val < (k0_off2 k) 1 + 128
    omega

/-- Every write of loop 1 stores the widened weights of the cells it covers. -/
theorem pb1_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) :
    ∀ n, n ≤ k0_t1_loop.trips → ∀ p ∈ pb_k0_t1 (F := F) Variants.none c none i arg2 harg2 arg3 harg3 arg4 harg4 arg5 harg5 arg6 harg6 arg7 harg7 arg8 harg8 arg9 harg9 arg10 harg10 arg11 harg11 X3 X4 n, ∀ x, p.2 x = WB i (arg3.view.read (Elt F) X3) (arg4.view.read (Elt F) X4) (p.1.emb x)
  | 0, _, p, hp => by rw [pb_k0_t1.eq_1] at hp; exact absurd hp List.not_mem_nil
  | n + 1, hn, p, hp => by
    rw [pb_k0_t1_succ (k := ⟨n, hn⟩)] at hp
    rcases List.mem_append.mp hp with h | h
    · exact trip1_piece c i arg2 harg2 arg3 harg3 arg4 harg4 arg5 harg5 arg6 harg6 arg7 harg7 arg8 harg8 arg9 harg9 arg10 harg10 arg11 harg11 X3 X4 ⟨n, hn⟩ p h
    · exact pb1_piece c i arg2 harg2 arg3 harg3 arg4 harg4 arg5 harg5 arg6 harg6 arg7 harg7 arg8 harg8 arg9 harg9 arg10 harg10 arg11 harg11 X3 X4 n (Nat.le_of_succ_le hn) p h

/-- Loop 1 writes every cell of its 128 columns. -/
theorem pb1_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (y : S14336x256.Idx) (h1 : (y 1).val / 128 = 0) :
    ∀ n, n ≤ k0_t1_loop.trips → (y 0).val / 128 < n → ∃ p ∈ pb_k0_t1 (F := F) Variants.none c none i arg2 harg2 arg3 harg3 arg4 harg4 arg5 harg5 arg6 harg6 arg7 harg7 arg8 harg8 arg9 harg9 arg10 harg10 arg11 harg11 X3 X4 n, y ∈ p.1.set
  | 0, _, h => absurd h (Nat.not_lt_zero _)
  | n + 1, hn, h => by
    rw [pb_k0_t1_succ (k := ⟨n, hn⟩)]
    by_cases h0 : (y 0).val / 128 = n
    · obtain ⟨p, hp, hy⟩ := trip1_cover c i arg2 harg2 arg3 harg3 arg4 harg4 arg5 harg5 arg6 harg6 arg7 harg7 arg8 harg8 arg9 harg9 arg10 harg10 arg11 harg11 X3 X4 ⟨n, hn⟩ y h0 h1
      exact ⟨p, List.mem_append_left _ hp, hy⟩
    · obtain ⟨p, hp, hy⟩ := pb1_cover c i arg2 harg2 arg3 harg3 arg4 harg4 arg5 harg5 arg6 harg6 arg7 harg7 arg8 harg8 arg9 harg9 arg10 harg10 arg11 harg11 X3 X4 y h1 n (Nat.le_of_succ_le hn) (by omega)
      exact ⟨p, List.mem_append_right _ hp, hy⟩

theorem trips2_eq : k0_t2_loop.trips = 112 := by decide +kernel

/-- Every write of loop 2's trip `k` stores the widened weights of the cells it covers. -/
theorem trip2_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t2_loop.trips) :
    ∀ p ∈ tripL_k0_t2 (F := F) Variants.none c none i arg2 harg2 arg3 harg3 arg4 harg4 arg5 harg5 arg6 harg6 arg7 harg7 arg8 harg8 arg9 harg9 arg10 harg10 arg11 harg11 X3 X4 k, ∀ x, p.2 x = WB i (arg3.view.read (Elt F) X3) (arg4.view.read (Elt F) X4) (p.1.emb x) := by
  unfold tripL_k0_t2 trip_k0_t2
  dsimp only
  intro p hp
  obtain rfl := List.mem_singleton.mp hp
  intro x
  dsimp only at x ⊢
  have hs : trip_k0_t2.sl.r i arg4 X4 k = arg4.view.read (Elt F) X4 (SBix i ((Rect.unit (k0_off4 k) ![128, 128] (k0_off4_inb k)).emb x)) := by
    unfold trip_k0_t2.sl.r
    refine congrArg (arg4.view.read (Elt F) X4) (funext fun a => Fin.ext ?_)
    have e1 := k0_off3_eq i k
    have e2 := k0_off4_eq k
    have hx0 : (x 0).val < 128 := (x 0).isLt
    have hx1 : (x 1).val < 128 := (x 1).isLt
    match a with
    | ⟨0, _⟩ =>
      have e10 : (k0_off3 i k) 0 = k.val := congrFun e1 0
      have e20 : (k0_off4 k) 0 = 128 * k.val := congrFun e2 0
      show (k0_off3 i k) 0 + 1 * 0 = ((k0_off4 k) 0 + 1 * (x 0).val) / 128
      omega
    | ⟨1, _⟩ =>
      have e11 : (k0_off3 i k) 1 = 2 * (i 1).val + 1 := congrFun e1 1
      have e21 : (k0_off4 k) 1 = 128 := congrFun e2 1
      show (k0_off3 i k) 1 + 1 * 0 = 2 * (i 1).val + ((k0_off4 k) 1 + 1 * (x 1).val) / 128
      omega
  unfold k0_pay2 WB SB
  simp only [shapeCast_self]
  rw [hs]
  rfl

/-- The cells that loop 2's trip `k` writes. -/
theorem trip2_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t2_loop.trips) (y : S14336x256.Idx)
    (h0 : (y 0).val / 128 = k.val) (h1 : (y 1).val / 128 = 1) :
    ∃ p ∈ tripL_k0_t2 (F := F) Variants.none c none i arg2 harg2 arg3 harg3 arg4 harg4 arg5 harg5 arg6 harg6 arg7 harg7 arg8 harg8 arg9 harg9 arg10 harg10 arg11 harg11 X3 X4 k, y ∈ p.1.set := by
  unfold tripL_k0_t2 trip_k0_t2
  dsimp only
  refine ⟨_, List.mem_singleton.mpr rfl, ?_⟩
  have e2 := k0_off4_eq k
  have e20 : (k0_off4 k) 0 = 128 * k.val := congrFun e2 0
  have e21 : (k0_off4 k) 1 = 128 := congrFun e2 1
  rw [Rect.mem_set_unit]
  intro a
  match a with
  | ⟨0, _⟩ =>
    show (k0_off4 k) 0 ≤ (y 0).val ∧ (y 0).val < (k0_off4 k) 0 + 128
    omega
  | ⟨1, _⟩ =>
    show (k0_off4 k) 1 ≤ (y 1).val ∧ (y 1).val < (k0_off4 k) 1 + 128
    omega

/-- Every write of loop 2 stores the widened weights of the cells it covers. -/
theorem pb2_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) :
    ∀ n, n ≤ k0_t2_loop.trips → ∀ p ∈ pb_k0_t2 (F := F) Variants.none c none i arg2 harg2 arg3 harg3 arg4 harg4 arg5 harg5 arg6 harg6 arg7 harg7 arg8 harg8 arg9 harg9 arg10 harg10 arg11 harg11 X3 X4 n, ∀ x, p.2 x = WB i (arg3.view.read (Elt F) X3) (arg4.view.read (Elt F) X4) (p.1.emb x)
  | 0, _, p, hp => by rw [pb_k0_t2.eq_1] at hp; exact absurd hp List.not_mem_nil
  | n + 1, hn, p, hp => by
    rw [pb_k0_t2_succ (k := ⟨n, hn⟩)] at hp
    rcases List.mem_append.mp hp with h | h
    · exact trip2_piece c i arg2 harg2 arg3 harg3 arg4 harg4 arg5 harg5 arg6 harg6 arg7 harg7 arg8 harg8 arg9 harg9 arg10 harg10 arg11 harg11 X3 X4 ⟨n, hn⟩ p h
    · exact pb2_piece c i arg2 harg2 arg3 harg3 arg4 harg4 arg5 harg5 arg6 harg6 arg7 harg7 arg8 harg8 arg9 harg9 arg10 harg10 arg11 harg11 X3 X4 n (Nat.le_of_succ_le hn) p h

/-- Loop 2 writes every cell of its 128 columns. -/
theorem pb2_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (y : S14336x256.Idx) (h1 : (y 1).val / 128 = 1) :
    ∀ n, n ≤ k0_t2_loop.trips → (y 0).val / 128 < n → ∃ p ∈ pb_k0_t2 (F := F) Variants.none c none i arg2 harg2 arg3 harg3 arg4 harg4 arg5 harg5 arg6 harg6 arg7 harg7 arg8 harg8 arg9 harg9 arg10 harg10 arg11 harg11 X3 X4 n, y ∈ p.1.set
  | 0, _, h => absurd h (Nat.not_lt_zero _)
  | n + 1, hn, h => by
    rw [pb_k0_t2_succ (k := ⟨n, hn⟩)]
    by_cases h0 : (y 0).val / 128 = n
    · obtain ⟨p, hp, hy⟩ := trip2_cover c i arg2 harg2 arg3 harg3 arg4 harg4 arg5 harg5 arg6 harg6 arg7 harg7 arg8 harg8 arg9 harg9 arg10 harg10 arg11 harg11 X3 X4 ⟨n, hn⟩ y h0 h1
      exact ⟨p, List.mem_append_left _ hp, hy⟩
    · obtain ⟨p, hp, hy⟩ := pb2_cover c i arg2 harg2 arg3 harg3 arg4 harg4 arg5 harg5 arg6 harg6 arg7 harg7 arg8 harg8 arg9 harg9 arg10 harg10 arg11 harg11 X3 X4 y h1 n (Nat.le_of_succ_le hn) (by omega)
      exact ⟨p, List.mem_append_right _ hp, hy⟩

/-- After the two loops the weight scratch holds the widened weights, whatever it held before. -/
theorem read_loops (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (f : BufTy.Contents (Elt F) arg10.view.ty) :
    arg10.view.read (Elt F) (arg10.view.writes (Elt F) f
      (pb_k0_t2 Variants.none c none i arg2 harg2 arg3 harg3 arg4 harg4 arg5 harg5 arg6 harg6 arg7 harg7 arg8 harg8 arg9 harg9 arg10 harg10 arg11 harg11 X3 X4 (Scf.trips k0_t2_loop.lb k0_t2_loop.ub k0_t2_loop.st) ++
        pb_k0_t1 Variants.none c none i arg2 harg2 arg3 harg3 arg4 harg4 arg5 harg5 arg6 harg6 arg7 harg7 arg8 harg8 arg9 harg9 arg10 harg10 arg11 harg11 X3 X4 (Scf.trips k0_t1_loop.lb k0_t1_loop.ub k0_t1_loop.st)))
      = WB i (arg3.view.read (Elt F) X3) (arg4.view.read (Elt F) X4) := by
  funext y
  have y0 : (y 0).val < 14336 := (y 0).isLt
  have y1 : (y 1).val < 256 := (y 1).isLt
  refine View.read_writes_apply_of_pieces arg10.view f (WB i (arg3.view.read (Elt F) X3) (arg4.view.read (Elt F) X4)) _ ?_ y ?_
  · intro p hp
    rcases List.mem_append.mp hp with h | hp
    · exact pb2_piece c i arg2 harg2 arg3 harg3 arg4 harg4 arg5 harg5 arg6 harg6 arg7 harg7 arg8 harg8 arg9 harg9 arg10 harg10 arg11 harg11 X3 X4 _ le_rfl p h
    · exact pb1_piece c i arg2 harg2 arg3 harg3 arg4 harg4 arg5 harg5 arg6 harg6 arg7 harg7 arg8 harg8 arg9 harg9 arg10 harg10 arg11 harg11 X3 X4 _ le_rfl p hp
  · have hq : (y 1).val / 128 = 0 ∨ (y 1).val / 128 = 1 := by omega
    rcases hq with h | h
    · obtain ⟨p, hp, hy⟩ := pb1_cover c i arg2 harg2 arg3 harg3 arg4 harg4 arg5 harg5 arg6 harg6 arg7 harg7 arg8 harg8 arg9 harg9 arg10 harg10 arg11 harg11 X3 X4 y h k0_t1_loop.trips le_rfl (by rw [trips1_eq]; omega)
      exact ⟨p, List.mem_append_right _ hp, hy⟩
    · obtain ⟨p, hp, hy⟩ := pb2_cover c i arg2 harg2 arg3 harg3 arg4 harg4 arg5 harg5 arg6 harg6 arg7 harg7 arg8 harg8 arg9 harg9 arg10 harg10 arg11 harg11 X3 X4 y h k0_t2_loop.trips le_rfl (by rw [trips2_eq]; omega)
      exact ⟨p, List.mem_append_left _ hp, hy⟩

end Cert.Proj.Hand
-- ==== Proof.BitsProjBody.lean ====
module

public import proofs.«01_k».proof.Proof.Gen.Proj.Frame
public import proofs.«01_k».proof.Proof.Gen.Proj.Skeleton
public import proofs.«01_k».proof.Proof.Gen.Proj.Loops
public import proofs.«01_k».proof.Proof.BitsProjLoops
public import Idealize.ShloMosaic.Lib.VecWindow
public import Idealize.ShloMosaic.Lib.WholeRead
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Proj.Hand

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The block of the projection at a point: the rows times the widened weights. -/
def PH (i : grid0.Coords) (x0 : Vec F S256x14336 .bf16) (x1 : Vec F S14336x256 .fp8e4m3) (x2 : Vec F S112x56 .f32) : Vec F S256x256 .bf16 :=
  k0_pay4 x0 (WB i x1 x2)

/-- A buffer held at any contents is owned at some value. -/
theorem owns_some (c : Dev nD) {sp : Space} {sh : Shape} {e : EltTy} (a : Memref sig .tc sp sh e) (f : BufTy.Contents (Elt F) a.view.ty) :
    (a.view.loc (c : Thread nD τ) ↦[a.view.set]{fullShare} f) ⊢ (iprop(∃ d : sh.Idx → Elt F e, ∃ g : BufTy.Contents (Elt F) a.view.ty, ⌜a.view.read (Elt F) g = d⌝ ∗ (a.view.loc (c : Thread nD τ) ↦[a.view.set]{fullShare} g)) : sProp 𝕄) := by
  iintro H
  iexists (a.view.read (Elt F) f); iexists f; isplitr
  · ipureintro; rfl
  iexact H

set_option maxHeartbeats 8000000 in
/-- The body's run at a point that does not end a row block. -/
theorem runA (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole)
    (hc : ¬k0_cond1 i = 1#1)
    (x0 : Vec F S256x14336 .bf16) (x1 : Vec F S14336x256 .fp8e4m3) (x2 : Vec F S112x56 .f32) (x3 : Vec F S1x7168 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (PH i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H6]
  · iexists _; isplitr; rotate_left; iexact H6
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    (try delta runA.sl.H6_1); (try delta runA.sl.v4); (try delta runA.sl.v3)
    (try rw [View.readAt_full arg2.view, hf0]); (try rw [View.readAt_full arg10.view, hl])
    exact View.read_writes_full _ _ _ _ _
  isplitl [H7]; · iapply (owns_some c arg7); iexact H7
  isplitl [H8]; · iapply (owns_some c arg8); iexact H8
  isplitl [H9]; · iapply (owns_some c arg9); iexact H9
  isplitl [H10]; · iapply (owns_some c arg10); iexact H10
  iapply (owns_some c arg11); iexact H11

set_option maxHeartbeats 8000000 in
/-- The body's run at a point that ends a row block. -/
theorem runB (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole)
    (hc : k0_cond1 i = 1#1)
    (x0 : Vec F S256x14336 .bf16) (x1 : Vec F S14336x256 .fp8e4m3) (x2 : Vec F S112x56 .f32) (x3 : Vec F S1x7168 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (PH i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H6]
  · iexists _; isplitr; rotate_left; iexact H6
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    (try delta runB.sl.H6_1); (try delta runB.sl.v4); (try delta runB.sl.v3)
    (try rw [View.readAt_full arg2.view, hf0]); (try rw [View.readAt_full arg10.view, hl])
    exact View.read_writes_full _ _ _ _ _
  isplitl [H7]; · iapply (owns_some c arg7); iexact H7
  isplitl [H8]; · iapply (owns_some c arg8); iexact H8
  isplitl [H9]; · iapply (owns_some c arg9); iexact H9
  isplitl [H10]; · iapply (owns_some c arg10); iexact H10
  iapply (owns_some c arg11); iexact H11

end Cert.Proj.Hand
-- ==== Proof.BitsProjFrame.lean ====
module

public import proofs.«01_k».proof.Proof.Gen.Proj.Frame
public import proofs.«01_k».proof.Proof.Gen.Proj.Skeleton
public import proofs.«01_k».proof.Proof.Gen.Proj.Loops
public import proofs.«01_k».proof.Proof.BitsProjBody
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Proj.Hand

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

variable (m : (ℓ : Loc nD τ sig) → Buf (Elt F) ℓ) (ρ : Dev nD → PrngReg)

/-- The windows nothing is said of: the quantised outputs. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

abbrev ms0_0 (t : Fin cfg0.N) : Memref sig .tc .vmem S256x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S14336x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S112x56 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x56 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x7168 .bf16 := win0_7.stage (cfg0.slots t 7)
abbrev hs0_7 (t : Fin cfg0.N) : (ms0_7 t).IsWhole := hstage0_7 ((cfg0.slots t 7).cast nbuf0_7)
abbrev scM0_0 : Memref sig .tc .vmem S14336x256 .bf16 := Memref.whole cc0_scratch0
abbrev scM0_1 : Memref sig .tc .vmem S256x7168 .f32 := Memref.whole cc0_scratch1

/-- The kit's invariant, each scratch owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data of the pipeline on core `c`: the projection's block is named, the quantised outputs are not. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => PH (grid0.coords t) (iblk m c 0 t) (iblk m c 1 t) (iblk m c 2 t)
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = PH (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ X, owns (c : Thread nD τ) (ms0_5 t) fullShare X) ∗ (∃ X, owns (c : Thread nD τ) (ms0_6 t) fullShare X) ∗ (∃ X, owns (c : Thread nD τ) (ms0_7 t) fullShare X))

/-- What the body returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (∃ X, owns (c : Thread nD τ) (ms0_5 t) fullShare X) ∗ (∃ X, owns (c : Thread nD τ) (ms0_6 t) fullShare X) ∗ (∃ X, owns (c : Thread nD τ) (ms0_7 t) fullShare X))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  iintro ⟨⟨⟨HS0, HS1⟩, Hg⟩, Ho, ⟨%d0, H0⟩, ⟨%d1, H1⟩, ⟨%d2, H2⟩, ⟨%d3, H3⟩, ⟨%d4, H4⟩, H5, H6, H7⟩
  by_cases h : k0_cond1 (grid0.coords t) = 1#1
  · iapply (runB c (grid0.coords t) _ _ _ _ _ _ _ _ _ _ _ _ _ _ _ _ _ _ _ _ h (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply (runA c (grid0.coords t) _ _ _ _ _ _ _ _ _ _ _ _ _ _ _ _ _ _ _ _ h (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: what the pipeline leaves in the arrays that are named, and every semaphore counter at zero. -/
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: the projection as the pipeline leaves it, the arguments unchanged. -/
theorem run_ph : θ_run defs (onTc (τ := τ) (main (F := F))) ⟨m, fun _ => 0, ρ⟩ (fun r => (∀ c : Dev nD,
      r.2.mem ((c.tc : Thread nD τ).loc main_v1_0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => by
    obtain ⟨h, -⟩ := hr
    refine ⟨((dats m 0 c).toRForget_arrAt_iff (fgt := fgt) (w := 4) rfl _ _).mp ((h c).1 4), ?_, ?_, ?_, ?_⟩
    · exact (h.arr_in c 0 rfl).trans ((A_eq m c 0).trans (V_main_arg0 m c))
    · exact (h.arr_in c 1 rfl).trans ((A_eq m c 1).trans (V_main_arg1 m c))
    · exact (h.arr_in c 2 rfl).trans ((A_eq m c 2).trans (V_main_arg2 m c))
    · exact ((h c).2 main_arg3 (Pipeline.mem_restRefs_of main_arg3 (by decide) (by decide))).trans (V_main_arg3 m c), hr.2⟩)
    (run_main_quiescent m ρ)

/-- The frame: the run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_ph m ρ)

end Cert.Proj.Hand
-- ==== Proof.ProjLoops.lean ====
module

public import proofs.«01_k».proof.Proof.Gen.ProjIdeal.Frame
public import proofs.«01_k».proof.Proof.Gen.ProjIdeal.Skeleton
public import proofs.«01_k».proof.Proof.Gen.ProjIdeal.Loops
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The cell of the scale table that scales weight `y` of column block `i 1`: row `y 0 / 128`, column `2 * i 1 + y 1 / 128`. -/
def SBix (i : grid0.Coords) (y : S14336x256.Idx) : S112x56.Idx := fun a => match a with
    | ⟨0, _⟩ => ⟨(y 0).val / 128, by have := (y 0).isLt; simp only [S14336x256, S112x56] at *; dsimp at *; omega⟩
    | ⟨1, _⟩ => ⟨2 * (i 1).val + (y 1).val / 128, by have := (y 1).isLt; have := (i 1).isLt; simp only [S14336x256, S112x56, grid0] at *; dsimp at *; omega⟩

/-- The scale of each weight of column block `i 1`. -/
def SB (i : grid0.Coords) (x2 : Vec F S112x56 .f32) : FVec F S14336x256 .f32 := fun y => x2 (SBix i y)

/-- The widened weights of column block `i 1`: each code times its scale rounded to bfloat16. -/
def WB (i : grid0.Coords) (x1 : Vec F S14336x256 .fp8e4m3) (x2 : Vec F S112x56 .f32) : FVec F S14336x256 .bf16 :=
  mulf (extf .bf16 x1 bitsLt_fp8e4m3_bf16) (truncf .bf16 (SB i x2) bitsLt_bf16_f32)

theorem trips1_eq : k0_t1_loop.trips = 112 := by decide +kernel

/-- Every write of loop 1's trip `k` stores the widened weights of the cells it covers. -/
theorem trip1_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t1_loop.trips) :
    ∀ p ∈ tripL_k0_t1 (F := F) Variants.none c none i arg2 harg2 arg3 harg3 arg4 harg4 arg5 harg5 arg6 harg6 arg7 harg7 arg8 harg8 arg9 harg9 arg10 harg10 arg11 harg11 X3 X4 k, ∀ x, p.2 x = WB i (arg3.view.read (Elt F) X3) (arg4.view.read (Elt F) X4) (p.1.emb x) := by
  unfold tripL_k0_t1 trip_k0_t1
  dsimp only
  intro p hp
  obtain rfl := List.mem_singleton.mp hp
  intro x
  dsimp only at x ⊢
  have hs : trip_k0_t1.sl.r i arg4 X4 k = arg4.view.read (Elt F) X4 (SBix i ((Rect.unit (k0_off2 k) ![128, 128] (k0_off2_inb k)).emb x)) := by
    unfold trip_k0_t1.sl.r
    refine congrArg (arg4.view.read (Elt F) X4) (funext fun a => Fin.ext ?_)
    have e1 := k0_off1_eq i k
    have e2 := k0_off2_eq k
    have hx0 : (x 0).val < 128 := (x 0).isLt
    have hx1 : (x 1).val < 128 := (x 1).isLt
    match a with
    | ⟨0, _⟩ =>
      have e10 : (k0_off1 i k) 0 = k.val := congrFun e1 0
      have e20 : (k0_off2 k) 0 = 128 * k.val := congrFun e2 0
      show (k0_off1 i k) 0 + 1 * 0 = ((k0_off2 k) 0 + 1 * (x 0).val) / 128
      omega
    | ⟨1, _⟩ =>
      have e11 : (k0_off1 i k) 1 = 2 * (i 1).val := congrFun e1 1
      have e21 : (k0_off2 k) 1 = 0 := congrFun e2 1
      show (k0_off1 i k) 1 + 1 * 0 = 2 * (i 1).val + ((k0_off2 k) 1 + 1 * (x 1).val) / 128
      omega
  unfold k0_pay1 WB SB
  simp only [shapeCast_self]
  rw [hs]
  rfl

/-- The cells that loop 1's trip `k` writes. -/
theorem trip1_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t1_loop.trips) (y : S14336x256.Idx)
    (h0 : (y 0).val / 128 = k.val) (h1 : (y 1).val / 128 = 0) :
    ∃ p ∈ tripL_k0_t1 (F := F) Variants.none c none i arg2 harg2 arg3 harg3 arg4 harg4 arg5 harg5 arg6 harg6 arg7 harg7 arg8 harg8 arg9 harg9 arg10 harg10 arg11 harg11 X3 X4 k, y ∈ p.1.set := by
  unfold tripL_k0_t1 trip_k0_t1
  dsimp only
  refine ⟨_, List.mem_singleton.mpr rfl, ?_⟩
  have e2 := k0_off2_eq k
  have e20 : (k0_off2 k) 0 = 128 * k.val := congrFun e2 0
  have e21 : (k0_off2 k) 1 = 0 := congrFun e2 1
  rw [Rect.mem_set_unit]
  intro a
  match a with
  | ⟨0, _⟩ =>
    show (k0_off2 k) 0 ≤ (y 0).val ∧ (y 0).val < (k0_off2 k) 0 + 128
    omega
  | ⟨1, _⟩ =>
    show (k0_off2 k) 1 ≤ (y 1).val ∧ (y 1).val < (k0_off2 k) 1 + 128
    omega

/-- Every write of loop 1 stores the widened weights of the cells it covers. -/
theorem pb1_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) :
    ∀ n, n ≤ k0_t1_loop.trips → ∀ p ∈ pb_k0_t1 (F := F) Variants.none c none i arg2 harg2 arg3 harg3 arg4 harg4 arg5 harg5 arg6 harg6 arg7 harg7 arg8 harg8 arg9 harg9 arg10 harg10 arg11 harg11 X3 X4 n, ∀ x, p.2 x = WB i (arg3.view.read (Elt F) X3) (arg4.view.read (Elt F) X4) (p.1.emb x)
  | 0, _, p, hp => by rw [pb_k0_t1.eq_1] at hp; exact absurd hp List.not_mem_nil
  | n + 1, hn, p, hp => by
    rw [pb_k0_t1_succ (k := ⟨n, hn⟩)] at hp
    rcases List.mem_append.mp hp with h | h
    · exact trip1_piece c i arg2 harg2 arg3 harg3 arg4 harg4 arg5 harg5 arg6 harg6 arg7 harg7 arg8 harg8 arg9 harg9 arg10 harg10 arg11 harg11 X3 X4 ⟨n, hn⟩ p h
    · exact pb1_piece c i arg2 harg2 arg3 harg3 arg4 harg4 arg5 harg5 arg6 harg6 arg7 harg7 arg8 harg8 arg9 harg9 arg10 harg10 arg11 harg11 X3 X4 n (Nat.le_of_succ_le hn) p h

/-- Loop 1 writes every cell of its 128 columns. -/
theorem pb1_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (y : S14336x256.Idx) (h1 : (y 1).val / 128 = 0) :
    ∀ n, n ≤ k0_t1_loop.trips → (y 0).val / 128 < n → ∃ p ∈ pb_k0_t1 (F := F) Variants.none c none i arg2 harg2 arg3 harg3 arg4 harg4 arg5 harg5 arg6 harg6 arg7 harg7 arg8 harg8 arg9 harg9 arg10 harg10 arg11 harg11 X3 X4 n, y ∈ p.1.set
  | 0, _, h => absurd h (Nat.not_lt_zero _)
  | n + 1, hn, h => by
    rw [pb_k0_t1_succ (k := ⟨n, hn⟩)]
    by_cases h0 : (y 0).val / 128 = n
    · obtain ⟨p, hp, hy⟩ := trip1_cover c i arg2 harg2 arg3 harg3 arg4 harg4 arg5 harg5 arg6 harg6 arg7 harg7 arg8 harg8 arg9 harg9 arg10 harg10 arg11 harg11 X3 X4 ⟨n, hn⟩ y h0 h1
      exact ⟨p, List.mem_append_left _ hp, hy⟩
    · obtain ⟨p, hp, hy⟩ := pb1_cover c i arg2 harg2 arg3 harg3 arg4 harg4 arg5 harg5 arg6 harg6 arg7 harg7 arg8 harg8 arg9 harg9 arg10 harg10 arg11 harg11 X3 X4 y h1 n (Nat.le_of_succ_le hn) (by omega)
      exact ⟨p, List.mem_append_right _ hp, hy⟩

theorem trips2_eq : k0_t2_loop.trips = 112 := by decide +kernel

/-- Every write of loop 2's trip `k` stores the widened weights of the cells it covers. -/
theorem trip2_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t2_loop.trips) :
    ∀ p ∈ tripL_k0_t2 (F := F) Variants.none c none i arg2 harg2 arg3 harg3 arg4 harg4 arg5 harg5 arg6 harg6 arg7 harg7 arg8 harg8 arg9 harg9 arg10 harg10 arg11 harg11 X3 X4 k, ∀ x, p.2 x = WB i (arg3.view.read (Elt F) X3) (arg4.view.read (Elt F) X4) (p.1.emb x) := by
  unfold tripL_k0_t2 trip_k0_t2
  dsimp only
  intro p hp
  obtain rfl := List.mem_singleton.mp hp
  intro x
  dsimp only at x ⊢
  have hs : trip_k0_t2.sl.r i arg4 X4 k = arg4.view.read (Elt F) X4 (SBix i ((Rect.unit (k0_off4 k) ![128, 128] (k0_off4_inb k)).emb x)) := by
    unfold trip_k0_t2.sl.r
    refine congrArg (arg4.view.read (Elt F) X4) (funext fun a => Fin.ext ?_)
    have e1 := k0_off3_eq i k
    have e2 := k0_off4_eq k
    have hx0 : (x 0).val < 128 := (x 0).isLt
    have hx1 : (x 1).val < 128 := (x 1).isLt
    match a with
    | ⟨0, _⟩ =>
      have e10 : (k0_off3 i k) 0 = k.val := congrFun e1 0
      have e20 : (k0_off4 k) 0 = 128 * k.val := congrFun e2 0
      show (k0_off3 i k) 0 + 1 * 0 = ((k0_off4 k) 0 + 1 * (x 0).val) / 128
      omega
    | ⟨1, _⟩ =>
      have e11 : (k0_off3 i k) 1 = 2 * (i 1).val + 1 := congrFun e1 1
      have e21 : (k0_off4 k) 1 = 128 := congrFun e2 1
      show (k0_off3 i k) 1 + 1 * 0 = 2 * (i 1).val + ((k0_off4 k) 1 + 1 * (x 1).val) / 128
      omega
  unfold k0_pay2 WB SB
  simp only [shapeCast_self]
  rw [hs]
  rfl

/-- The cells that loop 2's trip `k` writes. -/
theorem trip2_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t2_loop.trips) (y : S14336x256.Idx)
    (h0 : (y 0).val / 128 = k.val) (h1 : (y 1).val / 128 = 1) :
    ∃ p ∈ tripL_k0_t2 (F := F) Variants.none c none i arg2 harg2 arg3 harg3 arg4 harg4 arg5 harg5 arg6 harg6 arg7 harg7 arg8 harg8 arg9 harg9 arg10 harg10 arg11 harg11 X3 X4 k, y ∈ p.1.set := by
  unfold tripL_k0_t2 trip_k0_t2
  dsimp only
  refine ⟨_, List.mem_singleton.mpr rfl, ?_⟩
  have e2 := k0_off4_eq k
  have e20 : (k0_off4 k) 0 = 128 * k.val := congrFun e2 0
  have e21 : (k0_off4 k) 1 = 128 := congrFun e2 1
  rw [Rect.mem_set_unit]
  intro a
  match a with
  | ⟨0, _⟩ =>
    show (k0_off4 k) 0 ≤ (y 0).val ∧ (y 0).val < (k0_off4 k) 0 + 128
    omega
  | ⟨1, _⟩ =>
    show (k0_off4 k) 1 ≤ (y 1).val ∧ (y 1).val < (k0_off4 k) 1 + 128
    omega

/-- Every write of loop 2 stores the widened weights of the cells it covers. -/
theorem pb2_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) :
    ∀ n, n ≤ k0_t2_loop.trips → ∀ p ∈ pb_k0_t2 (F := F) Variants.none c none i arg2 harg2 arg3 harg3 arg4 harg4 arg5 harg5 arg6 harg6 arg7 harg7 arg8 harg8 arg9 harg9 arg10 harg10 arg11 harg11 X3 X4 n, ∀ x, p.2 x = WB i (arg3.view.read (Elt F) X3) (arg4.view.read (Elt F) X4) (p.1.emb x)
  | 0, _, p, hp => by rw [pb_k0_t2.eq_1] at hp; exact absurd hp List.not_mem_nil
  | n + 1, hn, p, hp => by
    rw [pb_k0_t2_succ (k := ⟨n, hn⟩)] at hp
    rcases List.mem_append.mp hp with h | h
    · exact trip2_piece c i arg2 harg2 arg3 harg3 arg4 harg4 arg5 harg5 arg6 harg6 arg7 harg7 arg8 harg8 arg9 harg9 arg10 harg10 arg11 harg11 X3 X4 ⟨n, hn⟩ p h
    · exact pb2_piece c i arg2 harg2 arg3 harg3 arg4 harg4 arg5 harg5 arg6 harg6 arg7 harg7 arg8 harg8 arg9 harg9 arg10 harg10 arg11 harg11 X3 X4 n (Nat.le_of_succ_le hn) p h

/-- Loop 2 writes every cell of its 128 columns. -/
theorem pb2_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (y : S14336x256.Idx) (h1 : (y 1).val / 128 = 1) :
    ∀ n, n ≤ k0_t2_loop.trips → (y 0).val / 128 < n → ∃ p ∈ pb_k0_t2 (F := F) Variants.none c none i arg2 harg2 arg3 harg3 arg4 harg4 arg5 harg5 arg6 harg6 arg7 harg7 arg8 harg8 arg9 harg9 arg10 harg10 arg11 harg11 X3 X4 n, y ∈ p.1.set
  | 0, _, h => absurd h (Nat.not_lt_zero _)
  | n + 1, hn, h => by
    rw [pb_k0_t2_succ (k := ⟨n, hn⟩)]
    by_cases h0 : (y 0).val / 128 = n
    · obtain ⟨p, hp, hy⟩ := trip2_cover c i arg2 harg2 arg3 harg3 arg4 harg4 arg5 harg5 arg6 harg6 arg7 harg7 arg8 harg8 arg9 harg9 arg10 harg10 arg11 harg11 X3 X4 ⟨n, hn⟩ y h0 h1
      exact ⟨p, List.mem_append_left _ hp, hy⟩
    · obtain ⟨p, hp, hy⟩ := pb2_cover c i arg2 harg2 arg3 harg3 arg4 harg4 arg5 harg5 arg6 harg6 arg7 harg7 arg8 harg8 arg9 harg9 arg10 harg10 arg11 harg11 X3 X4 y h1 n (Nat.le_of_succ_le hn) (by omega)
      exact ⟨p, List.mem_append_right _ hp, hy⟩

/-- After the two loops the weight scratch holds the widened weights, whatever it held before. -/
theorem read_loops (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (f : BufTy.Contents (Elt F) arg10.view.ty) :
    arg10.view.read (Elt F) (arg10.view.writes (Elt F) f
      (pb_k0_t2 Variants.none c none i arg2 harg2 arg3 harg3 arg4 harg4 arg5 harg5 arg6 harg6 arg7 harg7 arg8 harg8 arg9 harg9 arg10 harg10 arg11 harg11 X3 X4 (Scf.trips k0_t2_loop.lb k0_t2_loop.ub k0_t2_loop.st) ++
        pb_k0_t1 Variants.none c none i arg2 harg2 arg3 harg3 arg4 harg4 arg5 harg5 arg6 harg6 arg7 harg7 arg8 harg8 arg9 harg9 arg10 harg10 arg11 harg11 X3 X4 (Scf.trips k0_t1_loop.lb k0_t1_loop.ub k0_t1_loop.st)))
      = WB i (arg3.view.read (Elt F) X3) (arg4.view.read (Elt F) X4) := by
  funext y
  have y0 : (y 0).val < 14336 := (y 0).isLt
  have y1 : (y 1).val < 256 := (y 1).isLt
  refine View.read_writes_apply_of_pieces arg10.view f (WB i (arg3.view.read (Elt F) X3) (arg4.view.read (Elt F) X4)) _ ?_ y ?_
  · intro p hp
    rcases List.mem_append.mp hp with h | hp
    · exact pb2_piece c i arg2 harg2 arg3 harg3 arg4 harg4 arg5 harg5 arg6 harg6 arg7 harg7 arg8 harg8 arg9 harg9 arg10 harg10 arg11 harg11 X3 X4 _ le_rfl p h
    · exact pb1_piece c i arg2 harg2 arg3 harg3 arg4 harg4 arg5 harg5 arg6 harg6 arg7 harg7 arg8 harg8 arg9 harg9 arg10 harg10 arg11 harg11 X3 X4 _ le_rfl p hp
  · have hq : (y 1).val / 128 = 0 ∨ (y 1).val / 128 = 1 := by omega
    rcases hq with h | h
    · obtain ⟨p, hp, hy⟩ := pb1_cover c i arg2 harg2 arg3 harg3 arg4 harg4 arg5 harg5 arg6 harg6 arg7 harg7 arg8 harg8 arg9 harg9 arg10 harg10 arg11 harg11 X3 X4 y h k0_t1_loop.trips le_rfl (by rw [trips1_eq]; omega)
      exact ⟨p, List.mem_append_right _ hp, hy⟩
    · obtain ⟨p, hp, hy⟩ := pb2_cover c i arg2 harg2 arg3 harg3 arg4 harg4 arg5 harg5 arg6 harg6 arg7 harg7 arg8 harg8 arg9 harg9 arg10 harg10 arg11 harg11 X3 X4 y h k0_t2_loop.trips le_rfl (by rw [trips2_eq]; omega)
      exact ⟨p, List.mem_append_left _ hp, hy⟩

end Cert.ProjIdeal.Hand
-- ==== Proof.ProjBody.lean ====
module

public import proofs.«01_k».proof.Proof.Gen.ProjIdeal.Frame
public import proofs.«01_k».proof.Proof.Gen.ProjIdeal.Skeleton
public import proofs.«01_k».proof.Proof.Gen.ProjIdeal.Loops
public import proofs.«01_k».proof.Proof.ProjLoops
public import Idealize.ShloMosaic.Lib.VecWindow
public import Idealize.ShloMosaic.Lib.WholeRead
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The block of the projection at a point: the rows times the widened weights. -/
def PH (i : grid0.Coords) (x0 : Vec F S256x14336 .bf16) (x1 : Vec F S14336x256 .fp8e4m3) (x2 : Vec F S112x56 .f32) : Vec F S256x256 .bf16 :=
  k0_pay4 x0 (WB i x1 x2)

/-- A buffer held at any contents is owned at some value. -/
theorem owns_some (c : Dev nD) {sp : Space} {sh : Shape} {e : EltTy} (a : Memref sig .tc sp sh e) (f : BufTy.Contents (Elt F) a.view.ty) :
    (a.view.loc (c : Thread nD τ) ↦[a.view.set]{fullShare} f) ⊢ (iprop(∃ d : sh.Idx → Elt F e, ∃ g : BufTy.Contents (Elt F) a.view.ty, ⌜a.view.read (Elt F) g = d⌝ ∗ (a.view.loc (c : Thread nD τ) ↦[a.view.set]{fullShare} g)) : sProp 𝕄) := by
  iintro H
  iexists (a.view.read (Elt F) f); iexists f; isplitr
  · ipureintro; rfl
  iexact H

set_option maxHeartbeats 8000000 in
/-- The body's run at a point that does not end a row block. -/
theorem runA (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole)
    (hc : ¬k0_cond1 i = 1#1)
    (x0 : Vec F S256x14336 .bf16) (x1 : Vec F S14336x256 .fp8e4m3) (x2 : Vec F S112x56 .f32) (x3 : Vec F S1x7168 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (PH i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H6]
  · iexists _; isplitr; rotate_left; iexact H6
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    (try delta runA.sl.H6_1); (try delta runA.sl.v4); (try delta runA.sl.v3)
    (try rw [View.readAt_full arg2.view, hf0]); (try rw [View.readAt_full arg10.view, hl])
    exact View.read_writes_full _ _ _ _ _
  isplitl [H7]; · iapply (owns_some c arg7); iexact H7
  isplitl [H8]; · iapply (owns_some c arg8); iexact H8
  isplitl [H9]; · iapply (owns_some c arg9); iexact H9
  isplitl [H10]; · iapply (owns_some c arg10); iexact H10
  iapply (owns_some c arg11); iexact H11

set_option maxHeartbeats 8000000 in
/-- The body's run at a point that ends a row block. -/
theorem runB (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole)
    (hc : k0_cond1 i = 1#1)
    (x0 : Vec F S256x14336 .bf16) (x1 : Vec F S14336x256 .fp8e4m3) (x2 : Vec F S112x56 .f32) (x3 : Vec F S1x7168 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (PH i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H6]
  · iexists _; isplitr; rotate_left; iexact H6
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    (try delta runB.sl.H6_1); (try delta runB.sl.v4); (try delta runB.sl.v3)
    (try rw [View.readAt_full arg2.view, hf0]); (try rw [View.readAt_full arg10.view, hl])
    exact View.read_writes_full _ _ _ _ _
  isplitl [H7]; · iapply (owns_some c arg7); iexact H7
  isplitl [H8]; · iapply (owns_some c arg8); iexact H8
  isplitl [H9]; · iapply (owns_some c arg9); iexact H9
  isplitl [H10]; · iapply (owns_some c arg10); iexact H10
  iapply (owns_some c arg11); iexact H11

end Cert.ProjIdeal.Hand
-- ==== Proof.ProjFrame.lean ====
module

public import proofs.«01_k».proof.Proof.Gen.ProjIdeal.Frame
public import proofs.«01_k».proof.Proof.Gen.ProjIdeal.Skeleton
public import proofs.«01_k».proof.Proof.Gen.ProjIdeal.Loops
public import proofs.«01_k».proof.Proof.ProjBody
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

variable (m : (ℓ : Loc nD τ sig) → Buf (Elt F) ℓ) (ρ : Dev nD → PrngReg)

/-- The windows nothing is said of: the quantised outputs. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

abbrev ms0_0 (t : Fin cfg0.N) : Memref sig .tc .vmem S256x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S14336x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S112x56 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x56 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x7168 .bf16 := win0_7.stage (cfg0.slots t 7)
abbrev hs0_7 (t : Fin cfg0.N) : (ms0_7 t).IsWhole := hstage0_7 ((cfg0.slots t 7).cast nbuf0_7)
abbrev scM0_0 : Memref sig .tc .vmem S14336x256 .bf16 := Memref.whole cc0_scratch0
abbrev scM0_1 : Memref sig .tc .vmem S256x7168 .f32 := Memref.whole cc0_scratch1

/-- The kit's invariant, each scratch owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data of the pipeline on core `c`: the projection's block is named, the quantised outputs are not. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => PH (grid0.coords t) (iblk m c 0 t) (iblk m c 1 t) (iblk m c 2 t)
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = PH (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ X, owns (c : Thread nD τ) (ms0_5 t) fullShare X) ∗ (∃ X, owns (c : Thread nD τ) (ms0_6 t) fullShare X) ∗ (∃ X, owns (c : Thread nD τ) (ms0_7 t) fullShare X))

/-- What the body returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (∃ X, owns (c : Thread nD τ) (ms0_5 t) fullShare X) ∗ (∃ X, owns (c : Thread nD τ) (ms0_6 t) fullShare X) ∗ (∃ X, owns (c : Thread nD τ) (ms0_7 t) fullShare X))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  iintro ⟨⟨⟨HS0, HS1⟩, Hg⟩, Ho, ⟨%d0, H0⟩, ⟨%d1, H1⟩, ⟨%d2, H2⟩, ⟨%d3, H3⟩, ⟨%d4, H4⟩, H5, H6, H7⟩
  by_cases h : k0_cond1 (grid0.coords t) = 1#1
  · iapply (runB c (grid0.coords t) _ _ _ _ _ _ _ _ _ _ _ _ _ _ _ _ _ _ _ _ h (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply (runA c (grid0.coords t) _ _ _ _ _ _ _ _ _ _ _ _ _ _ _ _ _ _ _ _ h (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: what the pipeline leaves in the arrays that are named, and every semaphore counter at zero. -/
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: the projection as the pipeline leaves it, the arguments unchanged. -/
theorem run_ph : θ_run defs (onTc (τ := τ) (main (F := F))) ⟨m, fun _ => 0, ρ⟩ (fun r => (∀ c : Dev nD,
      r.2.mem ((c.tc : Thread nD τ).loc main_v1_0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => by
    obtain ⟨h, -⟩ := hr
    refine ⟨((dats m 0 c).toRForget_arrAt_iff (fgt := fgt) (w := 4) rfl _ _).mp ((h c).1 4), ?_, ?_, ?_, ?_⟩
    · exact (h.arr_in c 0 rfl).trans ((A_eq m c 0).trans (V_main_arg0 m c))
    · exact (h.arr_in c 1 rfl).trans ((A_eq m c 1).trans (V_main_arg1 m c))
    · exact (h.arr_in c 2 rfl).trans ((A_eq m c 2).trans (V_main_arg2 m c))
    · exact ((h c).2 main_arg3 (Pipeline.mem_restRefs_of main_arg3 (by decide) (by decide))).trans (V_main_arg3 m c), hr.2⟩)
    (run_main_quiescent m ρ)

/-- The frame: the run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_ph m ρ)

end Cert.ProjIdeal.Hand
-- ==== Proof.ProjValue.lean ====
module

public import proofs.«01_k».proof.Proof.ProjFrame
public import Idealize.ShloMosaic.Lib.Pointwise
public import Idealize.ShloMosaic.Lib.Pipeline.ValueKit
public import Idealize.ShloMosaic.Lib.Claim

@[expose] public section

set_option maxRecDepth 16384

noncomputable section

namespace Cert.ProjIdeal.Hand

open Cert.ProjIdeal Cert.ProjIdeal.Gen
open Idealize.ShloMosaic Idealize.ShloMosaic.TcCoe Idealize.SL.Sem
open Idealize.ShloMosaic.Pipeline (Dat)

/-- The projection of row `R` at column `v`, from the arrays: activations times dequantised weights. -/
def Y (X0 : FVec Ideal S8192x14336 .bf16) (X1 : FVec Ideal S14336x7168 .fp8e4m3) (X2 : FVec Ideal S112x56 .f32) (R : Fin 8192) (v : Fin 7168) : EReal :=
  ∑ k : Fin 14336, X0 (ix2 R k) * (X1 (ix2 k v) * X2 (ix2 ⟨k.val / 128, by omega⟩ ⟨v.val / 128, by omega⟩))

theorem col_lt (i : grid0.Coords) : (i 1).val < 28 := (i 1).isLt

/-- The block's value at a row and a column of column block `i 1`. -/
theorem PH_at (i : grid0.Coords) (x0 : FVec Ideal S256x14336 .bf16) (x1 : FVec Ideal S14336x256 .fp8e4m3) (x2 : FVec Ideal S112x56 .f32) (r y : Fin 256) :
    PH (F := Ideal) i x0 x1 x2 (ix2 r y) = ∑ k : Fin 14336, x0 (ix2 r k) * (x1 (ix2 k y) * x2 (ix2 ⟨k.val / 128, by omega⟩ ⟨2 * (i 1).val + y.val / 128, by have := col_lt i; omega⟩)) := by
  unfold PH
  pointwise [k0_pay4, k0_pay3]
  refine Finset.sum_congr rfl fun k _ => congrArg (x0 (ix2 r k) * ·) ?_
  have e : SB (F := Ideal) i x2 (ix2 k y) = x2 (ix2 ⟨k.val / 128, by omega⟩ ⟨2 * (i 1).val + y.val / 128, by have := col_lt i; omega⟩) := by
    unfold SB
    refine congrArg x2 (funext fun a => Fin.ext ?_)
    match a with
    | ⟨0, _⟩ => rfl
    | ⟨1, _⟩ => rfl
  exact congrArg (fun s : EReal => (x1 (ix2 k y) : EReal) * s) e

variable (m : (ℓ : Loc nD τ sig) → Buf (Elt Ideal) ℓ)

/-- The activations. -/
abbrev A0 (c : Dev nD) : FVec Ideal S8192x14336 .bf16 := m ((c : Thread nD τ).loc main_arg0)
/-- The weight codes. -/
abbrev A1 (c : Dev nD) : FVec Ideal S14336x7168 .fp8e4m3 := m ((c : Thread nD τ).loc main_arg1)
/-- The weight scales. -/
abbrev A2 (c : Dev nD) : FVec Ideal S112x56 .f32 := m ((c : Thread nD τ).loc main_arg2)

theorem idx : ∀ t : Fin cfg0.N, win0_0.index t = ![t.val / 28, 0] ∧ win0_1.index t = ![0, t.val % 28] ∧ win0_2.index t = ![0, 0]
    ∧ win0_4.index t = ![t.val / 28, t.val % 28] :=
  (by decide +kernel : ∀ t : Fin grid0.N, _)

theorem lt896 (t : Fin cfg0.N) : t.val < 896 := Nat.lt_of_lt_of_eq t.isLt N_0

/-- The array's row at row `r` of point `t`'s block. -/
def row (t : Fin cfg0.N) (r : Fin 256) : Fin 8192 := ⟨t.val / 28 * 256 + r.val, by have := lt896 t; omega⟩
/-- The array's column at column `y` of point `t`'s block. -/
def col (t : Fin cfg0.N) (y : Fin 256) : Fin 7168 := ⟨t.val % 28 * 256 + y.val, by omega⟩

theorem blk0 (c : Dev nD) (t : Fin cfg0.N) (r : Fin 256) (k : Fin 14336) : iblk m c 0 t (ix2 r k) = A0 m c (ix2 (row t r) k) := by
  unfold row
  blk_ext [iblk, V, idx t]

theorem blk1 (c : Dev nD) (t : Fin cfg0.N) (k : Fin 14336) (y : Fin 256) : iblk m c 1 t (ix2 k y) = A1 m c (ix2 k (col t y)) := by
  unfold col
  blk_ext [iblk, V, idx t]

theorem blk2 (c : Dev nD) (t : Fin cfg0.N) (a : Fin 112) (b : Fin 56) : iblk m c 2 t (ix2 a b) = A2 m c (ix2 a b) := by
  blk_ext [iblk, V, idx t]

/-- What the body leaves at point `t`: the projection at the block's rows and columns. -/
theorem PH_blk (c : Dev nD) (t : Fin cfg0.N) (r y : Fin 256) :
    PH (F := Ideal) (grid0.coords t) (iblk m c 0 t) (iblk m c 1 t) (iblk m c 2 t) (ix2 r y) = Y (A0 m c) (A1 m c) (A2 m c) (row t r) (col t y) := by
  have e1 : (grid0.coords t 1).val = t.val / 1 % 28 := Pipeline.Grid.coords_val t 1 (by decide) rfl
  refine (PH_at (grid0.coords t) (iblk m c 0 t) (iblk m c 1 t) (iblk m c 2 t) r y).trans ?_
  unfold Y
  refine Finset.sum_congr rfl fun k _ => ?_
  refine Ideal.mul_congr (blk0 m c t r k) (Ideal.mul_congr (blk1 m c t k y) ?_)
  refine (blk2 m c t _ _).trans (congrArg (A2 m c) ?_)
  refine (ix2_inj ..).2 ⟨rfl, Fin.ext ?_⟩
  show 2 * (grid0.coords t 1).val + y.val / 128 = (t.val % 28 * 256 + y.val) / 128
  omega

/-- The projection array. -/
def RES (c : Dev nD) : FVec Ideal S8192x7168 .bf16 := fun i => Y (A0 m c) (A1 m c) (A2 m c) (i 0) (i 1)

theorem final (c : Dev nD) : (dats m 0 c).arrAt 4 cfg0.N = RES m c := by
  refine (dats m 0 c).arrAt_eq_of_covers 4 _ (by decide +kernel) fun t hf y => ?_
  blk_simp
  rw [after0_4]
  have hy : y = (ix2 (y 0) (y 1) : S256x256.Idx) := funext fun a => by
    match a with
    | ⟨0, _⟩ => rfl
    | ⟨1, _⟩ => rfl
  have hr : (win0_4.blk t).view.emb y 0 = row t (y 0) := Fin.ext (by
    show ((win0_4.blk t).view.emb y 0).val = t.val / 28 * 256 + (y 0).val
    blk_simp [idx t])
  have hc : (win0_4.blk t).view.emb y 1 = col t (y 1) := Fin.ext (by
    show ((win0_4.blk t).view.emb y 1).val = t.val % 28 * 256 + (y 1).val
    blk_simp [idx t])
  refine (congrArg (PH (F := Ideal) (grid0.coords t) (iblk m c 0 t) (iblk m c 1 t) (iblk m c 2 t)) hy).trans ((PH_blk m c t (y 0) (y 1)).trans ?_)
  unfold RES
  rw [hr, hc]

/-- The run: the result array holds the projection, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v1_0) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1).trans (final m c), (h.1 c).2⟩) (run_ph m ρ)

end Cert.ProjIdeal.Hand
-- ==== Proof.ProjRefValue.lean ====
module

public import proofs.«01_k».proof.Proof.ProjValue
public import proofs.«01_k».proof.Proof.Gen.ProjReferenceIdeal.Frame
public import proofs.«01_k».proof.Proof.Gen.ProjReferenceIdeal.Run
public import proofs.«01_k».proof.Proof.Gen.ProjReferenceIdeal.Read
public import Idealize.ShloMosaic.Lib.Pipeline.ValueKit
public import Idealize.ShloMosaic.Lib.Pointwise

@[expose] public section

set_option maxRecDepth 16384

noncomputable section

namespace Cert.ProjReferenceIdeal.Hand

open Cert.ProjReferenceIdeal Cert.ProjReferenceIdeal.Gen Cert.ProjReferenceIdeal.Read
open Idealize.ShloMosaic Idealize.ShloMosaic.TcCoe Idealize.SL.Sem
open Idealize.ShloMosaic.Pipeline (Dat)

section Values
variable (x0 : FVec Ideal S8192x14336 .bf16) (x1 : FVec Ideal S14336x7168 .fp8e4m3) (x2 : FVec Ideal S112x56 .f32)
  (r0 : FVec Ideal S14336x7168 .bf16) (hr : ∀ i, r0 i = x1 i)

include hr in
theorem weight (k : Fin 14336) (v : Fin 7168) :
    val_main_v6 (F := Ideal) x2 r0 (ix2 k v) = x1 (ix2 k v) * x2 (ix2 ⟨k.val / 128, by omega⟩ ⟨v.val / 128, by omega⟩) := by
  rw [val_main_v6_apply, val_main_v5_apply, val_main_v4_apply, val_main_v3_apply, val_main_v2_apply, val_main_v1_apply, hr]
  have e1 : idx_main_v1 (idx_main_v6 (ix2 k v)) = ix2 k v := by
    funext a
    refine Fin.ext ?_
    match a with
    | ⟨0, _⟩ => show ((((k.val * 7168 + v.val) / 917504 * 128 + (k.val * 7168 + v.val) / 7168 % 128) * 56 + (k.val * 7168 + v.val) / 128 % 56) * 128 + (k.val * 7168 + v.val) % 128) / 7168 = k.val; omega
    | ⟨1, _⟩ => show ((((k.val * 7168 + v.val) / 917504 * 128 + (k.val * 7168 + v.val) / 7168 % 128) * 56 + (k.val * 7168 + v.val) / 128 % 56) * 128 + (k.val * 7168 + v.val) % 128) % 7168 = v.val; omega
  have e2 : idx_main_v3 (idx_main_v4 (idx_main_v6 (ix2 k v))) = ix2 ⟨k.val / 128, by omega⟩ ⟨v.val / 128, by omega⟩ := by
    funext a
    refine Fin.ext ?_
    match a with
    | ⟨0, _⟩ => show (k.val * 7168 + v.val) / 917504 = k.val / 128; omega
    | ⟨1, _⟩ => show (k.val * 7168 + v.val) / 128 % 56 = v.val / 128; omega
  rw [e1, e2]
  rfl

include hr in
theorem proj (R : Fin 8192) (v : Fin 7168) : val_main_v8 (F := Ideal) x0 x2 r0 (ix2 R v) = Cert.ProjIdeal.Hand.Y x0 x1 x2 R v := by
  rw [val_main_v8_apply]
  show val_main_v7 (F := Ideal) x0 x2 r0 (ix2 R v) = _
  rw [val_main_v7_apply]
  unfold Cert.ProjIdeal.Hand.Y
  refine Finset.sum_congr rfl fun k _ => ?_
  have e1 : lidx_main_v7 (ix2 R v) k = ix2 R k := by
    funext a
    match a with
    | ⟨0, _⟩ => rfl
    | ⟨1, _⟩ => rfl
  have e2 : ridx_main_v7 (ix2 R v) k = ix2 k v := by
    funext a
    match a with
    | ⟨0, _⟩ => rfl
    | ⟨1, _⟩ => rfl
  rw [e1, e2, weight x1 x2 r0 hr]

end Values

variable (m : (ℓ : Loc nD τ sig) → Buf (Elt Ideal) ℓ)

theorem idx : ∀ t : Fin cfg0.N, win0_0.index t = ![0, 0] ∧ win0_1.index t = ![0, 0] :=
  (by decide +kernel : ∀ t : Fin grid0.N, _)

/-- The widened codes are the codes: over the reals a cast changes nothing. -/
theorem widened (c : Dev nD) (i : S14336x7168.Idx) :
    (Value.reg_main_v0 m c : FVec Ideal S14336x7168 .bf16) i = (m ((c : Thread nD τ).loc main_arg1) : FVec Ideal S14336x7168 .fp8e4m3) i := by
  have e : Value.reg_main_v0 m c = (fun i => (m ((c : Thread nD τ).loc main_arg1) : FVec Ideal S14336x7168 .fp8e4m3) i : FVec Ideal S14336x7168 .bf16) := by
    unfold Value.reg_main_v0
    refine (dats m 0 c).arrAt_eq_of_after_last 1 t0_0 (by decide +kernel) _ fun j => ?_
    blk_simp
    rw [after0_1]
    frame_out
    blk_point [iblk, V, idx t0_0]
  rw [e]

/-- The reference's run: the projection, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v8) = (fun i => Cert.ProjIdeal.Hand.Y (m ((c : Thread nD τ).loc main_arg0)) (m ((c : Thread nD τ).loc main_arg1))
        (m ((c : Thread nD τ).loc main_arg2)) (i 0) (i 1) : FVec Ideal S8192x7168 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨((h c).1).trans ?_, (h c).2⟩) (Value.run m ρ)
  have h := val_main_v8_eq (F := Ideal) (Value.exitV m c)
  rw [Value.exit_main_arg0, Value.exit_main_arg2, Value.exit_main_v0] at h
  refine h.trans ?_
  funext i
  have ei : i = ix2 (i 0 : Fin 8192) (i 1 : Fin 7168) := by
    funext a
    match a with
    | ⟨0, _⟩ => rfl
    | ⟨1, _⟩ => rfl
  rw [ei]
  exact proj _ (m ((c : Thread nD τ).loc main_arg1)) _ _ (widened m c) (i 0) (i 1)

end Cert.ProjReferenceIdeal.Hand
-- ==== Proof.BitsQuantLoops.lean ====
module

public import proofs.«01_k».proof.Proof.Gen.Quant.Frame
public import proofs.«01_k».proof.Proof.Gen.Quant.Skeleton
public import proofs.«01_k».proof.Proof.Gen.Quant.Loops
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Quant.Hand

open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The cell of the scale table that scales weight `y` of column block `i 1`: row `y 0 / 128`, column `2 * i 1 + y 1 / 128`. -/
def SBix (i : grid0.Coords) (y : S14336x256.Idx) : S112x56.Idx := fun a => match a with
    | ⟨0, _⟩ => ⟨(y 0).val / 128, by have := (y 0).isLt; simp only [S14336x256, S112x56] at *; dsimp at *; omega⟩
    | ⟨1, _⟩ => ⟨2 * (i 1).val + (y 1).val / 128, by have := (y 1).isLt; have := (i 1).isLt; simp only [S14336x256, S112x56, grid0] at *; dsimp at *; omega⟩

/-- The scale of each weight of column block `i 1`. -/
def SB (i : grid0.Coords) (x2 : Vec F S112x56 .f32) : FVec F S14336x256 .f32 := fun y => x2 (SBix i y)

/-- The widened weights of column block `i 1`: each code times its scale rounded to bfloat16. -/
def WB (i : grid0.Coords) (x1 : Vec F S14336x256 .fp8e4m3) (x2 : Vec F S112x56 .f32) : FVec F S14336x256 .bf16 :=
  mulf (extf .bf16 x1 bitsLt_fp8e4m3_bf16) (truncf .bf16 (SB i x2) bitsLt_bf16_f32)

theorem trips1_eq : k0_t1_loop.trips = 112 := by decide +kernel

/-- Every write of loop 1's trip `k` stores the widened weights of the cells it covers. -/
theorem trip1_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t1_loop.trips) :
    ∀ p ∈ tripL_k0_t1 (F := F) Variants.none c none i arg2 harg2 arg3 harg3 arg4 harg4 arg5 harg5 arg6 harg6 arg7 harg7 arg8 harg8 arg9 harg9 arg10 harg10 arg11 harg11 X3 X4 k, ∀ x, p.2 x = WB i (arg3.view.read (Elt F) X3) (arg4.view.read (Elt F) X4) (p.1.emb x) := by
  unfold tripL_k0_t1 trip_k0_t1
  dsimp only
  intro p hp
  obtain rfl := List.mem_singleton.mp hp
  intro x
  dsimp only at x ⊢
  have hs : trip_k0_t1.sl.r i arg4 X4 k = arg4.view.read (Elt F) X4 (SBix i ((Rect.unit (k0_off2 k) ![128, 128] (k0_off2_inb k)).emb x)) := by
    unfold trip_k0_t1.sl.r
    refine congrArg (arg4.view.read (Elt F) X4) (funext fun a => Fin.ext ?_)
    have e1 := k0_off1_eq i k
    have e2 := k0_off2_eq k
    have hx0 : (x 0).val < 128 := (x 0).isLt
    have hx1 : (x 1).val < 128 := (x 1).isLt
    match a with
    | ⟨0, _⟩ =>
      have e10 : (k0_off1 i k) 0 = k.val := congrFun e1 0
      have e20 : (k0_off2 k) 0 = 128 * k.val := congrFun e2 0
      show (k0_off1 i k) 0 + 1 * 0 = ((k0_off2 k) 0 + 1 * (x 0).val) / 128
      omega
    | ⟨1, _⟩ =>
      have e11 : (k0_off1 i k) 1 = 2 * (i 1).val := congrFun e1 1
      have e21 : (k0_off2 k) 1 = 0 := congrFun e2 1
      show (k0_off1 i k) 1 + 1 * 0 = 2 * (i 1).val + ((k0_off2 k) 1 + 1 * (x 1).val) / 128
      omega
  unfold k0_pay1 WB SB
  simp only [shapeCast_self]
  rw [hs]
  rfl

/-- The cells that loop 1's trip `k` writes. -/
theorem trip1_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t1_loop.trips) (y : S14336x256.Idx)
    (h0 : (y 0).val / 128 = k.val) (h1 : (y 1).val / 128 = 0) :
    ∃ p ∈ tripL_k0_t1 (F := F) Variants.none c none i arg2 harg2 arg3 harg3 arg4 harg4 arg5 harg5 arg6 harg6 arg7 harg7 arg8 harg8 arg9 harg9 arg10 harg10 arg11 harg11 X3 X4 k, y ∈ p.1.set := by
  unfold tripL_k0_t1 trip_k0_t1
  dsimp only
  refine ⟨_, List.mem_singleton.mpr rfl, ?_⟩
  have e2 := k0_off2_eq k
  have e20 : (k0_off2 k) 0 = 128 * k.val := congrFun e2 0
  have e21 : (k0_off2 k) 1 = 0 := congrFun e2 1
  rw [Rect.mem_set_unit]
  intro a
  match a with
  | ⟨0, _⟩ =>
    show (k0_off2 k) 0 ≤ (y 0).val ∧ (y 0).val < (k0_off2 k) 0 + 128
    omega
  | ⟨1, _⟩ =>
    show (k0_off2 k) 1 ≤ (y 1).val ∧ (y 1).val < (k0_off2 k) 1 + 128
    omega

/-- Every write of loop 1 stores the widened weights of the cells it covers. -/
theorem pb1_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) :
    ∀ n, n ≤ k0_t1_loop.trips → ∀ p ∈ pb_k0_t1 (F := F) Variants.none c none i arg2 harg2 arg3 harg3 arg4 harg4 arg5 harg5 arg6 harg6 arg7 harg7 arg8 harg8 arg9 harg9 arg10 harg10 arg11 harg11 X3 X4 n, ∀ x, p.2 x = WB i (arg3.view.read (Elt F) X3) (arg4.view.read (Elt F) X4) (p.1.emb x)
  | 0, _, p, hp => by rw [pb_k0_t1.eq_1] at hp; exact absurd hp List.not_mem_nil
  | n + 1, hn, p, hp => by
    rw [pb_k0_t1_succ (k := ⟨n, hn⟩)] at hp
    rcases List.mem_append.mp hp with h | h
    · exact trip1_piece c i arg2 harg2 arg3 harg3 arg4 harg4 arg5 harg5 arg6 harg6 arg7 harg7 arg8 harg8 arg9 harg9 arg10 harg10 arg11 harg11 X3 X4 ⟨n, hn⟩ p h
    · exact pb1_piece c i arg2 harg2 arg3 harg3 arg4 harg4 arg5 harg5 arg6 harg6 arg7 harg7 arg8 harg8 arg9 harg9 arg10 harg10 arg11 harg11 X3 X4 n (Nat.le_of_succ_le hn) p h

/-- Loop 1 writes every cell of its 128 columns. -/
theorem pb1_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (y : S14336x256.Idx) (h1 : (y 1).val / 128 = 0) :
    ∀ n, n ≤ k0_t1_loop.trips → (y 0).val / 128 < n → ∃ p ∈ pb_k0_t1 (F := F) Variants.none c none i arg2 harg2 arg3 harg3 arg4 harg4 arg5 harg5 arg6 harg6 arg7 harg7 arg8 harg8 arg9 harg9 arg10 harg10 arg11 harg11 X3 X4 n, y ∈ p.1.set
  | 0, _, h => absurd h (Nat.not_lt_zero _)
  | n + 1, hn, h => by
    rw [pb_k0_t1_succ (k := ⟨n, hn⟩)]
    by_cases h0 : (y 0).val / 128 = n
    · obtain ⟨p, hp, hy⟩ := trip1_cover c i arg2 harg2 arg3 harg3 arg4 harg4 arg5 harg5 arg6 harg6 arg7 harg7 arg8 harg8 arg9 harg9 arg10 harg10 arg11 harg11 X3 X4 ⟨n, hn⟩ y h0 h1
      exact ⟨p, List.mem_append_left _ hp, hy⟩
    · obtain ⟨p, hp, hy⟩ := pb1_cover c i arg2 harg2 arg3 harg3 arg4 harg4 arg5 harg5 arg6 harg6 arg7 harg7 arg8 harg8 arg9 harg9 arg10 harg10 arg11 harg11 X3 X4 y h1 n (Nat.le_of_succ_le hn) (by omega)
      exact ⟨p, List.mem_append_right _ hp, hy⟩

theorem trips2_eq : k0_t2_loop.trips = 112 := by decide +kernel

/-- Every write of loop 2's trip `k` stores the widened weights of the cells it covers. -/
theorem trip2_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t2_loop.trips) :
    ∀ p ∈ tripL_k0_t2 (F := F) Variants.none c none i arg2 harg2 arg3 harg3 arg4 harg4 arg5 harg5 arg6 harg6 arg7 harg7 arg8 harg8 arg9 harg9 arg10 harg10 arg11 harg11 X3 X4 k, ∀ x, p.2 x = WB i (arg3.view.read (Elt F) X3) (arg4.view.read (Elt F) X4) (p.1.emb x) := by
  unfold tripL_k0_t2 trip_k0_t2
  dsimp only
  intro p hp
  obtain rfl := List.mem_singleton.mp hp
  intro x
  dsimp only at x ⊢
  have hs : trip_k0_t2.sl.r i arg4 X4 k = arg4.view.read (Elt F) X4 (SBix i ((Rect.unit (k0_off4 k) ![128, 128] (k0_off4_inb k)).emb x)) := by
    unfold trip_k0_t2.sl.r
    refine congrArg (arg4.view.read (Elt F) X4) (funext fun a => Fin.ext ?_)
    have e1 := k0_off3_eq i k
    have e2 := k0_off4_eq k
    have hx0 : (x 0).val < 128 := (x 0).isLt
    have hx1 : (x 1).val < 128 := (x 1).isLt
    match a with
    | ⟨0, _⟩ =>
      have e10 : (k0_off3 i k) 0 = k.val := congrFun e1 0
      have e20 : (k0_off4 k) 0 = 128 * k.val := congrFun e2 0
      show (k0_off3 i k) 0 + 1 * 0 = ((k0_off4 k) 0 + 1 * (x 0).val) / 128
      omega
    | ⟨1, _⟩ =>
      have e11 : (k0_off3 i k) 1 = 2 * (i 1).val + 1 := congrFun e1 1
      have e21 : (k0_off4 k) 1 = 128 := congrFun e2 1
      show (k0_off3 i k) 1 + 1 * 0 = 2 * (i 1).val + ((k0_off4 k) 1 + 1 * (x 1).val) / 128
      omega
  unfold k0_pay2 WB SB
  simp only [shapeCast_self]
  rw [hs]
  rfl

/-- The cells that loop 2's trip `k` writes. -/
theorem trip2_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t2_loop.trips) (y : S14336x256.Idx)
    (h0 : (y 0).val / 128 = k.val) (h1 : (y 1).val / 128 = 1) :
    ∃ p ∈ tripL_k0_t2 (F := F) Variants.none c none i arg2 harg2 arg3 harg3 arg4 harg4 arg5 harg5 arg6 harg6 arg7 harg7 arg8 harg8 arg9 harg9 arg10 harg10 arg11 harg11 X3 X4 k, y ∈ p.1.set := by
  unfold tripL_k0_t2 trip_k0_t2
  dsimp only
  refine ⟨_, List.mem_singleton.mpr rfl, ?_⟩
  have e2 := k0_off4_eq k
  have e20 : (k0_off4 k) 0 = 128 * k.val := congrFun e2 0
  have e21 : (k0_off4 k) 1 = 128 := congrFun e2 1
  rw [Rect.mem_set_unit]
  intro a
  match a with
  | ⟨0, _⟩ =>
    show (k0_off4 k) 0 ≤ (y 0).val ∧ (y 0).val < (k0_off4 k) 0 + 128
    omega
  | ⟨1, _⟩ =>
    show (k0_off4 k) 1 ≤ (y 1).val ∧ (y 1).val < (k0_off4 k) 1 + 128
    omega

/-- Every write of loop 2 stores the widened weights of the cells it covers. -/
theorem pb2_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) :
    ∀ n, n ≤ k0_t2_loop.trips → ∀ p ∈ pb_k0_t2 (F := F) Variants.none c none i arg2 harg2 arg3 harg3 arg4 harg4 arg5 harg5 arg6 harg6 arg7 harg7 arg8 harg8 arg9 harg9 arg10 harg10 arg11 harg11 X3 X4 n, ∀ x, p.2 x = WB i (arg3.view.read (Elt F) X3) (arg4.view.read (Elt F) X4) (p.1.emb x)
  | 0, _, p, hp => by rw [pb_k0_t2.eq_1] at hp; exact absurd hp List.not_mem_nil
  | n + 1, hn, p, hp => by
    rw [pb_k0_t2_succ (k := ⟨n, hn⟩)] at hp
    rcases List.mem_append.mp hp with h | h
    · exact trip2_piece c i arg2 harg2 arg3 harg3 arg4 harg4 arg5 harg5 arg6 harg6 arg7 harg7 arg8 harg8 arg9 harg9 arg10 harg10 arg11 harg11 X3 X4 ⟨n, hn⟩ p h
    · exact pb2_piece c i arg2 harg2 arg3 harg3 arg4 harg4 arg5 harg5 arg6 harg6 arg7 harg7 arg8 harg8 arg9 harg9 arg10 harg10 arg11 harg11 X3 X4 n (Nat.le_of_succ_le hn) p h

/-- Loop 2 writes every cell of its 128 columns. -/
theorem pb2_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (y : S14336x256.Idx) (h1 : (y 1).val / 128 = 1) :
    ∀ n, n ≤ k0_t2_loop.trips → (y 0).val / 128 < n → ∃ p ∈ pb_k0_t2 (F := F) Variants.none c none i arg2 harg2 arg3 harg3 arg4 harg4 arg5 harg5 arg6 harg6 arg7 harg7 arg8 harg8 arg9 harg9 arg10 harg10 arg11 harg11 X3 X4 n, y ∈ p.1.set
  | 0, _, h => absurd h (Nat.not_lt_zero _)
  | n + 1, hn, h => by
    rw [pb_k0_t2_succ (k := ⟨n, hn⟩)]
    by_cases h0 : (y 0).val / 128 = n
    · obtain ⟨p, hp, hy⟩ := trip2_cover c i arg2 harg2 arg3 harg3 arg4 harg4 arg5 harg5 arg6 harg6 arg7 harg7 arg8 harg8 arg9 harg9 arg10 harg10 arg11 harg11 X3 X4 ⟨n, hn⟩ y h0 h1
      exact ⟨p, List.mem_append_left _ hp, hy⟩
    · obtain ⟨p, hp, hy⟩ := pb2_cover c i arg2 harg2 arg3 harg3 arg4 harg4 arg5 harg5 arg6 harg6 arg7 harg7 arg8 harg8 arg9 harg9 arg10 harg10 arg11 harg11 X3 X4 y h1 n (Nat.le_of_succ_le hn) (by omega)
      exact ⟨p, List.mem_append_right _ hp, hy⟩

/-- After the two loops the weight scratch holds the widened weights, whatever it held before. -/
theorem read_loops (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (f : BufTy.Contents (Elt F) arg10.view.ty) :
    arg10.view.read (Elt F) (arg10.view.writes (Elt F) f
      (pb_k0_t2 Variants.none c none i arg2 harg2 arg3 harg3 arg4 harg4 arg5 harg5 arg6 harg6 arg7 harg7 arg8 harg8 arg9 harg9 arg10 harg10 arg11 harg11 X3 X4 (Scf.trips k0_t2_loop.lb k0_t2_loop.ub k0_t2_loop.st) ++
        pb_k0_t1 Variants.none c none i arg2 harg2 arg3 harg3 arg4 harg4 arg5 harg5 arg6 harg6 arg7 harg7 arg8 harg8 arg9 harg9 arg10 harg10 arg11 harg11 X3 X4 (Scf.trips k0_t1_loop.lb k0_t1_loop.ub k0_t1_loop.st)))
      = WB i (arg3.view.read (Elt F) X3) (arg4.view.read (Elt F) X4) := by
  funext y
  have y0 : (y 0).val < 14336 := (y 0).isLt
  have y1 : (y 1).val < 256 := (y 1).isLt
  refine View.read_writes_apply_of_pieces arg10.view f (WB i (arg3.view.read (Elt F) X3) (arg4.view.read (Elt F) X4)) _ ?_ y ?_
  · intro p hp
    rcases List.mem_append.mp hp with h | hp
    · exact pb2_piece c i arg2 harg2 arg3 harg3 arg4 harg4 arg5 harg5 arg6 harg6 arg7 harg7 arg8 harg8 arg9 harg9 arg10 harg10 arg11 harg11 X3 X4 _ le_rfl p h
    · exact pb1_piece c i arg2 harg2 arg3 harg3 arg4 harg4 arg5 harg5 arg6 harg6 arg7 harg7 arg8 harg8 arg9 harg9 arg10 harg10 arg11 harg11 X3 X4 _ le_rfl p hp
  · have hq : (y 1).val / 128 = 0 ∨ (y 1).val / 128 = 1 := by omega
    rcases hq with h | h
    · obtain ⟨p, hp, hy⟩ := pb1_cover c i arg2 harg2 arg3 harg3 arg4 harg4 arg5 harg5 arg6 harg6 arg7 harg7 arg8 harg8 arg9 harg9 arg10 harg10 arg11 harg11 X3 X4 y h k0_t1_loop.trips le_rfl (by rw [trips1_eq]; omega)
      exact ⟨p, List.mem_append_right _ hp, hy⟩
    · obtain ⟨p, hp, hy⟩ := pb2_cover c i arg2 harg2 arg3 harg3 arg4 harg4 arg5 harg5 arg6 harg6 arg7 harg7 arg8 harg8 arg9 harg9 arg10 harg10 arg11 harg11 X3 X4 y h k0_t2_loop.trips le_rfl (by rw [trips2_eq]; omega)
      exact ⟨p, List.mem_append_left _ hp, hy⟩

end Cert.Quant.Hand
-- ==== Proof.BitsQuantBody.lean ====
module

public import proofs.«01_k».proof.Proof.Gen.Quant.Frame
public import proofs.«01_k».proof.Proof.Gen.Quant.Skeleton
public import proofs.«01_k».proof.Proof.Gen.Quant.Loops
public import proofs.«01_k».proof.Proof.BitsQuantLoops
public import Idealize.ShloMosaic.Lib.VecWindow
public import Idealize.ShloMosaic.Lib.WholeRead
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Quant.Hand

open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The block of the projection at a point: the rows times the widened weights. -/
def PH (i : grid0.Coords) (x0 : Vec F S256x14336 .bf16) (x1 : Vec F S14336x256 .fp8e4m3) (x2 : Vec F S112x56 .f32) : Vec F S256x256 .bf16 :=
  k0_pay4 x0 (WB i x1 x2)

/-- A buffer held at any contents is owned at some value. -/
theorem owns_some (c : Dev nD) {sp : Space} {sh : Shape} {e : EltTy} (a : Memref sig .tc sp sh e) (f : BufTy.Contents (Elt F) a.view.ty) :
    (a.view.loc (c : Thread nD τ) ↦[a.view.set]{fullShare} f) ⊢ (iprop(∃ d : sh.Idx → Elt F e, ∃ g : BufTy.Contents (Elt F) a.view.ty, ⌜a.view.read (Elt F) g = d⌝ ∗ (a.view.loc (c : Thread nD τ) ↦[a.view.set]{fullShare} g)) : sProp 𝕄) := by
  iintro H
  iexists (a.view.read (Elt F) f); iexists f; isplitr
  · ipureintro; rfl
  iexact H

set_option maxHeartbeats 8000000 in
/-- The body's run at a point that does not end a row block. -/
theorem runA (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole)
    (hc : ¬k0_cond1 i = 1#1)
    (x0 : Vec F S256x14336 .bf16) (x1 : Vec F S14336x256 .fp8e4m3) (x2 : Vec F S112x56 .f32) (x3 : Vec F S1x7168 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (PH i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H6]
  · iexists _; isplitr; rotate_left; iexact H6
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    (try delta runA.sl.H6_1); (try delta runA.sl.v4); (try delta runA.sl.v3)
    (try rw [View.readAt_full arg2.view, hf0]); (try rw [View.readAt_full arg10.view, hl])
    exact View.read_writes_full _ _ _ _ _
  isplitl [H7]; · iapply (owns_some c arg7); iexact H7
  isplitl [H8]; · iapply (owns_some c arg8); iexact H8
  isplitl [H9]; · iapply (owns_some c arg9); iexact H9
  isplitl [H10]; · iapply (owns_some c arg10); iexact H10
  iapply (owns_some c arg11); iexact H11

set_option maxHeartbeats 8000000 in
/-- The body's run at a point that ends a row block. -/
theorem runB (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole)
    (hc : k0_cond1 i = 1#1)
    (x0 : Vec F S256x14336 .bf16) (x1 : Vec F S14336x256 .fp8e4m3) (x2 : Vec F S112x56 .f32) (x3 : Vec F S1x7168 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (PH i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H6]
  · iexists _; isplitr; rotate_left; iexact H6
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    (try delta runB.sl.H6_1); (try delta runB.sl.v4); (try delta runB.sl.v3)
    (try rw [View.readAt_full arg2.view, hf0]); (try rw [View.readAt_full arg10.view, hl])
    exact View.read_writes_full _ _ _ _ _
  isplitl [H7]; · iapply (owns_some c arg7); iexact H7
  isplitl [H8]; · iapply (owns_some c arg8); iexact H8
  isplitl [H9]; · iapply (owns_some c arg9); iexact H9
  isplitl [H10]; · iapply (owns_some c arg10); iexact H10
  iapply (owns_some c arg11); iexact H11

end Cert.Quant.Hand
-- ==== Proof.BitsQuantFrame.lean ====
module

public import proofs.«01_k».proof.Proof.Gen.Quant.Frame
public import proofs.«01_k».proof.Proof.Gen.Quant.Skeleton
public import proofs.«01_k».proof.Proof.Gen.Quant.Loops
public import proofs.«01_k».proof.Proof.BitsQuantBody
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Quant.Hand

open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

variable (m : (ℓ : Loc nD τ sig) → Buf (Elt F) ℓ) (ρ : Dev nD → PrngReg)

/-- The windows nothing is said of: the quantised outputs. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

abbrev ms0_0 (t : Fin cfg0.N) : Memref sig .tc .vmem S256x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S14336x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S112x56 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x56 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x7168 .bf16 := win0_7.stage (cfg0.slots t 7)
abbrev hs0_7 (t : Fin cfg0.N) : (ms0_7 t).IsWhole := hstage0_7 ((cfg0.slots t 7).cast nbuf0_7)
abbrev scM0_0 : Memref sig .tc .vmem S14336x256 .bf16 := Memref.whole cc0_scratch0
abbrev scM0_1 : Memref sig .tc .vmem S256x7168 .f32 := Memref.whole cc0_scratch1

/-- The kit's invariant, each scratch owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data of the pipeline on core `c`: the projection's block is named, the quantised outputs are not. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => PH (grid0.coords t) (iblk m c 0 t) (iblk m c 1 t) (iblk m c 2 t)
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = PH (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ X, owns (c : Thread nD τ) (ms0_5 t) fullShare X) ∗ (∃ X, owns (c : Thread nD τ) (ms0_6 t) fullShare X) ∗ (∃ X, owns (c : Thread nD τ) (ms0_7 t) fullShare X))

/-- What the body returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (∃ X, owns (c : Thread nD τ) (ms0_5 t) fullShare X) ∗ (∃ X, owns (c : Thread nD τ) (ms0_6 t) fullShare X) ∗ (∃ X, owns (c : Thread nD τ) (ms0_7 t) fullShare X))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  iintro ⟨⟨⟨HS0, HS1⟩, Hg⟩, Ho, ⟨%d0, H0⟩, ⟨%d1, H1⟩, ⟨%d2, H2⟩, ⟨%d3, H3⟩, ⟨%d4, H4⟩, H5, H6, H7⟩
  by_cases h : k0_cond1 (grid0.coords t) = 1#1
  · iapply (runB c (grid0.coords t) _ _ _ _ _ _ _ _ _ _ _ _ _ _ _ _ _ _ _ _ h (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply (runA c (grid0.coords t) _ _ _ _ _ _ _ _ _ _ _ _ _ _ _ _ _ _ _ _ h (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: what the pipeline leaves in the arrays that are named, and every semaphore counter at zero. -/
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: the projection as the pipeline leaves it, the arguments unchanged. -/
theorem run_ph : θ_run defs (onTc (τ := τ) (main (F := F))) ⟨m, fun _ => 0, ρ⟩ (fun r => (∀ c : Dev nD,
      r.2.mem ((c.tc : Thread nD τ).loc main_v1_0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => by
    obtain ⟨h, -⟩ := hr
    refine ⟨((dats m 0 c).toRForget_arrAt_iff (fgt := fgt) (w := 4) rfl _ _).mp ((h c).1 4), ?_, ?_, ?_, ?_⟩
    · exact (h.arr_in c 0 rfl).trans ((A_eq m c 0).trans (V_main_arg0 m c))
    · exact (h.arr_in c 1 rfl).trans ((A_eq m c 1).trans (V_main_arg1 m c))
    · exact (h.arr_in c 2 rfl).trans ((A_eq m c 2).trans (V_main_arg2 m c))
    · exact ((h c).2 main_arg3 (Pipeline.mem_restRefs_of main_arg3 (by decide) (by decide))).trans (V_main_arg3 m c), hr.2⟩)
    (run_main_quiescent m ρ)

/-- The frame: the run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_ph m ρ)

end Cert.Quant.Hand
-- ==== Proof.QuantLoops.lean ====
module

public import proofs.«01_k».proof.Proof.Gen.QuantIdeal.Frame
public import proofs.«01_k».proof.Proof.Gen.QuantIdeal.Skeleton
public import proofs.«01_k».proof.Proof.Gen.QuantIdeal.Loops
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.QuantIdeal.Hand

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The cell of the scale table that scales weight `y` of column block `i 1`: row `y 0 / 128`, column `2 * i 1 + y 1 / 128`. -/
def SBix (i : grid0.Coords) (y : S14336x256.Idx) : S112x56.Idx := fun a => match a with
    | ⟨0, _⟩ => ⟨(y 0).val / 128, by have := (y 0).isLt; simp only [S14336x256, S112x56] at *; dsimp at *; omega⟩
    | ⟨1, _⟩ => ⟨2 * (i 1).val + (y 1).val / 128, by have := (y 1).isLt; have := (i 1).isLt; simp only [S14336x256, S112x56, grid0] at *; dsimp at *; omega⟩

/-- The scale of each weight of column block `i 1`. -/
def SB (i : grid0.Coords) (x2 : Vec F S112x56 .f32) : FVec F S14336x256 .f32 := fun y => x2 (SBix i y)

/-- The widened weights of column block `i 1`: each code times its scale rounded to bfloat16. -/
def WB (i : grid0.Coords) (x1 : Vec F S14336x256 .fp8e4m3) (x2 : Vec F S112x56 .f32) : FVec F S14336x256 .bf16 :=
  mulf (extf .bf16 x1 bitsLt_fp8e4m3_bf16) (truncf .bf16 (SB i x2) bitsLt_bf16_f32)

theorem trips1_eq : k0_t1_loop.trips = 112 := by decide +kernel

/-- Every write of loop 1's trip `k` stores the widened weights of the cells it covers. -/
theorem trip1_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t1_loop.trips) :
    ∀ p ∈ tripL_k0_t1 (F := F) Variants.none c none i arg2 harg2 arg3 harg3 arg4 harg4 arg5 harg5 arg6 harg6 arg7 harg7 arg8 harg8 arg9 harg9 arg10 harg10 arg11 harg11 X3 X4 k, ∀ x, p.2 x = WB i (arg3.view.read (Elt F) X3) (arg4.view.read (Elt F) X4) (p.1.emb x) := by
  unfold tripL_k0_t1 trip_k0_t1
  dsimp only
  intro p hp
  obtain rfl := List.mem_singleton.mp hp
  intro x
  dsimp only at x ⊢
  have hs : trip_k0_t1.sl.r i arg4 X4 k = arg4.view.read (Elt F) X4 (SBix i ((Rect.unit (k0_off2 k) ![128, 128] (k0_off2_inb k)).emb x)) := by
    unfold trip_k0_t1.sl.r
    refine congrArg (arg4.view.read (Elt F) X4) (funext fun a => Fin.ext ?_)
    have e1 := k0_off1_eq i k
    have e2 := k0_off2_eq k
    have hx0 : (x 0).val < 128 := (x 0).isLt
    have hx1 : (x 1).val < 128 := (x 1).isLt
    match a with
    | ⟨0, _⟩ =>
      have e10 : (k0_off1 i k) 0 = k.val := congrFun e1 0
      have e20 : (k0_off2 k) 0 = 128 * k.val := congrFun e2 0
      show (k0_off1 i k) 0 + 1 * 0 = ((k0_off2 k) 0 + 1 * (x 0).val) / 128
      omega
    | ⟨1, _⟩ =>
      have e11 : (k0_off1 i k) 1 = 2 * (i 1).val := congrFun e1 1
      have e21 : (k0_off2 k) 1 = 0 := congrFun e2 1
      show (k0_off1 i k) 1 + 1 * 0 = 2 * (i 1).val + ((k0_off2 k) 1 + 1 * (x 1).val) / 128
      omega
  unfold k0_pay1 WB SB
  simp only [shapeCast_self]
  rw [hs]
  rfl

/-- The cells that loop 1's trip `k` writes. -/
theorem trip1_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t1_loop.trips) (y : S14336x256.Idx)
    (h0 : (y 0).val / 128 = k.val) (h1 : (y 1).val / 128 = 0) :
    ∃ p ∈ tripL_k0_t1 (F := F) Variants.none c none i arg2 harg2 arg3 harg3 arg4 harg4 arg5 harg5 arg6 harg6 arg7 harg7 arg8 harg8 arg9 harg9 arg10 harg10 arg11 harg11 X3 X4 k, y ∈ p.1.set := by
  unfold tripL_k0_t1 trip_k0_t1
  dsimp only
  refine ⟨_, List.mem_singleton.mpr rfl, ?_⟩
  have e2 := k0_off2_eq k
  have e20 : (k0_off2 k) 0 = 128 * k.val := congrFun e2 0
  have e21 : (k0_off2 k) 1 = 0 := congrFun e2 1
  rw [Rect.mem_set_unit]
  intro a
  match a with
  | ⟨0, _⟩ =>
    show (k0_off2 k) 0 ≤ (y 0).val ∧ (y 0).val < (k0_off2 k) 0 + 128
    omega
  | ⟨1, _⟩ =>
    show (k0_off2 k) 1 ≤ (y 1).val ∧ (y 1).val < (k0_off2 k) 1 + 128
    omega

/-- Every write of loop 1 stores the widened weights of the cells it covers. -/
theorem pb1_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) :
    ∀ n, n ≤ k0_t1_loop.trips → ∀ p ∈ pb_k0_t1 (F := F) Variants.none c none i arg2 harg2 arg3 harg3 arg4 harg4 arg5 harg5 arg6 harg6 arg7 harg7 arg8 harg8 arg9 harg9 arg10 harg10 arg11 harg11 X3 X4 n, ∀ x, p.2 x = WB i (arg3.view.read (Elt F) X3) (arg4.view.read (Elt F) X4) (p.1.emb x)
  | 0, _, p, hp => by rw [pb_k0_t1.eq_1] at hp; exact absurd hp List.not_mem_nil
  | n + 1, hn, p, hp => by
    rw [pb_k0_t1_succ (k := ⟨n, hn⟩)] at hp
    rcases List.mem_append.mp hp with h | h
    · exact trip1_piece c i arg2 harg2 arg3 harg3 arg4 harg4 arg5 harg5 arg6 harg6 arg7 harg7 arg8 harg8 arg9 harg9 arg10 harg10 arg11 harg11 X3 X4 ⟨n, hn⟩ p h
    · exact pb1_piece c i arg2 harg2 arg3 harg3 arg4 harg4 arg5 harg5 arg6 harg6 arg7 harg7 arg8 harg8 arg9 harg9 arg10 harg10 arg11 harg11 X3 X4 n (Nat.le_of_succ_le hn) p h

/-- Loop 1 writes every cell of its 128 columns. -/
theorem pb1_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (y : S14336x256.Idx) (h1 : (y 1).val / 128 = 0) :
    ∀ n, n ≤ k0_t1_loop.trips → (y 0).val / 128 < n → ∃ p ∈ pb_k0_t1 (F := F) Variants.none c none i arg2 harg2 arg3 harg3 arg4 harg4 arg5 harg5 arg6 harg6 arg7 harg7 arg8 harg8 arg9 harg9 arg10 harg10 arg11 harg11 X3 X4 n, y ∈ p.1.set
  | 0, _, h => absurd h (Nat.not_lt_zero _)
  | n + 1, hn, h => by
    rw [pb_k0_t1_succ (k := ⟨n, hn⟩)]
    by_cases h0 : (y 0).val / 128 = n
    · obtain ⟨p, hp, hy⟩ := trip1_cover c i arg2 harg2 arg3 harg3 arg4 harg4 arg5 harg5 arg6 harg6 arg7 harg7 arg8 harg8 arg9 harg9 arg10 harg10 arg11 harg11 X3 X4 ⟨n, hn⟩ y h0 h1
      exact ⟨p, List.mem_append_left _ hp, hy⟩
    · obtain ⟨p, hp, hy⟩ := pb1_cover c i arg2 harg2 arg3 harg3 arg4 harg4 arg5 harg5 arg6 harg6 arg7 harg7 arg8 harg8 arg9 harg9 arg10 harg10 arg11 harg11 X3 X4 y h1 n (Nat.le_of_succ_le hn) (by omega)
      exact ⟨p, List.mem_append_right _ hp, hy⟩

theorem trips2_eq : k0_t2_loop.trips = 112 := by decide +kernel

/-- Every write of loop 2's trip `k` stores the widened weights of the cells it covers. -/
theorem trip2_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t2_loop.trips) :
    ∀ p ∈ tripL_k0_t2 (F := F) Variants.none c none i arg2 harg2 arg3 harg3 arg4 harg4 arg5 harg5 arg6 harg6 arg7 harg7 arg8 harg8 arg9 harg9 arg10 harg10 arg11 harg11 X3 X4 k, ∀ x, p.2 x = WB i (arg3.view.read (Elt F) X3) (arg4.view.read (Elt F) X4) (p.1.emb x) := by
  unfold tripL_k0_t2 trip_k0_t2
  dsimp only
  intro p hp
  obtain rfl := List.mem_singleton.mp hp
  intro x
  dsimp only at x ⊢
  have hs : trip_k0_t2.sl.r i arg4 X4 k = arg4.view.read (Elt F) X4 (SBix i ((Rect.unit (k0_off4 k) ![128, 128] (k0_off4_inb k)).emb x)) := by
    unfold trip_k0_t2.sl.r
    refine congrArg (arg4.view.read (Elt F) X4) (funext fun a => Fin.ext ?_)
    have e1 := k0_off3_eq i k
    have e2 := k0_off4_eq k
    have hx0 : (x 0).val < 128 := (x 0).isLt
    have hx1 : (x 1).val < 128 := (x 1).isLt
    match a with
    | ⟨0, _⟩ =>
      have e10 : (k0_off3 i k) 0 = k.val := congrFun e1 0
      have e20 : (k0_off4 k) 0 = 128 * k.val := congrFun e2 0
      show (k0_off3 i k) 0 + 1 * 0 = ((k0_off4 k) 0 + 1 * (x 0).val) / 128
      omega
    | ⟨1, _⟩ =>
      have e11 : (k0_off3 i k) 1 = 2 * (i 1).val + 1 := congrFun e1 1
      have e21 : (k0_off4 k) 1 = 128 := congrFun e2 1
      show (k0_off3 i k) 1 + 1 * 0 = 2 * (i 1).val + ((k0_off4 k) 1 + 1 * (x 1).val) / 128
      omega
  unfold k0_pay2 WB SB
  simp only [shapeCast_self]
  rw [hs]
  rfl

/-- The cells that loop 2's trip `k` writes. -/
theorem trip2_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (k : Fin k0_t2_loop.trips) (y : S14336x256.Idx)
    (h0 : (y 0).val / 128 = k.val) (h1 : (y 1).val / 128 = 1) :
    ∃ p ∈ tripL_k0_t2 (F := F) Variants.none c none i arg2 harg2 arg3 harg3 arg4 harg4 arg5 harg5 arg6 harg6 arg7 harg7 arg8 harg8 arg9 harg9 arg10 harg10 arg11 harg11 X3 X4 k, y ∈ p.1.set := by
  unfold tripL_k0_t2 trip_k0_t2
  dsimp only
  refine ⟨_, List.mem_singleton.mpr rfl, ?_⟩
  have e2 := k0_off4_eq k
  have e20 : (k0_off4 k) 0 = 128 * k.val := congrFun e2 0
  have e21 : (k0_off4 k) 1 = 128 := congrFun e2 1
  rw [Rect.mem_set_unit]
  intro a
  match a with
  | ⟨0, _⟩ =>
    show (k0_off4 k) 0 ≤ (y 0).val ∧ (y 0).val < (k0_off4 k) 0 + 128
    omega
  | ⟨1, _⟩ =>
    show (k0_off4 k) 1 ≤ (y 1).val ∧ (y 1).val < (k0_off4 k) 1 + 128
    omega

/-- Every write of loop 2 stores the widened weights of the cells it covers. -/
theorem pb2_piece (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) :
    ∀ n, n ≤ k0_t2_loop.trips → ∀ p ∈ pb_k0_t2 (F := F) Variants.none c none i arg2 harg2 arg3 harg3 arg4 harg4 arg5 harg5 arg6 harg6 arg7 harg7 arg8 harg8 arg9 harg9 arg10 harg10 arg11 harg11 X3 X4 n, ∀ x, p.2 x = WB i (arg3.view.read (Elt F) X3) (arg4.view.read (Elt F) X4) (p.1.emb x)
  | 0, _, p, hp => by rw [pb_k0_t2.eq_1] at hp; exact absurd hp List.not_mem_nil
  | n + 1, hn, p, hp => by
    rw [pb_k0_t2_succ (k := ⟨n, hn⟩)] at hp
    rcases List.mem_append.mp hp with h | h
    · exact trip2_piece c i arg2 harg2 arg3 harg3 arg4 harg4 arg5 harg5 arg6 harg6 arg7 harg7 arg8 harg8 arg9 harg9 arg10 harg10 arg11 harg11 X3 X4 ⟨n, hn⟩ p h
    · exact pb2_piece c i arg2 harg2 arg3 harg3 arg4 harg4 arg5 harg5 arg6 harg6 arg7 harg7 arg8 harg8 arg9 harg9 arg10 harg10 arg11 harg11 X3 X4 n (Nat.le_of_succ_le hn) p h

/-- Loop 2 writes every cell of its 128 columns. -/
theorem pb2_cover (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (y : S14336x256.Idx) (h1 : (y 1).val / 128 = 1) :
    ∀ n, n ≤ k0_t2_loop.trips → (y 0).val / 128 < n → ∃ p ∈ pb_k0_t2 (F := F) Variants.none c none i arg2 harg2 arg3 harg3 arg4 harg4 arg5 harg5 arg6 harg6 arg7 harg7 arg8 harg8 arg9 harg9 arg10 harg10 arg11 harg11 X3 X4 n, y ∈ p.1.set
  | 0, _, h => absurd h (Nat.not_lt_zero _)
  | n + 1, hn, h => by
    rw [pb_k0_t2_succ (k := ⟨n, hn⟩)]
    by_cases h0 : (y 0).val / 128 = n
    · obtain ⟨p, hp, hy⟩ := trip2_cover c i arg2 harg2 arg3 harg3 arg4 harg4 arg5 harg5 arg6 harg6 arg7 harg7 arg8 harg8 arg9 harg9 arg10 harg10 arg11 harg11 X3 X4 ⟨n, hn⟩ y h0 h1
      exact ⟨p, List.mem_append_left _ hp, hy⟩
    · obtain ⟨p, hp, hy⟩ := pb2_cover c i arg2 harg2 arg3 harg3 arg4 harg4 arg5 harg5 arg6 harg6 arg7 harg7 arg8 harg8 arg9 harg9 arg10 harg10 arg11 harg11 X3 X4 y h1 n (Nat.le_of_succ_le hn) (by omega)
      exact ⟨p, List.mem_append_right _ hp, hy⟩

/-- After the two loops the weight scratch holds the widened weights, whatever it held before. -/
theorem read_loops (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (X3 : BufTy.Contents (Elt F) arg3.view.ty) (X4 : BufTy.Contents (Elt F) arg4.view.ty) (f : BufTy.Contents (Elt F) arg10.view.ty) :
    arg10.view.read (Elt F) (arg10.view.writes (Elt F) f
      (pb_k0_t2 Variants.none c none i arg2 harg2 arg3 harg3 arg4 harg4 arg5 harg5 arg6 harg6 arg7 harg7 arg8 harg8 arg9 harg9 arg10 harg10 arg11 harg11 X3 X4 (Scf.trips k0_t2_loop.lb k0_t2_loop.ub k0_t2_loop.st) ++
        pb_k0_t1 Variants.none c none i arg2 harg2 arg3 harg3 arg4 harg4 arg5 harg5 arg6 harg6 arg7 harg7 arg8 harg8 arg9 harg9 arg10 harg10 arg11 harg11 X3 X4 (Scf.trips k0_t1_loop.lb k0_t1_loop.ub k0_t1_loop.st)))
      = WB i (arg3.view.read (Elt F) X3) (arg4.view.read (Elt F) X4) := by
  funext y
  have y0 : (y 0).val < 14336 := (y 0).isLt
  have y1 : (y 1).val < 256 := (y 1).isLt
  refine View.read_writes_apply_of_pieces arg10.view f (WB i (arg3.view.read (Elt F) X3) (arg4.view.read (Elt F) X4)) _ ?_ y ?_
  · intro p hp
    rcases List.mem_append.mp hp with h | hp
    · exact pb2_piece c i arg2 harg2 arg3 harg3 arg4 harg4 arg5 harg5 arg6 harg6 arg7 harg7 arg8 harg8 arg9 harg9 arg10 harg10 arg11 harg11 X3 X4 _ le_rfl p h
    · exact pb1_piece c i arg2 harg2 arg3 harg3 arg4 harg4 arg5 harg5 arg6 harg6 arg7 harg7 arg8 harg8 arg9 harg9 arg10 harg10 arg11 harg11 X3 X4 _ le_rfl p hp
  · have hq : (y 1).val / 128 = 0 ∨ (y 1).val / 128 = 1 := by omega
    rcases hq with h | h
    · obtain ⟨p, hp, hy⟩ := pb1_cover c i arg2 harg2 arg3 harg3 arg4 harg4 arg5 harg5 arg6 harg6 arg7 harg7 arg8 harg8 arg9 harg9 arg10 harg10 arg11 harg11 X3 X4 y h k0_t1_loop.trips le_rfl (by rw [trips1_eq]; omega)
      exact ⟨p, List.mem_append_right _ hp, hy⟩
    · obtain ⟨p, hp, hy⟩ := pb2_cover c i arg2 harg2 arg3 harg3 arg4 harg4 arg5 harg5 arg6 harg6 arg7 harg7 arg8 harg8 arg9 harg9 arg10 harg10 arg11 harg11 X3 X4 y h k0_t2_loop.trips le_rfl (by rw [trips2_eq]; omega)
      exact ⟨p, List.mem_append_left _ hp, hy⟩

end Cert.QuantIdeal.Hand
-- ==== Proof.QuantTrip.lean ====
module

public import proofs.«01_k».proof.Proof.Gen.QuantIdeal.Frame
public import proofs.«01_k».proof.Proof.Gen.QuantIdeal.Skeleton
public import proofs.«01_k».proof.Proof.Gen.QuantIdeal.Loops
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.ValueIdx

@[expose] public section

set_option maxRecDepth 16384

noncomputable section

namespace Cert.QuantIdeal.Hand

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The offset of group `g` of trip `k`: its first row, its first column. -/
def TO (k : Fin k0_t3_loop.trips) (g : ℕ) : Fin 2 → ℕ := ![(k0_off6 k) 0, 128 * g]

theorem TO_inb (k : Fin k0_t3_loop.trips) (g : Fin 56) : ∀ a, TO k g.val a + S32x128.size a ≤ S256x7168.size a := by
  have e : (k0_off6 k) 0 = 32 * k.val := congrFun (k0_off6_eq k) 0
  have hk : k.val < 8 := lt_of_lt_of_le k.isLt k0_t3_abs.2.1
  have hg : g.val < 56 := g.isLt
  intro a
  match a with
  | ⟨0, _⟩ => show (k0_off6 k) 0 + 32 ≤ 256; omega
  | ⟨1, _⟩ => show 128 * g.val + 128 ≤ 7168; omega

theorem TW_inb (g : Fin 56) : ∀ a, (![0, 128 * g.val] : Fin 2 → ℕ) a + S1x128.size a ≤ S1x7168.size a := by
  have hg : g.val < 56 := g.isLt
  intro a
  match a with
  | ⟨0, _⟩ => show 0 + 1 ≤ 1; omega
  | ⟨1, _⟩ => show 128 * g.val + 128 ≤ 7168; omega

/-- The 32 rows of trip `k`, group `g`, as they are loaded. -/
def LR (arg11 : Memref sig .tc .vmem S256x7168 .f32) (X11 : BufTy.Contents (Elt F) arg11.view.ty) (k : Fin k0_t3_loop.trips) (g : Fin 56) : Vec F S32x128 .f32 :=
  View.readAt (Elt F) arg11.view (Rect.unit (s := S256x7168) (TO k g.val) S32x128.size (TO_inb k g)).toLoadRect X11

/-- The norm's weights of group `g`, as they are loaded. -/
def WR (arg5 : Memref sig .tc .vmem S1x7168 .f32) (X5 : BufTy.Contents (Elt F) arg5.view.ty) (g : Fin 56) : Vec F S1x128 .f32 :=
  View.readAt (Elt F) arg5.view (Rect.unit (s := S1x7168) (![0, 128 * g.val]) S1x128.size (TW_inb g)).toLoadRect X5

/-- The sum of the squares of the first `n` groups, lane by lane. -/
def ssN (L : Fin 56 → Vec F S32x128 .f32) : (n : ℕ) → n ≤ 56 → FVec F S32x128 .f32
  | 0, _ => broadcast S32x128 (Scalar.ofBits .f32 0x00000000#32)
  | n + 1, h => addf (ssN L n (Nat.le_of_succ_le h)) (mulf (L ⟨n, h⟩) (L ⟨n, h⟩))

/-- The reciprocal root mean square of each of the 32 rows. -/
def RMS (L : Fin 56 → Vec F S32x128 .f32) : FVec F S32x1 .f32 :=
  k0_pay15 (ssN L 46 (by decide)) (mulf (L 46) (L 46)) (L 47) (L 48) (L 49) (L 50) (L 51) (L 52) (L 53) (L 54) (L 55)

/-- The codes of one group of 32 rows. -/
def CG (R : FVec F S32x1 .f32) (P : Vec F S32x128 .f32) (W : Vec F S1x128 .f32) : FVec F S32x128 .fp8e4m3 :=
  k0_pay20 (k0_pay17 R P W) (k0_pay18 R P W) (k0_pay19 R P W)

/-- The table whose lane `g` is the group maximum of group `g`, for the first `n` groups. -/
def taccN (R : FVec F S32x1 .f32) (L : Fin 56 → Vec F S32x128 .f32) (W : Fin 56 → Vec F S1x128 .f32) : (n : ℕ) → n ≤ 56 → FVec F S32x128 .f32
  | 0, _ => broadcast S32x128 (Scalar.ofBits .f32 0x00000000#32)
  | n + 1, h => select (cmpi .eq (iota .tc S32x128 32 [1] iota_S32x128_d1_w32) (broadcast S32x128 (BitVec.ofNat 32 n)))
      (broadcastTo S32x128 (shapeCast S32x1 (k0_pay18 R (L ⟨n, h⟩) (W ⟨n, h⟩)) shapeCasts_S32x1_S32x1) broadcasts_S32x1_S32x128) (taccN R L W n (Nat.le_of_succ_le h))

set_option maxHeartbeats 2000000 in
theorem r8_eq (i : grid0.Coords) (arg11 : Memref sig .tc .vmem S256x7168 .f32) (h1 : k0_cond1 i = 1#1) (X11 : BufTy.Contents (Elt F) arg11.view.ty) (k : Fin k0_t3_loop.trips) :
    trip_k0_t3.sl.r_8 i arg11 h1 X11 k = RMS (LR arg11 X11 k) := by
  rfl

/-- The codes that trip `k` stores for group `g`. -/
def pieceC (arg5 : Memref sig .tc .vmem S1x7168 .f32) (arg11 : Memref sig .tc .vmem S256x7168 .f32) (X5 : BufTy.Contents (Elt F) arg5.view.ty) (X11 : BufTy.Contents (Elt F) arg11.view.ty) (k : Fin k0_t3_loop.trips) (g : Fin 56) : View.Piece (Elt F) S256x7168 .fp8e4m3 :=
  ⟨Rect.unit (s := S256x7168) (TO k g.val) S32x128.size (TO_inb k g), CG (RMS (LR arg11 X11 k)) (LR arg11 X11 k g) (WR arg5 X5 g)⟩

/-- The codes that trip `k` stores for its first `n` groups, last first. -/
def pcs (arg5 : Memref sig .tc .vmem S1x7168 .f32) (arg11 : Memref sig .tc .vmem S256x7168 .f32) (X5 : BufTy.Contents (Elt F) arg5.view.ty) (X11 : BufTy.Contents (Elt F) arg11.view.ty) (k : Fin k0_t3_loop.trips) : (n : ℕ) → n ≤ 56 → List (View.Piece (Elt F) S256x7168 .fp8e4m3)
  | 0, _ => []
  | n + 1, h => pieceC arg5 arg11 X5 X11 k ⟨n, h⟩ :: pcs arg5 arg11 X5 X11 k n (Nat.le_of_succ_le h)

theorem mem_pcs (arg5 : Memref sig .tc .vmem S1x7168 .f32) (arg11 : Memref sig .tc .vmem S256x7168 .f32) (X5 : BufTy.Contents (Elt F) arg5.view.ty) (X11 : BufTy.Contents (Elt F) arg11.view.ty) (k : Fin k0_t3_loop.trips) (p : View.Piece (Elt F) S256x7168 .fp8e4m3) :
    ∀ (n : ℕ) (h : n ≤ 56), p ∈ pcs arg5 arg11 X5 X11 k n h ↔ ∃ g : Fin 56, g.val < n ∧ p = pieceC arg5 arg11 X5 X11 k g
  | 0, _ => by simp [pcs]
  | n + 1, h => by
    rw [pcs, List.mem_cons, mem_pcs arg5 arg11 X5 X11 k p n]
    constructor
    · rintro (rfl | ⟨g, hg, rfl⟩)
      · exact ⟨⟨n, h⟩, Nat.lt_succ_self n, rfl⟩
      · exact ⟨g, by omega, rfl⟩
    · rintro ⟨g, hg, rfl⟩
      by_cases e : g.val = n
      · exact Or.inl (by obtain ⟨g, hg'⟩ := g; subst e; rfl)
      · exact Or.inr ⟨g, by omega, rfl⟩

/-- The scales of 32 rows. -/
def SC (R : FVec F S32x1 .f32) (L : Fin 56 → Vec F S32x128 .f32) (W : Fin 56 → Vec F S1x128 .f32) : FVec F S32x56 .f32 :=
  k0_pay6 (taccN R L W 56 le_rfl) (k0_pay594 (iota .tc S32x128 32 [1] iota_S32x128_d1_w32) (taccN R L W 55 (by decide)) (k0_pay18 R (L 55) (W 55)))

theorem TS_inb (k : Fin k0_t3_loop.trips) : ∀ a, (![(k0_off6 k) 0, 0] : Fin 2 → ℕ) a + S32x56.size a ≤ S256x56.size a := by
  have e : (k0_off6 k) 0 = 32 * k.val := congrFun (k0_off6_eq k) 0
  have hk : k.val < 8 := lt_of_lt_of_le k.isLt k0_t3_abs.2.1
  intro a
  match a with
  | ⟨0, _⟩ => show (k0_off6 k) 0 + 32 ≤ 256; omega
  | ⟨1, _⟩ => show 0 + 56 ≤ 56; omega

/-- The scales that trip `k` stores. -/
def pieceS (arg5 : Memref sig .tc .vmem S1x7168 .f32) (arg11 : Memref sig .tc .vmem S256x7168 .f32) (X5 : BufTy.Contents (Elt F) arg5.view.ty) (X11 : BufTy.Contents (Elt F) arg11.view.ty) (k : Fin k0_t3_loop.trips) : View.Piece (Elt F) S256x56 .f32 :=
  ⟨Rect.unit (s := S256x56) (![(k0_off6 k) 0, 0]) S32x56.size (TS_inb k), SC (RMS (LR arg11 X11 k)) (LR arg11 X11 k) (WR arg5 X5)⟩

set_option maxHeartbeats 4000000 in
/-- Trip `k` stores the codes of its 56 groups. -/
theorem trip3_codes (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (h1 : k0_cond1 i = 1#1) (X5 : BufTy.Contents (Elt F) arg5.view.ty) (X11 : BufTy.Contents (Elt F) arg11.view.ty) (k : Fin k0_t3_loop.trips) :
    (tripL_k0_t3 (F := F) Variants.none c none i arg2 harg2 arg3 harg3 arg4 harg4 arg5 harg5 arg6 harg6 arg7 harg7 arg8 harg8 arg9 harg9 arg10 harg10 arg11 harg11 h1 X5 X11 k).1 = pcs arg5 arg11 X5 X11 k 56 le_rfl := by
  unfold tripL_k0_t3 trip_k0_t3
  dsimp only
  rfl

set_option maxHeartbeats 4000000 in
/-- Trip `k` stores the scales of its rows. -/
theorem trip3_scales (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (h1 : k0_cond1 i = 1#1) (X5 : BufTy.Contents (Elt F) arg5.view.ty) (X11 : BufTy.Contents (Elt F) arg11.view.ty) (k : Fin k0_t3_loop.trips) :
    (tripL_k0_t3 (F := F) Variants.none c none i arg2 harg2 arg3 harg3 arg4 harg4 arg5 harg5 arg6 harg6 arg7 harg7 arg8 harg8 arg9 harg9 arg10 harg10 arg11 harg11 h1 X5 X11 k).2.1 = [pieceS arg5 arg11 X5 X11 k] := by
  unfold tripL_k0_t3 trip_k0_t3
  dsimp only
  rfl

/-- What the loop has stored of the codes after `n` trips. -/
theorem pb3_codes (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (h1 : k0_cond1 i = 1#1) (X5 : BufTy.Contents (Elt F) arg5.view.ty) (X11 : BufTy.Contents (Elt F) arg11.view.ty) (p : View.Piece (Elt F) S256x7168 .fp8e4m3) :
    ∀ n, n ≤ k0_t3_loop.trips → (p ∈ (pb_k0_t3 (F := F) Variants.none c none i arg2 harg2 arg3 harg3 arg4 harg4 arg5 harg5 arg6 harg6 arg7 harg7 arg8 harg8 arg9 harg9 arg10 harg10 arg11 harg11 h1 X5 X11 n).1 ↔ ∃ k : Fin k0_t3_loop.trips, k.val < n ∧ ∃ g : Fin 56, p = pieceC arg5 arg11 X5 X11 k g)
  | 0, _ => by rw [pb_k0_t3.eq_1]; simp
  | n + 1, hn => by
    rw [pb_k0_t3_succ (k := ⟨n, hn⟩)]
    show p ∈ (tripL_k0_t3 (F := F) Variants.none c none i arg2 harg2 arg3 harg3 arg4 harg4 arg5 harg5 arg6 harg6 arg7 harg7 arg8 harg8 arg9 harg9 arg10 harg10 arg11 harg11 h1 X5 X11 ⟨n, hn⟩).1 ++ (pb_k0_t3 (F := F) Variants.none c none i arg2 harg2 arg3 harg3 arg4 harg4 arg5 harg5 arg6 harg6 arg7 harg7 arg8 harg8 arg9 harg9 arg10 harg10 arg11 harg11 h1 X5 X11 n).1 ↔ _
    rw [trip3_codes, List.mem_append, mem_pcs, pb3_codes c i arg2 harg2 arg3 harg3 arg4 harg4 arg5 harg5 arg6 harg6 arg7 harg7 arg8 harg8 arg9 harg9 arg10 harg10 arg11 harg11 h1 X5 X11 p n (Nat.le_of_succ_le hn)]
    constructor
    · rintro (⟨g, -, rfl⟩ | ⟨k, hk, g, rfl⟩)
      · exact ⟨⟨n, hn⟩, Nat.lt_succ_self n, g, rfl⟩
      · exact ⟨k, Nat.lt_succ_of_lt hk, g, rfl⟩
    · rintro ⟨k, hk, g, rfl⟩
      by_cases e : k.val = n
      · exact Or.inl ⟨g, g.isLt, by obtain ⟨k, hk'⟩ := k; subst e; rfl⟩
      · exact Or.inr ⟨k, by omega, g, rfl⟩

/-- What the loop has stored of the scales after `n` trips. -/
theorem pb3_scales (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (h1 : k0_cond1 i = 1#1) (X5 : BufTy.Contents (Elt F) arg5.view.ty) (X11 : BufTy.Contents (Elt F) arg11.view.ty) (p : View.Piece (Elt F) S256x56 .f32) :
    ∀ n, n ≤ k0_t3_loop.trips → (p ∈ (pb_k0_t3 (F := F) Variants.none c none i arg2 harg2 arg3 harg3 arg4 harg4 arg5 harg5 arg6 harg6 arg7 harg7 arg8 harg8 arg9 harg9 arg10 harg10 arg11 harg11 h1 X5 X11 n).2.1 ↔ ∃ k : Fin k0_t3_loop.trips, k.val < n ∧ p = pieceS arg5 arg11 X5 X11 k)
  | 0, _ => by rw [pb_k0_t3.eq_1]; simp
  | n + 1, hn => by
    rw [pb_k0_t3_succ (k := ⟨n, hn⟩)]
    show p ∈ (tripL_k0_t3 (F := F) Variants.none c none i arg2 harg2 arg3 harg3 arg4 harg4 arg5 harg5 arg6 harg6 arg7 harg7 arg8 harg8 arg9 harg9 arg10 harg10 arg11 harg11 h1 X5 X11 ⟨n, hn⟩).2.1 ++ (pb_k0_t3 (F := F) Variants.none c none i arg2 harg2 arg3 harg3 arg4 harg4 arg5 harg5 arg6 harg6 arg7 harg7 arg8 harg8 arg9 harg9 arg10 harg10 arg11 harg11 h1 X5 X11 n).2.1 ↔ _
    rw [trip3_scales, List.mem_append, List.mem_singleton, pb3_scales c i arg2 harg2 arg3 harg3 arg4 harg4 arg5 harg5 arg6 harg6 arg7 harg7 arg8 harg8 arg9 harg9 arg10 harg10 arg11 harg11 h1 X5 X11 p n (Nat.le_of_succ_le hn)]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      by_cases e : k.val = n
      · exact Or.inl (by obtain ⟨k, hk'⟩ := k; subst e; rfl)
      · exact Or.inr ⟨k, by omega, rfl⟩

/-- Cell `x` of group `g` of trip `k`, in the block. -/
def ixP (k : Fin 8) (g : Fin 56) (x : S32x128.Idx) : S256x7168.Idx := fun a => match a with
  | ⟨0, _⟩ => ⟨32 * k.val + (x 0).val, by have h := (x 0).isLt; have := k.isLt; simp only [S32x128, S256x7168] at *; dsimp at *; omega⟩
  | ⟨1, _⟩ => ⟨128 * g.val + (x 1).val, by have h := (x 1).isLt; have := g.isLt; simp only [S32x128, S256x7168] at *; dsimp at *; omega⟩

def ixW (g : Fin 56) (x : S1x128.Idx) : S1x7168.Idx := fun a => match a with
  | ⟨0, _⟩ => ⟨0, Nat.one_pos⟩
  | ⟨1, _⟩ => ⟨128 * g.val + (x 1).val, by have h := (x 1).isLt; have := g.isLt; simp only [S1x128, S1x7168] at *; dsimp at *; omega⟩

/-- Group `g` of trip `k` of a block. -/
def LV (P : Vec F S256x7168 .f32) (k : Fin 8) (g : Fin 56) : Vec F S32x128 .f32 := fun x => P (ixP k g x)

/-- Group `g` of the norm's weights. -/
def WV (W : Vec F S1x7168 .f32) (g : Fin 56) : Vec F S1x128 .f32 := fun x => W (ixW g x)

def YCa (P : Vec F S256x7168 .f32) (W : Vec F S1x7168 .f32) (k : Fin 8) (g : Fin 56) (x : S32x128.Idx) : Elt F .fp8e4m3 :=
  CG (RMS (LV P k)) (LV P k g) (WV W g) x

/-- The codes of a block. -/
def YC (P : Vec F S256x7168 .f32) (W : Vec F S1x7168 .f32) : Vec F S256x7168 .fp8e4m3 := fun y =>
  YCa P W ⟨(y 0).val / 32, by have : (y 0).val < 256 := (y 0).isLt; omega⟩ ⟨(y 1).val / 128, by have : (y 1).val < 7168 := (y 1).isLt; omega⟩
    (ix2 ⟨(y 0).val % 32, Nat.mod_lt _ (by decide)⟩ ⟨(y 1).val % 128, Nat.mod_lt _ (by decide)⟩)

def YSa (P : Vec F S256x7168 .f32) (W : Vec F S1x7168 .f32) (k : Fin 8) (x : S32x56.Idx) : Elt F .f32 :=
  SC (RMS (LV P k)) (LV P k) (WV W) x

/-- The scales of a block. -/
def YS (P : Vec F S256x7168 .f32) (W : Vec F S1x7168 .f32) : Vec F S256x56 .f32 := fun y =>
  YSa P W ⟨(y 0).val / 32, by have : (y 0).val < 256 := (y 0).isLt; omega⟩ (ix2 ⟨(y 0).val % 32, Nat.mod_lt _ (by decide)⟩ ⟨(y 1).val, (y 1).isLt⟩)

theorem LR_eq (arg11 : Memref sig .tc .vmem S256x7168 .f32) (X11 : BufTy.Contents (Elt F) arg11.view.ty) (k : Fin k0_t3_loop.trips) (k' : Fin 8) (hk : k'.val = k.val) :
    LR arg11 X11 k = LV (arg11.view.read (Elt F) X11) k' := by
  funext g x
  refine congrArg (arg11.view.read (Elt F) X11) (funext fun a => Fin.ext ?_)
  have e : (k0_off6 k) 0 = 32 * k.val := congrFun (k0_off6_eq k) 0
  match a with
  | ⟨0, _⟩ => show (k0_off6 k) 0 + 1 * (x 0).val = 32 * k'.val + (x 0).val; omega
  | ⟨1, _⟩ => show 128 * g.val + 1 * (x 1).val = 128 * g.val + (x 1).val; omega

theorem WR_eq (arg5 : Memref sig .tc .vmem S1x7168 .f32) (X5 : BufTy.Contents (Elt F) arg5.view.ty) : WR arg5 X5 = WV (arg5.view.read (Elt F) X5) := by
  funext g x
  refine congrArg (arg5.view.read (Elt F) X5) (funext fun a => Fin.ext ?_)
  match a with
  | ⟨0, _⟩ =>
    have h : (x 0).val < 1 := (x 0).isLt
    show 0 + 1 * (x 0).val = 0
    omega
  | ⟨1, _⟩ => show 128 * g.val + 1 * (x 1).val = 128 * g.val + (x 1).val; omega

/-- After the row loop the codes' block holds the codes of the rows. -/
theorem read_codes (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (h1 : k0_cond1 i = 1#1) (X5 : BufTy.Contents (Elt F) arg5.view.ty) (X11 : BufTy.Contents (Elt F) arg11.view.ty) (f : BufTy.Contents (Elt F) arg7.view.ty) :
    arg7.view.read (Elt F) (arg7.view.writes (Elt F) f (pb_k0_t3 (F := F) Variants.none c none i arg2 harg2 arg3 harg3 arg4 harg4 arg5 harg5 arg6 harg6 arg7 harg7 arg8 harg8 arg9 harg9 arg10 harg10 arg11 harg11 h1 X5 X11 (Scf.trips k0_t3_loop.lb k0_t3_loop.ub k0_t3_loop.st)).1)
      = YC (arg11.view.read (Elt F) X11) (arg5.view.read (Elt F) X5) := by
  funext y
  have y0 : (y 0).val < 256 := (y 0).isLt
  have y1 : (y 1).val < 7168 := (y 1).isLt
  refine View.read_writes_apply_of_pieces arg7.view f _ _ (fun p hp => ?_) y ?_
  · obtain ⟨k, -, g, rfl⟩ := (pb3_codes c i arg2 harg2 arg3 harg3 arg4 harg4 arg5 harg5 arg6 harg6 arg7 harg7 arg8 harg8 arg9 harg9 arg10 harg10 arg11 harg11 h1 X5 X11 p _ le_rfl).mp hp
    intro x
    have x0 : (x 0).val < 32 := (x 0).isLt
    have x1 : (x 1).val < 128 := (x 1).isLt
    have hk : k.val < 8 := lt_of_lt_of_le k.isLt k0_t3_abs.2.1
    have e : (k0_off6 k) 0 = 32 * k.val := congrFun (k0_off6_eq k) 0
    show CG (RMS (LR arg11 X11 k)) (LR arg11 X11 k g) (WR arg5 X5 g) x = YC _ _ ((Rect.unit (s := S256x7168) (TO k g.val) S32x128.size (TO_inb k g)).emb x)
    rw [LR_eq arg11 X11 k ⟨k.val, hk⟩ rfl, WR_eq]
    show YCa _ _ ⟨k.val, hk⟩ g x = YCa _ _ _ _ _
    congr 1
    · exact Fin.ext (by show k.val = ((k0_off6 k) 0 + 1 * (x 0).val) / 32; omega)
    · exact Fin.ext (by show g.val = (128 * g.val + 1 * (x 1).val) / 128; omega)
    · funext a
      match a with
      | ⟨0, _⟩ => exact Fin.ext (by show (x 0).val = ((k0_off6 k) 0 + 1 * (x 0).val) % 32; omega)
      | ⟨1, _⟩ => exact Fin.ext (by show (x 1).val = (128 * g.val + 1 * (x 1).val) % 128; omega)
  · have ht : k0_t3_loop.trips = 8 := by decide +kernel
    refine ⟨pieceC arg5 arg11 X5 X11 ⟨(y 0).val / 32, by omega⟩ ⟨(y 1).val / 128, by omega⟩, (pb3_codes c i arg2 harg2 arg3 harg3 arg4 harg4 arg5 harg5 arg6 harg6 arg7 harg7 arg8 harg8 arg9 harg9 arg10 harg10 arg11 harg11 h1 X5 X11 _ _ le_rfl).mpr ⟨_, Fin.isLt _, _, rfl⟩, ?_⟩
    have e : (k0_off6 ⟨(y 0).val / 32, by omega⟩) 0 = 32 * ((y 0).val / 32) := congrFun (k0_off6_eq ⟨(y 0).val / 32, by omega⟩) 0
    unfold pieceC; dsimp only
    rw [Rect.mem_set_unit]
    intro a
    match a with
    | ⟨0, _⟩ => show (k0_off6 ⟨(y 0).val / 32, _⟩) 0 ≤ (y 0).val ∧ (y 0).val < (k0_off6 ⟨(y 0).val / 32, _⟩) 0 + 32; omega
    | ⟨1, _⟩ => show 128 * ((y 1).val / 128) ≤ (y 1).val ∧ (y 1).val < 128 * ((y 1).val / 128) + 128; omega

/-- After the row loop the scales' block holds the scales of the rows. -/
theorem read_scales (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole) (h1 : k0_cond1 i = 1#1) (X5 : BufTy.Contents (Elt F) arg5.view.ty) (X11 : BufTy.Contents (Elt F) arg11.view.ty) (f : BufTy.Contents (Elt F) arg8.view.ty) :
    arg8.view.read (Elt F) (arg8.view.writes (Elt F) f (pb_k0_t3 (F := F) Variants.none c none i arg2 harg2 arg3 harg3 arg4 harg4 arg5 harg5 arg6 harg6 arg7 harg7 arg8 harg8 arg9 harg9 arg10 harg10 arg11 harg11 h1 X5 X11 (Scf.trips k0_t3_loop.lb k0_t3_loop.ub k0_t3_loop.st)).2.1)
      = YS (arg11.view.read (Elt F) X11) (arg5.view.read (Elt F) X5) := by
  funext y
  have y0 : (y 0).val < 256 := (y 0).isLt
  have y1 : (y 1).val < 56 := (y 1).isLt
  refine View.read_writes_apply_of_pieces arg8.view f _ _ (fun p hp => ?_) y ?_
  · obtain ⟨k, -, rfl⟩ := (pb3_scales c i arg2 harg2 arg3 harg3 arg4 harg4 arg5 harg5 arg6 harg6 arg7 harg7 arg8 harg8 arg9 harg9 arg10 harg10 arg11 harg11 h1 X5 X11 p _ le_rfl).mp hp
    intro x
    have x0 : (x 0).val < 32 := (x 0).isLt
    have x1 : (x 1).val < 56 := (x 1).isLt
    have hk : k.val < 8 := lt_of_lt_of_le k.isLt k0_t3_abs.2.1
    have e : (k0_off6 k) 0 = 32 * k.val := congrFun (k0_off6_eq k) 0
    show SC (RMS (LR arg11 X11 k)) (LR arg11 X11 k) (WR arg5 X5) x = YS _ _ ((Rect.unit (s := S256x56) (![(k0_off6 k) 0, 0]) S32x56.size (TS_inb k)).emb x)
    rw [LR_eq arg11 X11 k ⟨k.val, hk⟩ rfl, WR_eq]
    show YSa _ _ ⟨k.val, hk⟩ x = YSa _ _ _ _
    congr 1
    · exact Fin.ext (by show k.val = ((k0_off6 k) 0 + 1 * (x 0).val) / 32; omega)
    · funext a
      match a with
      | ⟨0, _⟩ => exact Fin.ext (by show (x 0).val = ((k0_off6 k) 0 + 1 * (x 0).val) % 32; omega)
      | ⟨1, _⟩ => exact Fin.ext (by show (x 1).val = (0 + 1 * (x 1).val); omega)
  · have ht : k0_t3_loop.trips = 8 := by decide +kernel
    refine ⟨pieceS arg5 arg11 X5 X11 ⟨(y 0).val / 32, by omega⟩, (pb3_scales c i arg2 harg2 arg3 harg3 arg4 harg4 arg5 harg5 arg6 harg6 arg7 harg7 arg8 harg8 arg9 harg9 arg10 harg10 arg11 harg11 h1 X5 X11 _ _ le_rfl).mpr ⟨_, Fin.isLt _, rfl⟩, ?_⟩
    have e : (k0_off6 ⟨(y 0).val / 32, by omega⟩) 0 = 32 * ((y 0).val / 32) := congrFun (k0_off6_eq ⟨(y 0).val / 32, by omega⟩) 0
    unfold pieceS; dsimp only
    rw [Rect.mem_set_unit]
    intro a
    match a with
    | ⟨0, _⟩ => show (k0_off6 ⟨(y 0).val / 32, _⟩) 0 ≤ (y 0).val ∧ (y 0).val < (k0_off6 ⟨(y 0).val / 32, _⟩) 0 + 32; omega
    | ⟨1, _⟩ => show 0 ≤ (y 1).val ∧ (y 1).val < 0 + 56; omega

end Cert.QuantIdeal.Hand
-- ==== Proof.QuantBody.lean ====
module

public import proofs.«01_k».proof.Proof.Gen.QuantIdeal.Frame
public import proofs.«01_k».proof.Proof.Gen.QuantIdeal.Skeleton
public import proofs.«01_k».proof.Proof.Gen.QuantIdeal.Loops
public import proofs.«01_k».proof.Proof.QuantLoops
public import proofs.«01_k».proof.Proof.QuantTrip
public import Idealize.ShloMosaic.Lib.WritesUnit
public import Idealize.ShloMosaic.Lib.ValueIdx
public import Idealize.ShloMosaic.Lib.VecWindow
public import Idealize.ShloMosaic.Lib.WholeRead
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.QuantIdeal.Hand

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

/-- The block of the projection at a point: the rows times the widened weights. -/
def PH (i : grid0.Coords) (x0 : Vec F S256x14336 .bf16) (x1 : Vec F S14336x256 .fp8e4m3) (x2 : Vec F S112x56 .f32) : Vec F S256x256 .bf16 :=
  k0_pay4 x0 (WB i x1 x2)

/-- The block of the projection in float32 at a point. -/
def PP (i : grid0.Coords) (x0 : Vec F S256x14336 .bf16) (x1 : Vec F S14336x256 .fp8e4m3) (x2 : Vec F S112x56 .f32) : Vec F S256x256 .f32 :=
  k0_pay5 x0 (WB i x1 x2)

/-- The kept rows with the columns of a point replaced. -/
def UPD (i : grid0.Coords) (w : Vec F S256x256 .f32) (d : Vec F S256x7168 .f32) : Vec F S256x7168 .f32 := fun y =>
  if (y 1).val / 256 = (i 1).val then w (ix2 ⟨(y 0).val, (y 0).isLt⟩ ⟨(y 1).val % 256, Nat.mod_lt _ (by decide)⟩) else d y

/-- What the store of a point's block leaves in the kept rows. -/
theorem read_upd (arg11 : Memref sig .tc .vmem S256x7168 .f32) (f : BufTy.Contents (Elt F) arg11.view.ty) (i : grid0.Coords)
    (inb : ∀ a : Fin 2, k0_off5 i a + S256x256.size a ≤ S256x7168.size a) (w : Vec F S256x256 .f32) :
    arg11.view.read (Elt F) (arg11.view.writes (Elt F) f [⟨Rect.unit (s := S256x7168) (k0_off5 i) S256x256.size inb, w⟩]) = UPD i w (arg11.view.read (Elt F) f) := by
  funext y
  have h0 : (y 0).val < 256 := (y 0).isLt
  have h1 : (y 1).val < 7168 := (y 1).isLt
  unfold UPD
  by_cases h : (y 1).val / 256 = (i 1).val
  · rw [if_pos h]
    refine View.read_writes_cons_unit_of_mem arg11.view f inb w [] y _ (k0_off5_eq i) ?_
    intro a
    match a with
    | ⟨0, _⟩ => show (y 0).val = 0 + (y 0).val; omega
    | ⟨1, _⟩ => show (y 1).val = 256 * (i 1).val + (y 1).val % 256; omega
  · rw [if_neg h]
    refine View.read_writes_cons_unit_of_not_mem arg11.view f inb w [] y (k0_off5_eq i) 1 ?_
    show (y 1).val < 256 * (i 1).val ∨ 256 * (i 1).val + 256 ≤ (y 1).val
    omega

/-- A buffer held at any contents is owned at some value. -/
theorem owns_some (c : Dev nD) {sp : Space} {sh : Shape} {e : EltTy} (a : Memref sig .tc sp sh e) (f : BufTy.Contents (Elt F) a.view.ty) :
    (a.view.loc (c : Thread nD τ) ↦[a.view.set]{fullShare} f) ⊢ (iprop(∃ d : sh.Idx → Elt F e, ∃ g : BufTy.Contents (Elt F) a.view.ty, ⌜a.view.read (Elt F) g = d⌝ ∗ (a.view.loc (c : Thread nD τ) ↦[a.view.set]{fullShare} g)) : sProp 𝕄) := by
  iintro H
  iexists (a.view.read (Elt F) f); iexists f; isplitr
  · ipureintro; rfl
  iexact H

set_option maxHeartbeats 8000000 in
/-- The body's run at a point that does not end a row block. -/
theorem runA (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole)
    (hc : ¬k0_cond1 i = 1#1)
    (x0 : Vec F S256x14336 .bf16) (x1 : Vec F S14336x256 .fp8e4m3) (x2 : Vec F S112x56 .f32) (x3 : Vec F S1x7168 .f32) (d7 : Vec F S256x7168 .fp8e4m3) (d8 : Vec F S256x56 .f32) (d11 : Vec F S256x7168 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ (∃ d, owns (c : Thread nD τ) arg9 fullShare d) ∗ (∃ d, owns (c : Thread nD τ) arg10 fullShare d) ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (PH i x0 x1 x2) ∗ owns (c : Thread nD τ) arg7 fullShare d7 ∗ owns (c : Thread nD τ) arg8 fullShare d8 ∗ (∃ d, owns (c : Thread nD τ) arg9 fullShare d) ∗ (∃ d, owns (c : Thread nD τ) arg10 fullShare d) ∗ owns (c : Thread nD τ) arg11 fullShare (UPD i (PP i x0 x1 x2) d11)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H6]
  · iexists _; isplitr; rotate_left; iexact H6
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    (try delta runA.sl.H6_1); (try delta runA.sl.v4); (try delta runA.sl.v3)
    (try rw [View.readAt_full arg2.view, hf0]); (try rw [View.readAt_full arg10.view, hl])
    exact View.read_writes_full _ _ _ _ _
  isplitl [H7]; · iexists _; isplitr; (ipureintro; exact hf7); iexact H7
  isplitl [H8]; · iexists _; isplitr; (ipureintro; exact hf8); iexact H8
  isplitl [H9]; · iapply (owns_some c arg9); iexact H9
  isplitl [H10]; · iapply (owns_some c arg10); iexact H10
  iexists _; isplitr; rotate_left; iexact H11
  ipureintro
  have hl := read_loops c i arg2 harg2 arg3 harg3 arg4 harg4 arg5 harg5 arg6 harg6 arg7 harg7 arg8 harg8 arg9 harg9 arg10 harg10 arg11 harg11 (harg3.unread x1) (harg4.unread x2) f10
  rw [hf1, hf2] at hl
  change _ = _
  (try delta runA.sl.H11_1); (try delta runA.sl.v4); (try delta runA.sl.v3)
  (try rw [View.readAt_full arg2.view, hf0]); (try rw [View.readAt_full arg10.view, hl])
  rw [← hf11]
  exact read_upd arg11 f11 i _ _

set_option maxHeartbeats 8000000 in
/-- The body's run at a point that ends a row block. -/
theorem runB (c : Dev nD) (i : grid0.Coords) (arg2 : Memref sig .tc .vmem S256x14336 .bf16) (harg2 : arg2.IsWhole) (arg3 : Memref sig .tc .vmem S14336x256 .fp8e4m3) (harg3 : arg3.IsWhole) (arg4 : Memref sig .tc .smem S112x56 .f32) (harg4 : arg4.IsWhole) (arg5 : Memref sig .tc .vmem S1x7168 .f32) (harg5 : arg5.IsWhole) (arg6 : Memref sig .tc .vmem S256x256 .bf16) (harg6 : arg6.IsWhole) (arg7 : Memref sig .tc .vmem S256x7168 .fp8e4m3) (harg7 : arg7.IsWhole) (arg8 : Memref sig .tc .vmem S256x56 .f32) (harg8 : arg8.IsWhole) (arg9 : Memref sig .tc .vmem S256x7168 .bf16) (harg9 : arg9.IsWhole) (arg10 : Memref sig .tc .vmem S14336x256 .bf16) (harg10 : arg10.IsWhole) (arg11 : Memref sig .tc .vmem S256x7168 .f32) (harg11 : arg11.IsWhole)
    (hc : k0_cond1 i = 1#1)
    (x0 : Vec F S256x14336 .bf16) (x1 : Vec F S14336x256 .fp8e4m3) (x2 : Vec F S112x56 .f32) (x3 : Vec F S1x7168 .f32) (d11 : Vec F S256x7168 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (PH i x0 x1 x2) ∗ owns (c : Thread nD τ) arg7 fullShare (YC (UPD i (PP i x0 x1 x2) d11) x3) ∗ owns (c : Thread nD τ) arg8 fullShare (YS (UPD i (PP i x0 x1 x2) d11) x3) ∗ (∃ d, owns (c : Thread nD τ) arg9 fullShare d) ∗ (∃ d, owns (c : Thread nD τ) arg10 fullShare d) ∗ owns (c : Thread nD τ) arg11 fullShare (UPD i (PP i x0 x1 x2) d11)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H6]
  · iexists _; isplitr; rotate_left; iexact H6
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    (try delta runB.sl.H6_1); (try delta runB.sl.v4); (try delta runB.sl.v3)
    (try rw [View.readAt_full arg2.view, hf0]); (try rw [View.readAt_full arg10.view, hl])
    exact View.read_writes_full _ _ _ _ _
  isplitl [H7]
  · iexists _; isplitr; rotate_left; iexact H7
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    refine (read_codes c i arg2 harg2 arg3 harg3 arg4 harg4 arg5 harg5 arg6 harg6 arg7 harg7 arg8 harg8 arg9 harg9 arg10 harg10 arg11 harg11 hc (harg5.unread x3) _ _).trans ?_
    (try delta runB.sl.H11_1); (try delta runB.sl.v4); (try delta runB.sl.v3)
    (try rw [View.readAt_full arg2.view, hf0]); (try rw [View.readAt_full arg10.view, hl])
    rw [hf3, ← hf11]
    exact congrArg (fun d => YC d x3) (read_upd arg11 f11 i _ _)
  isplitl [H8]
  · iexists _; isplitr; rotate_left; iexact H8
    ipureintro
    have hl := read_loops c i arg2 harg2 arg3 harg3 arg4 harg4 arg5 harg5 arg6 harg6 arg7 harg7 arg8 harg8 arg9 harg9 arg10 harg10 arg11 harg11 (harg3.unread x1) (harg4.unread x2) f10
    rw [hf1, hf2] at hl
    change _ = _
    refine (read_scales c i arg2 harg2 arg3 harg3 arg4 harg4 arg5 harg5 arg6 harg6 arg7 harg7 arg8 harg8 arg9 harg9 arg10 harg10 arg11 harg11 hc (harg5.unread x3) _ _).trans ?_
    (try delta runB.sl.H11_1); (try delta runB.sl.v4); (try delta runB.sl.v3)
    (try rw [View.readAt_full arg2.view, hf0]); (try rw [View.readAt_full arg10.view, hl])
    rw [hf3, ← hf11]
    exact congrArg (fun d => YS d x3) (read_upd arg11 f11 i _ _)
  isplitl [H9]; · iapply (owns_some c arg9); iexact H9
  isplitl [H10]; · iapply (owns_some c arg10); iexact H10
  iexists _; isplitr; rotate_left; iexact H11
  ipureintro
  have hl := read_loops c i arg2 harg2 arg3 harg3 arg4 harg4 arg5 harg5 arg6 harg6 arg7 harg7 arg8 harg8 arg9 harg9 arg10 harg10 arg11 harg11 (harg3.unread x1) (harg4.unread x2) f10
  rw [hf1, hf2] at hl
  change _ = _
  (try delta runB.sl.H11_1); (try delta runB.sl.v4); (try delta runB.sl.v3)
  (try rw [View.readAt_full arg2.view, hf0]); (try rw [View.readAt_full arg10.view, hl])
  rw [← hf11]
  exact read_upd arg11 f11 i _ _

end Cert.QuantIdeal.Hand
-- ==== Proof.QuantFrame.lean ====
module

public import proofs.«01_k».proof.Proof.Gen.QuantIdeal.Frame
public import proofs.«01_k».proof.Proof.Gen.QuantIdeal.Skeleton
public import proofs.«01_k».proof.Proof.Gen.QuantIdeal.Loops
public import proofs.«01_k».proof.Proof.QuantBody
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.QuantIdeal.Hand

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs. -/
local notation "𝕄" => MT nD τ sig Unit (Elt F) ℕ (UR sig nD τ) ℕ

variable (m : (ℓ : Loc nD τ sig) → Buf (Elt F) ℓ) (ρ : Dev nD → PrngReg)

/-- The window nothing is said of: the dequantised output. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- The points that end a row block. -/
theorem hcond0_1 : ∀ t : Fin cfg0.N, k0_cond1 (grid0.coords t) = 1#1 ↔ t.val % 28 = 27 :=
  (fun t => by
    have ht : t.val < 896 := Nat.lt_of_lt_of_eq t.isLt N_0
    have e1 : (grid0.coords t 1).val = t.val / 1 % 28 := Pipeline.Grid.coords_val t 1 (by decide) rfl
    simp only [k0_cond1, e1]
    word_cmp
   : ∀ t : Fin grid0.N, k0_cond1 (grid0.coords t) = 1#1 ↔ t.val % 28 = 27)

theorem coords1 (t : Fin cfg0.N) : (grid0.coords t 1).val = t.val % 28 := by
  have e1 : (grid0.coords t 1).val = t.val / 1 % 28 := Pipeline.Grid.coords_val t 1 (by decide) rfl
  rw [e1, Nat.div_one]

/-- The quantised outputs' windows are idle except at the end of a row block. -/
theorem idleAt0_5 : ∀ t : Fin cfg0.N, t.val % 28 ≠ 27 → cfg0.idle 5 (grid0.coords t) = true := by decide +kernel
theorem noFlush0_5 : ∀ t : Fin cfg0.N, t.val % 28 ≠ 27 → (cfg0.win 5).flush t = false := by decide +kernel
theorem liveAt0_5 : ∀ t : Fin cfg0.N, t.val % 28 = 27 → cfg0.idle 5 (grid0.coords t) = false := by decide +kernel
theorem idleAt0_6 : ∀ t : Fin cfg0.N, t.val % 28 ≠ 27 → cfg0.idle 6 (grid0.coords t) = true := by decide +kernel
theorem noFlush0_6 : ∀ t : Fin cfg0.N, t.val % 28 ≠ 27 → (cfg0.win 6).flush t = false := by decide +kernel
theorem liveAt0_6 : ∀ t : Fin cfg0.N, t.val % 28 = 27 → cfg0.idle 6 (grid0.coords t) = false := by decide +kernel

abbrev ms0_0 (t : Fin cfg0.N) : Memref sig .tc .vmem S256x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S14336x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S112x56 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x56 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x7168 .bf16 := win0_7.stage (cfg0.slots t 7)
abbrev hs0_7 (t : Fin cfg0.N) : (ms0_7 t).IsWhole := hstage0_7 ((cfg0.slots t 7).cast nbuf0_7)
abbrev scM0_0 : Memref sig .tc .vmem S14336x256 .bf16 := Memref.whole cc0_scratch0
abbrev scM0_1 : Memref sig .tc .vmem S256x7168 .f32 := Memref.whole cc0_scratch1

/-- The kit's invariant, each scratch owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The projection's block in float32 at a point. -/
def PPt (c : Dev nD) (t : Fin cfg0.N) : Vec F S256x256 .f32 :=
  PP (grid0.coords t) (iblk m c 0 t) (iblk m c 1 t) (iblk m c 2 t)

/-- An index of the kept rows within its block of columns. -/
def loc (y : S256x7168.Idx) : S256x256.Idx := ix2 ⟨(y 0).val, (y 0).isLt⟩ ⟨(y 1).val % 256, Nat.mod_lt _ (by decide)⟩

/-- The projection's rows of a point's row block. -/
def ROWS (c : Dev nD) (t : Fin cfg0.N) : Vec F S256x7168 .f32 := fun y =>
  PPt m c ⟨28 * (t.val / 28) + (y 1).val / 256, by
    have ht : t.val < 896 := Nat.lt_of_lt_of_eq t.isLt N_0
    have h1 : (y 1).val < 7168 := (y 1).isLt
    have : cfg0.N = 896 := N_0
    omega⟩ (loc y)

/-- Before position `n` the kept rows hold the projection in the columns already computed of the current row block. -/
def Known (c : Dev nD) (n : ℕ) (d : Vec F S256x7168 .f32) : Prop :=
  ∀ (t : Fin cfg0.N) (y : S256x7168.Idx), n / 28 = t.val / 28 → (y 1).val / 256 = t.val % 28 → t.val < n → d y = PPt m c t (loc y)

theorem known_zero (c : Dev nD) (d : Vec F S256x7168 .f32) : Known m c 0 d := fun t _ _ _ h => absurd h (Nat.not_lt_zero _)

/-- One more point: one more block of columns. -/
theorem known_step (c : Dev nD) (t : Fin cfg0.N) (d : Vec F S256x7168 .f32) (h : Known m c t.val d) :
    Known m c (t.val + 1) (UPD (grid0.coords t) (PPt m c t) d) := by
  intro t' y h1 h2 h3
  unfold UPD
  rw [coords1 t]
  by_cases e : t' = t
  · subst e; rw [if_pos h2]; rfl
  · have e' : t'.val ≠ t.val := fun h => e (Fin.ext h)
    rw [if_neg (by omega)]
    exact h t' y (by omega) h2 (by omega)

/-- At the end of a row block the kept rows are the projection's. -/
theorem known_last (c : Dev nD) (t : Fin cfg0.N) (ht : t.val % 28 = 27) (d : Vec F S256x7168 .f32) (h : Known m c t.val d) :
    UPD (grid0.coords t) (PPt m c t) d = ROWS m c t := by
  funext y
  have h1 : (y 1).val < 7168 := (y 1).isLt
  unfold UPD ROWS
  rw [coords1 t]
  by_cases e : (y 1).val / 256 = t.val % 28
  · rw [if_pos e]
    have : (⟨28 * (t.val / 28) + (y 1).val / 256, by
      have ht : t.val < 896 := Nat.lt_of_lt_of_eq t.isLt N_0
      have : cfg0.N = 896 := N_0
      omega⟩ : Fin cfg0.N) = t := Fin.ext (by show 28 * (t.val / 28) + (y 1).val / 256 = t.val; omega)
    rw [this]; rfl
  · rw [if_neg e]
    exact h _ y (by show t.val / 28 = (28 * (t.val / 28) + (y 1).val / 256) / 28; omega) (by show (y 1).val / 256 = (28 * (t.val / 28) + (y 1).val / 256) % 28; omega)
      (by show 28 * (t.val / 28) + (y 1).val / 256 < t.val; omega)

/-- What is carried between points: the weights' scratch at anything, the kept rows as computed so far. -/
def PhiK (c : Dev nD) (n : ℕ) : sProp 𝕄 :=
  iprop(iprop((∃ d, owns (c : Thread nD τ) scM0_0 fullShare d) ∗ (∃ d, ⌜Known m c n d⌝ ∗ owns (c : Thread nD τ) scM0_1 fullShare d)) ∗ (∃ r, prngReg c r))

/-- The proof data of the pipeline on core `c`: the projection's block and the quantised outputs are named, the dequantised output is not. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => PH (grid0.coords t) (iblk m c 0 t) (iblk m c 1 t) (iblk m c 2 t)
    | ⟨5, _⟩ => YC (ROWS m c t) (iblk m c 3 t)
    | ⟨6, _⟩ => YS (ROWS m c t) (iblk m c 3 t)
    | ⟨7, _⟩ => iblk m c 7 t
  Φ t := PhiK m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = PH (grid0.coords t) (iblk m c 0 t) (iblk m c 1 t) (iblk m c 2 t) := by dsimp only [dats]

theorem after0_5 (c : Dev nD) (t : Fin cfg0.N) : (dats m 0 c).after 5 t = YC (ROWS m c t) (iblk m c 3 t) := by dsimp only [dats]
theorem after0_6 (c : Dev nD) (t : Fin cfg0.N) : (dats m 0 c).after 6 t = YS (ROWS m c t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ X, owns (c : Thread nD τ) (ms0_7 t) fullShare X))

/-- What the body returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (∃ X, owns (c : Thread nD τ) (ms0_7 t) fullShare X))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiK m c (t.val + 1) from rfl, show (dats m 0 c).Φ t.castSucc = PhiK m c t.val from rfl]
  unfold PhiK
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h : k0_cond1 (grid0.coords t) = 1#1
  · have h1 : t.val % 28 = 27 := (hcond0_1 t).mp h
    rw [show (dats m 0 c).leavesExact 5 t = owns (c : Thread nD τ) (ms0_5 t) fullShare ((dats m 0 c).after 5 t) from by
      unfold Dat.leavesExact; rw [liveAt0_5 t h1], after0_5]
    rw [show (dats m 0 c).leavesExact 6 t = owns (c : Thread nD τ) (ms0_6 t) fullShare ((dats m 0 c).after 6 t) from by
      unfold Dat.leavesExact; rw [liveAt0_6 t h1], after0_6]
    iintro ⟨⟨⟨HS0, ⟨%ds, %hds, HS1⟩⟩, Hg⟩, Ho, ⟨%d0, H0⟩, ⟨%d1, H1⟩, ⟨%d2, H2⟩, ⟨%d3, H3⟩, ⟨%d4, H4⟩, ⟨%d5, H5⟩, ⟨%d6, H6⟩, H7⟩
    rw [← known_last m c t h1 ds hds]
    iapply (runB c (grid0.coords t) _ _ _ _ _ _ _ _ _ _ _ _ _ _ _ _ _ _ _ _ h (iblk m c 0 t) (iblk m c 1 t) (iblk m c 2 t) (iblk m c 3 t) ds Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]; · iexact HS0
        iexists _; isplitr; rotate_left; iexact HS1
        ipureintro; exact known_step m c t ds hds
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h1 : ¬t.val % 28 = 27 := fun e => h ((hcond0_1 t).mpr e)
    rw [Dat.leavesExact_idle (dats m 0 c) 5 t (idleAt0_5 t h1) (noFlush0_5 t h1), Dat.leavesExact_idle (dats m 0 c) 6 t (idleAt0_6 t h1) (noFlush0_6 t h1)]
    iintro ⟨⟨⟨HS0, ⟨%ds, %hds, HS1⟩⟩, Hg⟩, Ho, ⟨%d0, H0⟩, ⟨%d1, H1⟩, ⟨%d2, H2⟩, ⟨%d3, H3⟩, ⟨%d4, H4⟩, ⟨%d5, H5⟩, ⟨%d6, H6⟩, H7⟩
    iapply (runA c (grid0.coords t) _ _ _ _ _ _ _ _ _ _ _ _ _ _ _ _ _ _ _ _ h (iblk m c 0 t) (iblk m c 1 t) (iblk m c 2 t) (iblk m c 3 t) _ _ ds Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]; · iexact HS0
        iexists _; isplitr; rotate_left; iexact HS1
        ipureintro; exact known_step m c t ds hds
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiK m c 0 from rfl, PhiA0_eq]
  unfold PhiK
  iintro ⟨⟨HS0, ⟨%d, HS1⟩⟩, Hg⟩
  isplitl [HS0 HS1]
  · isplitl [HS0]; · iexact HS0
    iexists _; isplitr; rotate_left; iexact HS1
    ipureintro; exact known_zero m c d
  iexact Hg

theorem hout (c : Dev nD) : (dats m 0 c).Φ (Fin.last cfg0.N) ⊢ Pipeline.ΦA spec0 c := by
  rw [show (dats m 0 c).Φ (Fin.last cfg0.N) = PhiK m c (Fin.last cfg0.N).val from rfl, PhiA0_eq]
  unfold PhiK
  iintro ⟨⟨HS0, ⟨%d, -, HS1⟩⟩, Hg⟩
  isplitl [HS0 HS1]
  · isplitl [HS0]; · iexact HS0
    iexists _; iexact HS1
  iexact Hg

set_option backward.isDefEq.respectTransparency.types false in
/-- The launch: what the pipeline leaves in the arrays that are named, and every semaphore counter at zero. -/
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_track_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: the codes and scales as the pipeline leaves them, the arguments unchanged. -/
theorem run_q : θ_run defs (onTc (τ := τ) (main (F := F))) ⟨m, fun _ => 0, ρ⟩ (fun r => (∀ c : Dev nD,
      r.2.mem ((c.tc : Thread nD τ).loc main_v1_1) = (dats m 0 c).arrAt 5 cfg0.N
      ∧ r.2.mem ((c.tc : Thread nD τ).loc main_v1_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => by
    obtain ⟨h, -⟩ := hr
    refine ⟨((dats m 0 c).toRForget_arrAt_iff (fgt := fgt) (w := 5) rfl _ _).mp ((h c).1 5), ((dats m 0 c).toRForget_arrAt_iff (fgt := fgt) (w := 6) rfl _ _).mp ((h c).1 6), ?_, ?_, ?_, ?_⟩
    · exact (h.arr_in c 0 rfl).trans ((A_eq m c 0).trans (V_main_arg0 m c))
    · exact (h.arr_in c 1 rfl).trans ((A_eq m c 1).trans (V_main_arg1 m c))
    · exact (h.arr_in c 2 rfl).trans ((A_eq m c 2).trans (V_main_arg2 m c))
    · exact ((h c).2 main_arg3 (Pipeline.mem_restRefs_of main_arg3 (by decide) (by decide))).trans (V_main_arg3 m c), hr.2⟩)
    (run_main_quiescent m ρ)

/-- The frame: the run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2, h.2⟩) (run_q m ρ)

end Cert.QuantIdeal.Hand
-- ==== Proof.QuantMath.lean ====
module

public import Idealize.ShloMosaic.Lib.Pointwise
public import Idealize.ShloMosaic.Lib.IdealHost

@[expose] public section

set_option maxRecDepth 16384

noncomputable section

namespace Cert.QuantMath

open Idealize.ShloMosaic

/-- Two to the power `e - 127`: the value of the pattern whose exponent field is `e`. -/
def pw (e : ℕ) : EReal := (((2 : ℝ) ^ ((e : ℤ) - 127) : ℝ) : EReal)

theorem pw_le {a b : ℕ} (h : a ≤ b) : pw a ≤ pw b := by
  unfold pw
  exact EReal.coe_le_coe_iff.2 (zpow_le_zpow_right₀ (by norm_num) (by omega))

theorem lt_of_pw {a b : ℕ} (h : pw a < pw b) : a < b := by
  by_contra hn
  exact absurd (pw_le (not_lt.1 hn)) (not_le.2 h)

theorem pw_pos (e : ℕ) : 0 < pw e := by
  unfold pw
  exact EReal.coe_pos.2 (zpow_pos (by norm_num) _)

/-- The pattern with exponent field `e`, all other bits zero. -/
def pb (e : ℕ) : BitVec 32 := BitVec.ofNat 32 (e * 8388608)

theorem pb_fields : ∀ e : Fin 255, ((pb e.val).extractLsb' (8 + 23) 1 == 1#1) = false ∧ ((pb e.val).extractLsb' 23 8).toNat = e.val ∧ ((pb e.val).extractLsb' 0 23).toNat = 0 := by
  decide +kernel

theorem ofBits_pb (e : ℕ) (h1 : 1 ≤ e) (h2 : e ≤ 254) : Ideal.ofBits .f32 (pb e) = pw e := by
  obtain ⟨a, b, c⟩ := pb_fields ⟨e, by omega⟩
  show Ideal.ieee 8 23 (pb e) = pw e
  dsimp only at a b c
  unfold Ideal.ieee
  simp only [a, b, c]
  rw [if_neg (by omega), if_neg (by omega)]
  unfold pw
  congr 1
  have : ((e : ℤ) - 127) = ((e : ℤ) - (2 ^ (8 - 1) - 1) - (23 : ℕ)) + 23 := by norm_num
  rw [this, zpow_add₀ (by norm_num : (2 : ℝ) ≠ 0)]
  norm_num
  ring

theorem pb_add (a b : ℕ) : pb a + pb b = pb (a + b) := by
  unfold pb
  rw [← BitVec.ofNat_add, ← Nat.add_mul]

/-- One step of the search: keep the larger pattern when its value is at most `t`. -/
def step (t : EReal) (b k : BitVec 32) : BitVec 32 := Scalar.select (Ideal.cmp .oge t (Ideal.ofBits .f32 (b + k))) (b + k) b

theorem step_spec (t : EReal) (e k : ℕ) (h : 1 ≤ e + k ∧ e + k ≤ 254) (h1 : e = 0 ∨ pw e ≤ t) (h2 : t < pw (e + 2 * k)) :
    ∃ e', step t (pb e) (pb k) = pb e' ∧ (e' = e ∨ e' = e + k) ∧ (e' = 0 ∨ pw e' ≤ t) ∧ t < pw (e' + k) := by
  unfold step
  rw [pb_add, ofBits_pb _ h.1 h.2]
  by_cases hc : pw (e + k) ≤ t
  · refine ⟨e + k, ?_, Or.inr rfl, Or.inr hc, by rwa [show e + k + k = e + 2 * k by omega]⟩
    simp [Ideal.cmp, Scalar.select, hc]
  · refine ⟨e, ?_, Or.inl rfl, h1, not_le.1 hc⟩
    simp [Ideal.cmp, Scalar.select, hc]

/-- The first seven steps of the search for the exponent of `t`. -/
def eb7 (t : EReal) : BitVec 32 :=
  step t (step t (step t (step t (step t (step t (Scalar.select (Ideal.cmp .oge t (Ideal.ofBits .f32 1073741824#32)) 1073741824#32 0#32)
    536870912#32) 268435456#32) 134217728#32) 67108864#32) 33554432#32) 16777216#32

/-- The search for the exponent of `t`: eight steps. -/
def eb (t : EReal) : BitVec 32 := step t (eb7 t) 8388608#32

theorem eb_spec (t : EReal) (ht : t < pw 253) : ∃ e : ℕ, eb t = pb e ∧ e ≤ 252 ∧ (e = 0 ∨ pw e ≤ t) ∧ t < pw (e + 1) := by
  have b : ∀ e, (e = 0 ∨ pw e ≤ t) → e ≤ 252 := fun e h => by
    rcases h with rfl | h
    · omega
    · have := lt_of_pw (h.trans_lt ht); omega
  obtain ⟨e1, s1, d1, l1, u1⟩ := step_spec t 0 128 (by omega) (Or.inl rfl) (ht.trans_le (pw_le (by omega)))
  obtain ⟨e2, s2, d2, l2, u2⟩ := step_spec t e1 64 (by omega) l1 u1
  obtain ⟨e3, s3, d3, l3, u3⟩ := step_spec t e2 32 (by omega) l2 u2
  obtain ⟨e4, s4, d4, l4, u4⟩ := step_spec t e3 16 (by omega) l3 u3
  obtain ⟨e5, s5, d5, l5, u5⟩ := step_spec t e4 8 (by omega) l4 u4
  obtain ⟨e6, s6, d6, l6, u6⟩ := step_spec t e5 4 (by omega) l5 u5
  obtain ⟨e7, s7, d7, l7, u7⟩ := step_spec t e6 2 (by omega) l6 u6
  have b7 := b e7 l7
  obtain ⟨e8, s8, d8, l8, u8⟩ := step_spec t e7 1 (by omega) l7 u7
  refine ⟨e8, ?_, b e8 l8, l8, u8⟩
  have s1' : Scalar.select (Ideal.cmp .oge t (Ideal.ofBits .f32 1073741824#32)) 1073741824#32 0#32 = pb e1 := s1
  have k2 : (536870912#32) = pb 64 := rfl
  have k3 : (268435456#32) = pb 32 := rfl
  have k4 : (134217728#32) = pb 16 := rfl
  have k5 : (67108864#32) = pb 8 := rfl
  have k6 : (33554432#32) = pb 4 := rfl
  have k7 : (16777216#32) = pb 2 := rfl
  have k8 : (8388608#32) = pb 1 := rfl
  unfold eb eb7
  rw [s1', k2, s2, k3, s3, k4, s4, k5, s5, k6, s6, k7, s7, k8, s8]

/-- The scale as the kernel finds it. -/
def scaleK (t : EReal) : EReal := Scalar.select (Ideal.cmp .oeq t 0) 1 (Ideal.ofBits .f32 (eb t + 8388608#32))

/-- The reciprocal of the scale as the kernel finds it. -/
def invK (t : EReal) : EReal := Scalar.select (Ideal.cmp .oeq t 0) 1 (Ideal.ofBits .f32 (2122317824#32 - eb t))

/-- The smallest power of two above `t`, among those a normal number can have. -/
def above (t : EReal) : EReal :=
  Finset.univ.fold min (Ideal.ofBits .f32 0x7F800000#32) fun j : Fin 254 =>
    Scalar.select (Ideal.cmp .ogt (pw (j.val + 1)) t) (pw (j.val + 1)) (Ideal.ofBits .f32 0x7F800000#32)

/-- The scale: one at zero, the smallest power of two above otherwise. -/
def scale (t : EReal) : EReal := Scalar.select (Ideal.cmp .oeq t 0) 1 (above t)

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

theorem above_eq (t : EReal) (e : ℕ) (he : e ≤ 252) (l : e = 0 ∨ pw e ≤ t) (u : t < pw (e + 1)) : above t = pw (e + 1) := by
  unfold above
  rw [ofBits_top]
  apply le_antisymm
  · rw [Finset.fold_min_le]
    refine Or.inr ⟨⟨e, by omega⟩, Finset.mem_univ _, ?_⟩
    simp [Ideal.cmp, Scalar.select, u]
  · rw [Finset.le_fold_min]
    refine ⟨le_top, fun j _ => ?_⟩
    by_cases h : t < pw (j.val + 1)
    · simp only [Ideal.cmp, Scalar.select, h]
      simp
      rcases l with rfl | l
      · exact pw_le (by omega)
      · have := lt_of_pw (l.trans_lt h)
        exact pw_le (by omega)
    · simp [Ideal.cmp, Scalar.select, h]

theorem scaleK_eq (t : EReal) (ht : t < pw 253) : scaleK t = scale t := by
  obtain ⟨e, he, hb, l, u⟩ := eb_spec t ht
  unfold scaleK scale
  rw [he, above_eq t e hb l u, show (8388608#32) = pb 1 from rfl, pb_add, ofBits_pb _ (by omega) (by omega)]

theorem pb_sub (e : ℕ) (h : e ≤ 252) : 2122317824#32 - pb e = pb (253 - e) := by
  have : 2122317824#32 = pb (253 - e) + pb e := by rw [pb_add, show 253 - e + e = 253 by omega]; rfl
  rw [this, BitVec.add_sub_cancel]

theorem mul_invK (t v : EReal) (ht : t < pw 253) : v * invK t = Ideal.div v (scale t) := by
  obtain ⟨e, he, hb, l, u⟩ := eb_spec t ht
  unfold invK scale
  rw [he, above_eq t e hb l u, pb_sub e hb, ofBits_pb _ (by omega) (by omega)]
  by_cases h : t = 0
  · simp [Ideal.cmp, Scalar.select, h, Ideal.div]
  · have h1 : pw (e + 1) ≠ 0 := (pw_pos _).ne'
    have h2 : (pw (e + 1))⁻¹ = pw (253 - e) := by
      unfold pw
      rw [← EReal.coe_inv, ← zpow_neg]
      congr 2
      omega
    simp [Ideal.cmp, Scalar.select, h, Ideal.div, h1, h2]

/-- A number clipped to the codes' range. -/
def clip (x : EReal) : EReal := min (Ideal.ofBits .f32 0x43E00000#32) (max (Ideal.ofBits .f32 0xC3E00000#32) x)

/-- The code of `v` in a group whose maximum over 448 is `t`. -/
def code (v t : EReal) : EReal := clip (Ideal.div v (scale t))

/-- The largest finite number. -/
def big : EReal := Ideal.ofBits .f32 0x7F7FFFFF#32

/-- The normalised value: `p` over the root of the mean of squares (sum `s`), times the weight `w`. -/
def normed (p s w : EReal) : EReal := p * Ideal.rsqrt (s * Ideal.ofBits .f32 0x39124925#32 + Ideal.ofBits .f32 0x358637BD#32) * w

theorem big_eq : big = ((16777215 * 2 ^ 104 : ℝ) : EReal) := by
  unfold big
  simp [Ideal.ofBits, Ideal.ieee, -EReal.coe_mul]

theorem c_eq : Ideal.ofBits .f32 0x39124925#32 = ((9586981 / 2 ^ 36 : ℝ) : EReal) := by
  simp [Ideal.ofBits, Ideal.ieee, -EReal.coe_mul]
  norm_num

theorem eps_eq : Ideal.ofBits .f32 0x358637BD#32 = ((8796093 / 2 ^ 43 : ℝ) : EReal) := by
  simp [Ideal.ofBits, Ideal.ieee, -EReal.coe_mul]
  norm_num

theorem c2_eq : Ideal.ofBits .f32 0x3B124925#32 = ((9586981 / 2 ^ 32 : ℝ) : EReal) := by
  simp [Ideal.ofBits, Ideal.ieee, -EReal.coe_mul]
  norm_num

theorem sq_nonneg (p : EReal) : 0 ≤ p * p := by
  induction p with
  | bot => simp
  | top => simp
  | coe r => rw [← EReal.coe_mul]; exact EReal.coe_nonneg.2 (mul_self_nonneg r)

/-- A normalised value times a finite weight stays below a hundred times the largest finite number. -/
theorem normed_bound (p s w : EReal) (hs : p * p ≤ s) (hw : max w (-w) ≤ big) :
    max (normed p s w) (-normed p s w) ≤ ((100 * (16777215 * 2 ^ 104) : ℝ) : EReal) := by
  have hz : max (0 : EReal) (-0) ≤ ((100 * (16777215 * 2 ^ 104) : ℝ) : EReal) := by
    rw [neg_zero, max_self]
    exact EReal.coe_nonneg.2 (by norm_num)
  unfold normed
  rw [c_eq, eps_eq]
  induction s with
  | bot => exact absurd (hs.trans_lt' (lt_of_lt_of_le EReal.bot_lt_zero (sq_nonneg p))) (lt_irrefl _)
  | top =>
    have e : (⊤ : EReal) * ((9586981 / 2 ^ 36 : ℝ) : EReal) + ((8796093 / 2 ^ 43 : ℝ) : EReal) = ⊤ := by
      rw [EReal.top_mul_coe_of_pos (by norm_num), EReal.top_add_coe]
    rw [e, Ideal.rsqrt_top, mul_zero, zero_mul]
    exact hz
  | coe s =>
    induction p with
    | bot => exact absurd hs (by simp)
    | top => exact absurd hs (by simp)
    | coe p =>
      rw [big_eq] at hw
      induction w with
      | bot => exact absurd ((le_max_right _ _).trans hw) (not_le.2 (EReal.coe_lt_top _))
      | top => exact absurd ((le_max_left _ _).trans hw) (not_le.2 (EReal.coe_lt_top _))
      | coe w =>
        rw [← EReal.coe_mul, EReal.coe_le_coe_iff] at hs
        rw [← EReal.coe_neg, max_le_iff, EReal.coe_le_coe_iff, EReal.coe_le_coe_iff] at hw
        have hp : 0 ≤ p * p := mul_self_nonneg p
        have hx : 0 < s * (9586981 / 2 ^ 36) + 8796093 / 2 ^ 43 := by
          have : 0 ≤ s := hp.trans hs
          positivity
        rw [← EReal.coe_mul, ← EReal.coe_add, Ideal.rsqrt_coe, if_neg (not_lt.2 hx.le), if_neg hx.ne', ← EReal.coe_mul, ← EReal.coe_mul,
          ← EReal.coe_neg, max_le_iff, EReal.coe_le_coe_iff, EReal.coe_le_coe_iff]
        generalize hS : s * (9586981 / 2 ^ 36) + 8796093 / 2 ^ 43 = S at hx
        have hr : |p * (Real.sqrt S)⁻¹| ≤ 100 := by
          have h1 : |p| / 100 ≤ Real.sqrt S := by
            apply Real.le_sqrt_of_sq_le
            rw [div_pow, sq_abs, ← hS]
            nlinarith
          have h2 : 0 < Real.sqrt S := Real.sqrt_pos.2 hx
          rw [abs_mul, abs_inv, abs_of_pos h2, ← div_eq_mul_inv, div_le_iff₀ h2]
          linarith
        have hw' : |w| ≤ 16777215 * 2 ^ 104 := abs_le'.2 hw
        have := abs_le'.1 ((abs_mul _ w).trans_le (mul_le_mul hr hw' (abs_nonneg _) (by norm_num)))
        exact this

/-- The maximum over a group, over 448: the number whose exponent makes the scale. -/
def gmax (f : Fin 128 → EReal) : EReal :=
  Finset.univ.fold max (Ideal.ofBits .f32 0xFF800000#32) (fun k => max (f k) (-f k)) * Ideal.ofBits .f32 0x3B124925#32

theorem gmax_lt (f : Fin 128 → EReal) (h : ∀ k, max (f k) (-f k) ≤ ((100 * (16777215 * 2 ^ 104) : ℝ) : EReal)) : gmax f < pw 253 := by
  unfold gmax
  rw [ofBits_bot, c2_eq]
  have h1 : Finset.univ.fold max (⊥ : EReal) (fun k => max (f k) (-f k)) ≤ ((100 * (16777215 * 2 ^ 104) : ℝ) : EReal) :=
    (Finset.fold_max_le _).2 ⟨bot_le, fun k _ => h k⟩
  refine (mul_le_mul_of_nonneg_right h1 (EReal.coe_nonneg.2 (by norm_num))).trans_lt ?_
  rw [← EReal.coe_mul]
  unfold pw
  exact EReal.coe_lt_coe_iff.2 (by norm_num)

/-- The normalised rows. -/
def G (Y : Fin 8192 → Fin 7168 → EReal) (w : Fin 7168 → EReal) (R : Fin 8192) (v : Fin 7168) : EReal := normed (Y R v) (∑ u : Fin 7168, Y R u * Y R u) (w v)

/-- Column `k` of group `g`. -/
def colOf (g : Fin 56) (k : Fin 128) : Fin 7168 := ⟨128 * g.val + k.val, by omega⟩

/-- The group of a column. -/
def grp (v : Fin 7168) : Fin 56 := ⟨v.val / 128, by omega⟩

/-- The maximum over 448 of each group of the normalised rows. -/
def T (Y : Fin 8192 → Fin 7168 → EReal) (w : Fin 7168 → EReal) (R : Fin 8192) (g : Fin 56) : EReal := gmax fun k => G Y w R (colOf g k)

/-- The codes of the normalised rows. -/
def codes (Y : Fin 8192 → Fin 7168 → EReal) (w : Fin 7168 → EReal) (R : Fin 8192) (v : Fin 7168) : EReal := code (G Y w R v) (T Y w R (grp v))

/-- The scales of the normalised rows. -/
def scales (Y : Fin 8192 → Fin 7168 → EReal) (w : Fin 7168 → EReal) (R : Fin 8192) (g : Fin 56) : EReal := scale (T Y w R g)

/-- With finite weights every group maximum lies below two to the 126. -/
theorem T_lt (Y : Fin 8192 → Fin 7168 → EReal) (w : Fin 7168 → EReal) (hw : ∀ v, max (w v) (-w v) ≤ big) (R : Fin 8192) (g : Fin 56) : T Y w R g < pw 253 :=
  gmax_lt _ fun k => normed_bound _ _ _ (Finset.single_le_sum (f := fun u => Y R u * Y R u) (fun u _ => sq_nonneg _) (Finset.mem_univ _)) (hw _)

/-- A sum over all columns is the sum over the lanes of the sum over the groups. -/
theorem sum_cols (f : Fin 7168 → EReal) : ∑ l : Fin 128, ∑ g : Fin 56, f (colOf g l) = ∑ u : Fin 7168, f u := by
  rw [Finset.sum_comm, ← Fintype.sum_prod_type' (f := fun g l => f (colOf g l))]
  refine Fintype.sum_equiv (finProdFinEquiv (m := 56) (n := 128)) _ _ fun x => congrArg f (Fin.ext ?_)
  show 128 * x.1.val + x.2.val = x.2.val + 128 * x.1.val
  omega

end Cert.QuantMath
-- ==== Proof.QuantPay.lean ====
module

public import proofs.«01_k».proof.Proof.QuantTrip
public import proofs.«01_k».proof.Proof.QuantMath
public import Idealize.ShloMosaic.Lib.Pointwise
public import Idealize.ShloMosaic.Lib.Pipeline.ValueKit

@[expose] public section

set_option maxRecDepth 16384

noncomputable section

namespace Cert.QuantIdeal.Hand

open Cert.QuantIdeal Cert.QuantIdeal.Gen Cert.QuantMath
open Idealize.ShloMosaic Idealize.ShloMosaic.TcCoe Idealize.SL.Sem
open Idealize.ShloMosaic.Pipeline (Dat)

/-- The sum of squares of the first groups, lane by lane. -/
theorem ssN_at (L : Fin 56 → FVec Ideal S32x128 .f32) (r : Fin 32) (l : Fin 128) : ∀ (n : ℕ) (h : n ≤ 56),
    ssN (F := Ideal) L n h (ix2 r l) = ∑ g : Fin n, L ⟨g.val, by omega⟩ (ix2 r l) * L ⟨g.val, by omega⟩ (ix2 r l)
  | 0, _ => by
    rw [ssN]
    exact Ideal.ofBits_zero_f32
  | n + 1, h => by
    rw [ssN, Fin.sum_univ_castSucc]
    exact congrArg (· + _) (ssN_at L r l n (by omega))

theorem RMS_ss (L : Fin 56 → FVec Ideal S32x128 .f32) (r : Fin 32) :
    RMS (F := Ideal) L (ix2 r 0) = Ideal.rsqrt ((∑ l : Fin 128, ssN (F := Ideal) L 56 le_rfl (ix2 r l)) * Ideal.ofBits .f32 0x39124925#32 + Ideal.ofBits .f32 0x358637BD#32) := by
  unfold RMS
  pointwise [k0_pay15]
  rfl

theorem RMS_at (L : Fin 56 → FVec Ideal S32x128 .f32) (r : Fin 32) :
    RMS (F := Ideal) L (ix2 r 0) = Ideal.rsqrt ((∑ l : Fin 128, ∑ g : Fin 56, L g (ix2 r l) * L g (ix2 r l)) * Ideal.ofBits .f32 0x39124925#32 + Ideal.ofBits .f32 0x358637BD#32) := by
  rw [RMS_ss]
  congr 3
  exact Finset.sum_congr rfl fun l _ => ssN_at L r l 56 le_rfl

theorem g_at (R : FVec Ideal S32x1 .f32) (P : FVec Ideal S32x128 .f32) (W : FVec Ideal S1x128 .f32) (r : Fin 32) (l : Fin 128) :
    k0_pay17 (F := Ideal) R P W (ix2 r l) = P (ix2 r l) * R (ix2 r 0) * W (ix2 0 l) := by
  pointwise [k0_pay17]

theorem t_at (R : FVec Ideal S32x1 .f32) (P : FVec Ideal S32x128 .f32) (W : FVec Ideal S1x128 .f32) (r : Fin 32) :
    k0_pay18 (F := Ideal) R P W (ix2 r 0) = gmax fun l => P (ix2 r l) * R (ix2 r 0) * W (ix2 0 l) := by
  pointwise [k0_pay18]
  unfold gmax
  simp only [g_at, Ideal.absf_def]

/-- One step of the search, for every element. -/
def stepV {s : Shape} (t : FVec Ideal s .f32) (b : IVec s 32) (k : BitVec 32) : IVec s 32 :=
  select (cmpf .oge t (bitcastToFloat .f32 (addi b (broadcast s k)))) (addi b (broadcast s k)) b

theorem stepV_at {s : Shape} (t : FVec Ideal s .f32) (b : IVec s 32) (k : BitVec 32) (i : s.Idx) : stepV t b k i = step (t i) (b i) k := Eq.trans rfl rfl

/-- The first step of the search, for every element. -/
def firstV {s : Shape} (t : FVec Ideal s .f32) (k z : BitVec 32) : IVec s 32 :=
  select (cmpf .oge t (bitcastToFloat .f32 (broadcast s k))) (broadcast s k) (broadcast s z)

theorem firstV_at {s : Shape} (t : FVec Ideal s .f32) (k z : BitVec 32) (i : s.Idx) :
    firstV t k z i = Scalar.select (Ideal.cmp .oge (t i) (Ideal.ofBits .f32 k)) k z := Eq.trans rfl rfl

theorem pay19_eq (R : FVec Ideal S32x1 .f32) (P : FVec Ideal S32x128 .f32) (W : FVec Ideal S1x128 .f32) :
    k0_pay19 (F := Ideal) R P W = stepV (k0_pay18 R P W) (stepV (k0_pay18 R P W) (stepV (k0_pay18 R P W) (stepV (k0_pay18 R P W) (stepV (k0_pay18 R P W) (stepV (k0_pay18 R P W) (firstV (k0_pay18 R P W) 1073741824#32 0#32)
      536870912#32) 268435456#32) 134217728#32) 67108864#32) 33554432#32) 16777216#32 := by
  unfold k0_pay19
  generalize k0_pay18 R P W = t
  rfl

theorem eb7_at (R : FVec Ideal S32x1 .f32) (P : FVec Ideal S32x128 .f32) (W : FVec Ideal S1x128 .f32) (i : S32x1.Idx) :
    k0_pay19 (F := Ideal) R P W i = eb7 (k0_pay18 (F := Ideal) R P W i) := by
  rw [pay19_eq]
  unfold eb7
  simp only [stepV_at, firstV_at]

theorem pay20_eq (v : FVec Ideal S32x128 .f32) (t : FVec Ideal S32x1 .f32) (e : IVec S32x1 32) :
    k0_pay20 (F := Ideal) v t e = truncf .fp8e4m3 (minimumf (broadcast S32x128 (Scalar.ofBits .f32 0x43E00000#32)) (maximumf (broadcast S32x128 (Scalar.ofBits .f32 0xC3E00000#32))
      (mulf v (broadcastTo S32x128 (select (cmpf .oeq t (broadcast S32x1 (Scalar.ofBits .f32 0x00000000#32))) (broadcast S32x1 (Scalar.ofBits .f32 0x3F800000#32))
        (bitcastToFloat .f32 (subi (broadcast S32x1 2122317824#32) (stepV t e 8388608#32)))) broadcasts_S32x1_S32x128)))) bitsLt_fp8e4m3_f32 := rfl

theorem inv_at (t : FVec Ideal S32x1 .f32) (s : IVec S32x1 32) (i : S32x1.Idx) (hs : s i = eb (t i)) :
    (select (cmpf .oeq t (broadcast S32x1 (Scalar.ofBits .f32 0x00000000#32))) (broadcast S32x1 (Scalar.ofBits .f32 0x3F800000#32))
        (bitcastToFloat .f32 (subi (broadcast S32x1 2122317824#32) s)) : FVec Ideal S32x1 .f32) i = invK (t i) := by
  unfold invK
  rw [← hs, ← Ideal.ofBits_zero_f32, ← Ideal.ofBits_one_f32]
  rfl

theorem code_at (v : FVec Ideal S32x128 .f32) (t : FVec Ideal S32x1 .f32) (e : IVec S32x1 32) (r : Fin 32) (l : Fin 128) (he : e (ix2 r 0) = eb7 (t (ix2 r 0))) :
    k0_pay20 (F := Ideal) v t e (ix2 r l) = clip (v (ix2 r l) * invK (t (ix2 r 0))) := by
  rw [pay20_eq, ← inv_at t (stepV t e 8388608#32) (ix2 r 0) (by rw [stepV_at, he, eb])]
  generalize select _ _ _ = q
  unfold clip
  pointwise

/-- The code at a row and a lane of a group. -/
theorem CG_at (R : FVec Ideal S32x1 .f32) (P : FVec Ideal S32x128 .f32) (W : FVec Ideal S1x128 .f32) (r : Fin 32) (l : Fin 128) :
    CG (F := Ideal) R P W (ix2 r l) = clip ((P (ix2 r l) * R (ix2 r 0) * W (ix2 0 l)) * invK (gmax fun l => P (ix2 r l) * R (ix2 r 0) * W (ix2 0 l))) := by
  unfold CG
  rw [code_at _ _ _ _ _ (eb7_at R P W (ix2 r 0)), g_at, t_at]

/-- The table of group maxima. -/
theorem tacc_at (R : FVec Ideal S32x1 .f32) (L : Fin 56 → FVec Ideal S32x128 .f32) (W : Fin 56 → FVec Ideal S1x128 .f32) (r : Fin 32) (g : Fin 56) : ∀ (n : ℕ) (h : n ≤ 56), g.val < n →
    taccN (F := Ideal) R L W n h (ix2 r ⟨g.val, by omega⟩) = k0_pay18 (F := Ideal) R (L g) (W g) (ix2 r 0)
  | 0, _, hg => absurd hg (Nat.not_lt_zero _)
  | n + 1, h, hg => by
    have e : taccN (F := Ideal) R L W (n + 1) h (ix2 r ⟨g.val, by omega⟩)
        = Scalar.select (IntOp.cmpi .eq (BitVec.ofNat 32 g.val) (BitVec.ofNat 32 n)) (k0_pay18 (F := Ideal) R (L ⟨n, h⟩) (W ⟨n, h⟩) (ix2 r 0)) (taccN (F := Ideal) R L W n (by omega) (ix2 r ⟨g.val, by omega⟩)) := by
      rw [taccN]
      generalize taccN (F := Ideal) R L W n _ = T'
      generalize k0_pay18 (F := Ideal) R _ _ = q
      pointwise
    rw [e]
    by_cases hn : g.val = n
    · subst hn
      simp [Scalar.select, IntOp.cmpi]
    · have h2 : BitVec.ofNat 32 g.val ≠ BitVec.ofNat 32 n := fun h' => hn (by
        have := congrArg BitVec.toNat h'
        simp only [BitVec.toNat_ofNat] at this
        omega)
      have h3 : ¬ IntOp.cmpi .eq (BitVec.ofNat 32 g.val) (BitVec.ofNat 32 n) = 1 := by
        rw [show IntOp.cmpi .eq (BitVec.ofNat 32 g.val) (BitVec.ofNat 32 n) = BitVec.ofBool (BitVec.ofNat 32 g.val == BitVec.ofNat 32 n) from rfl, beq_false_of_ne h2]
        decide
      rw [Scalar.select, if_neg h3]
      exact tacc_at R L W r g n (by omega) (by omega)

theorem pay594_eq (io : IVec S32x128 32) (T' : FVec Ideal S32x128 .f32) (q : FVec Ideal S32x1 .f32) :
    k0_pay594 (F := Ideal) io T' q = bitcastToFloat .f32 (addi (stepV (k0_pay593 io T' q) (stepV (k0_pay593 io T' q) (stepV (k0_pay593 io T' q) (stepV (k0_pay593 io T' q) (stepV (k0_pay593 io T' q) (stepV (k0_pay593 io T' q) (stepV (k0_pay593 io T' q) (firstV (k0_pay593 io T' q) 1073741824#32 0#32)
      536870912#32) 268435456#32) 134217728#32) 67108864#32) 33554432#32) 16777216#32) 8388608#32) (broadcast S32x128 8388608#32)) := by
  unfold k0_pay594
  generalize k0_pay593 io T' q = t
  rfl

theorem tacc_last (R : FVec Ideal S32x1 .f32) (L : Fin 56 → FVec Ideal S32x128 .f32) (W : Fin 56 → FVec Ideal S1x128 .f32) :
    k0_pay593 (F := Ideal) (iota .tc S32x128 32 [1] iota_S32x128_d1_w32) (taccN R L W 55 (by decide)) (k0_pay18 R (L 55) (W 55)) = taccN (F := Ideal) R L W 56 le_rfl := rfl

theorem pay6_at (t u : FVec Ideal S32x128 .f32) (r : Fin 32) (g : Fin 56) :
    k0_pay6 (F := Ideal) t u (ix2 r g) = Scalar.select (Ideal.cmp .oeq (t (ix2 r ⟨g.val, by omega⟩)) 0) 1 (u (ix2 r ⟨g.val, by omega⟩)) := by
  pointwise [k0_pay6]

/-- The scale at a row and a group. -/
theorem SC_at (R : FVec Ideal S32x1 .f32) (L : Fin 56 → FVec Ideal S32x128 .f32) (W : Fin 56 → FVec Ideal S1x128 .f32) (r : Fin 32) (g : Fin 56) :
    SC (F := Ideal) R L W (ix2 r g) = scaleK (gmax fun l => L g (ix2 r l) * R (ix2 r 0) * W g (ix2 0 l)) := by
  unfold SC
  rw [pay6_at, pay594_eq, tacc_last, ← t_at, ← tacc_at R L W r g 56 le_rfl g.isLt]
  generalize taccN (F := Ideal) R L W 56 _ = t
  unfold scaleK eb eb7
  rw [← firstV_at]
  simp only [← stepV_at]
  rfl

end Cert.QuantIdeal.Hand
-- ==== Proof.QuantValue.lean ====
module

public import proofs.«01_k».proof.Proof.QuantFrame
public import proofs.«01_k».proof.Proof.QuantPay
public import proofs.«01_k».proof.Proof.ProjValue
public import Idealize.ShloMosaic.Lib.Pointwise
public import Idealize.ShloMosaic.Lib.Pipeline.ValueKit
public import Idealize.ShloMosaic.Lib.Claim

@[expose] public section

set_option maxRecDepth 16384

noncomputable section

namespace Cert.QuantIdeal.Hand

open Cert.QuantIdeal Cert.QuantIdeal.Gen Cert.QuantMath
open Idealize.ShloMosaic Idealize.ShloMosaic.TcCoe Idealize.SL.Sem
open Idealize.ShloMosaic.Pipeline (Dat)
open Cert.ProjIdeal.Hand (Y)

/-- Row `r` of trip `k` of a block. -/
def rowIn (k : Fin 8) (r : Fin 32) : Fin 256 := ⟨32 * k.val + r.val, by omega⟩

theorem LV_at (P : FVec Ideal S256x7168 .f32) (k : Fin 8) (g : Fin 56) (r : Fin 32) (l : Fin 128) : LV (F := Ideal) P k g (ix2 r l) = P (ix2 (rowIn k r) (colOf g l)) := by
  refine congrArg P (funext fun a => ?_)
  match a with
  | ⟨0, _⟩ => rfl
  | ⟨1, _⟩ => rfl

theorem WV_at (W : FVec Ideal S1x7168 .f32) (g : Fin 56) (l : Fin 128) : WV (F := Ideal) W g (ix2 0 l) = W (ix2 0 (colOf g l)) := by
  refine congrArg W (funext fun a => ?_)
  match a with
  | ⟨0, _⟩ => rfl
  | ⟨1, _⟩ => rfl

section Block
variable (P : FVec Ideal S256x7168 .f32) (W : FVec Ideal S1x7168 .f32) (y : Fin 8192 → Fin 7168 → EReal) (w : Fin 7168 → EReal) (R : Fin 8192) (k : Fin 8) (r : Fin 32)
  (hP : ∀ v, P (ix2 (rowIn k r) v) = y R v) (hW : ∀ v, W (ix2 0 v) = w v)

include hP in
theorem RMS_row : RMS (F := Ideal) (LV P k) (ix2 r 0) = Ideal.rsqrt ((∑ u : Fin 7168, y R u * y R u) * Ideal.ofBits .f32 0x39124925#32 + Ideal.ofBits .f32 0x358637BD#32) := by
  have e : (∑ l : Fin 128, ∑ g : Fin 56, LV (F := Ideal) P k g (ix2 r l) * LV (F := Ideal) P k g (ix2 r l)) = ∑ u : Fin 7168, y R u * y R u := by
    rw [← sum_cols fun u => y R u * y R u]
    refine Finset.sum_congr rfl fun l _ => Finset.sum_congr rfl fun g _ => ?_
    rw [LV_at, hP]
  rw [RMS_at, e]

include hP hW in
theorem G_row (g : Fin 56) (l : Fin 128) :
    LV (F := Ideal) P k g (ix2 r l) * RMS (F := Ideal) (LV P k) (ix2 r 0) * WV (F := Ideal) W g (ix2 0 l) = G y w R (colOf g l) := by
  rw [RMS_row P y R k r hP, LV_at, WV_at, hP, hW]
  rfl

include hP hW in
theorem codes_row (hw : ∀ v, max (w v) (-w v) ≤ big) (g : Fin 56) (l : Fin 128) : YCa (F := Ideal) P W k g (ix2 r l) = codes y w R (colOf g l) := by
  unfold YCa
  refine (CG_at _ _ _ r l).trans ?_
  simp only [G_row P W y w R k r hP hW]
  have hg : grp (colOf g l) = g := Fin.ext (by show (128 * g.val + l.val) / 128 = g.val; omega)
  unfold codes code
  rw [hg]
  refine congrArg clip ?_
  exact mul_invK (T y w R g) _ (T_lt y w hw R g)

include hP hW in
theorem scales_row (hw : ∀ v, max (w v) (-w v) ≤ big) (g : Fin 56) : YSa (F := Ideal) P W k (ix2 r g) = scales y w R g := by
  unfold YSa
  refine (SC_at _ _ _ r g).trans ?_
  simp only [G_row P W y w R k r hP hW]
  exact scaleK_eq (T y w R g) (T_lt y w hw R g)

end Block

theorem col_lt (i : grid0.Coords) : (i 1).val < 28 := (i 1).isLt

/-- The block's value at a row and a column of column block `i 1`. -/
theorem PP_at (i : grid0.Coords) (x0 : FVec Ideal S256x14336 .bf16) (x1 : FVec Ideal S14336x256 .fp8e4m3) (x2 : FVec Ideal S112x56 .f32) (r y : Fin 256) :
    PP (F := Ideal) i x0 x1 x2 (ix2 r y) = ∑ k : Fin 14336, x0 (ix2 r k) * (x1 (ix2 k y) * x2 (ix2 ⟨k.val / 128, by omega⟩ ⟨2 * (i 1).val + y.val / 128, by have := col_lt i; omega⟩)) := by
  unfold PP
  pointwise [k0_pay5, k0_pay3]
  refine Finset.sum_congr rfl fun k _ => congrArg (x0 (ix2 r k) * ·) ?_
  have e : SB (F := Ideal) i x2 (ix2 k y) = x2 (ix2 ⟨k.val / 128, by omega⟩ ⟨2 * (i 1).val + y.val / 128, by have := col_lt i; omega⟩) := by
    unfold SB
    refine congrArg x2 (funext fun a => Fin.ext ?_)
    match a with
    | ⟨0, _⟩ => rfl
    | ⟨1, _⟩ => rfl
  exact congrArg (fun s : EReal => (x1 (ix2 k y) : EReal) * s) e

variable (m : (ℓ : Loc nD τ sig) → Buf (Elt Ideal) ℓ)

/-- The activations. -/
abbrev A0 (c : Dev nD) : FVec Ideal S8192x14336 .bf16 := m ((c : Thread nD τ).loc main_arg0)
/-- The weight codes. -/
abbrev A1 (c : Dev nD) : FVec Ideal S14336x7168 .fp8e4m3 := m ((c : Thread nD τ).loc main_arg1)
/-- The weight scales. -/
abbrev A2 (c : Dev nD) : FVec Ideal S112x56 .f32 := m ((c : Thread nD τ).loc main_arg2)
/-- The norm's weights. -/
abbrev A3 (c : Dev nD) : FVec Ideal S7168 .f32 := m ((c : Thread nD τ).loc main_arg3)

theorem idx : ∀ t : Fin cfg0.N, win0_0.index t = ![t.val / 28, 0] ∧ win0_1.index t = ![0, t.val % 28] ∧ win0_2.index t = ![0, 0]
    ∧ win0_3.index t = ![0, 0] ∧ win0_5.index t = ![t.val / 28, 0] ∧ win0_6.index t = ![t.val / 28, 0] :=
  (by decide +kernel : ∀ t : Fin grid0.N, _)

theorem lt896 (t : Fin cfg0.N) : t.val < 896 := Nat.lt_of_lt_of_eq t.isLt N_0

/-- The array's row at row `r` of point `t`'s block. -/
def row (t : Fin cfg0.N) (r : Fin 256) : Fin 8192 := ⟨t.val / 28 * 256 + r.val, by have := lt896 t; omega⟩
/-- The array's column at column `y` of point `t`'s block. -/
def col (t : Fin cfg0.N) (y : Fin 256) : Fin 7168 := ⟨t.val % 28 * 256 + y.val, by omega⟩

theorem blk0 (c : Dev nD) (t : Fin cfg0.N) (r : Fin 256) (k : Fin 14336) : iblk m c 0 t (ix2 r k) = A0 m c (ix2 (row t r) k) := by
  unfold row
  blk_ext [iblk, V, idx t]

theorem blk1 (c : Dev nD) (t : Fin cfg0.N) (k : Fin 14336) (y : Fin 256) : iblk m c 1 t (ix2 k y) = A1 m c (ix2 k (col t y)) := by
  unfold col
  blk_ext [iblk, V, idx t]

theorem blk2 (c : Dev nD) (t : Fin cfg0.N) (a : Fin 112) (b : Fin 56) : iblk m c 2 t (ix2 a b) = A2 m c (ix2 a b) := by
  blk_ext [iblk, V, idx t]

theorem entry3 (c : Dev nD) : V m c main_v0 = shapeCast S1x7168 (A3 m c) shapeCasts_S7168_S1x7168 := by
  entry_read
  rfl

theorem blk3 (c : Dev nD) (t : Fin cfg0.N) (v : Fin 7168) : iblk m c 3 t (ix2 0 v) = A3 m c (ix1 v) := by
  have e : iblk m c 3 t (ix2 0 v) = V m c main_v0 (ix2 0 v) := by
    blk_ext [iblk, idx t]
  rw [e, entry3]
  pointwise

/-- What the body leaves at point `t`: the projection at the block's rows and columns. -/
theorem PP_blk (c : Dev nD) (t : Fin cfg0.N) (r y : Fin 256) :
    PPt (F := Ideal) m c t (ix2 r y) = Y (A0 m c) (A1 m c) (A2 m c) (row t r) (col t y) := by
  have e1 : (grid0.coords t 1).val = t.val / 1 % 28 := Pipeline.Grid.coords_val t 1 (by decide) rfl
  refine (PP_at (grid0.coords t) (iblk m c 0 t) (iblk m c 1 t) (iblk m c 2 t) r y).trans ?_
  unfold Y
  refine Finset.sum_congr rfl fun k _ => ?_
  refine Ideal.mul_congr (blk0 m c t r k) (Ideal.mul_congr (blk1 m c t k y) ?_)
  refine (blk2 m c t _ _).trans (congrArg (A2 m c) ?_)
  refine (ix2_inj ..).2 ⟨rfl, Fin.ext ?_⟩
  show 2 * (grid0.coords t 1).val + y.val / 128 = (t.val % 28 * 256 + y.val) / 128
  omega

/-- The rows of a block are the projection's. -/
theorem ROWS_at (c : Dev nD) (t : Fin cfg0.N) (r : Fin 256) (v : Fin 7168) :
    ROWS (F := Ideal) m c t (ix2 r v) = Y (A0 m c) (A1 m c) (A2 m c) (row t r) v := by
  have ht := lt896 t
  unfold ROWS
  refine (PP_blk m c _ r ⟨v.val % 256, Nat.mod_lt _ (by decide)⟩).trans ?_
  have e1 : row ⟨28 * (t.val / 28) + v.val / 256, by have : cfg0.N = 896 := N_0; omega⟩ r = row t r :=
    Fin.ext (by show (28 * (t.val / 28) + v.val / 256) / 28 * 256 + r.val = t.val / 28 * 256 + r.val; omega)
  have e2 : col ⟨28 * (t.val / 28) + v.val / 256, by have : cfg0.N = 896 := N_0; omega⟩ ⟨v.val % 256, Nat.mod_lt _ (by decide)⟩ = v :=
    Fin.ext (by show (28 * (t.val / 28) + v.val / 256) % 28 * 256 + v.val % 256 = v.val; omega)
  exact congrArg₂ (Y (A0 m c) (A1 m c) (A2 m c)) e1 e2

/-- The projection of the arrays. -/
def Yc (c : Dev nD) : Fin 8192 → Fin 7168 → EReal := Y (A0 m c) (A1 m c) (A2 m c)
/-- The norm's weights by column. -/
def wc (c : Dev nD) : Fin 7168 → EReal := fun v => A3 m c (ix1 v)

/-- The codes array. -/
def RESC (c : Dev nD) : FVec Ideal S8192x7168 .fp8e4m3 := fun i => codes (Yc m c) (wc m c) (i 0) (i 1)
/-- The scales array. -/
def RESS (c : Dev nD) : FVec Ideal S8192x56 .f32 := fun i => scales (Yc m c) (wc m c) (i 0) (i 1)

/-- The weights are finite. -/
def Finite (c : Dev nD) : Prop := ∀ v, max (wc m c v) (-wc m c v) ≤ big

theorem YC_at (c : Dev nD) (hf : Finite m c) (t : Fin cfg0.N) (y : S256x7168.Idx) :
    YC (F := Ideal) (ROWS m c t) (iblk m c 3 t) y = codes (Yc m c) (wc m c) (row t (y 0)) (y 1) := by
  have y0 : (y 0).val < 256 := (y 0).isLt
  have y1 : (y 1).val < 7168 := (y 1).isLt
  unfold YC
  have e0 : rowIn ⟨(y 0).val / 32, by omega⟩ ⟨(y 0).val % 32, Nat.mod_lt _ (by decide)⟩ = y 0 := Fin.ext (by show 32 * ((y 0).val / 32) + (y 0).val % 32 = (y 0).val; omega)
  have e1 : colOf ⟨(y 1).val / 128, by omega⟩ ⟨(y 1).val % 128, Nat.mod_lt _ (by decide)⟩ = y 1 := Fin.ext (by show 128 * ((y 1).val / 128) + (y 1).val % 128 = (y 1).val; omega)
  refine (codes_row (ROWS m c t) (iblk m c 3 t) (Yc m c) (wc m c) (row t (y 0)) _ _ (fun v => ?_) (fun v => blk3 m c t v) hf _ _).trans ?_
  · rw [e0]; exact ROWS_at m c t (y 0) v
  · rw [e1]

theorem YS_at (c : Dev nD) (hf : Finite m c) (t : Fin cfg0.N) (y : S256x56.Idx) :
    YS (F := Ideal) (ROWS m c t) (iblk m c 3 t) y = scales (Yc m c) (wc m c) (row t (y 0)) (y 1) := by
  have y0 : (y 0).val < 256 := (y 0).isLt
  have y1 : (y 1).val < 56 := (y 1).isLt
  unfold YS
  have e0 : rowIn ⟨(y 0).val / 32, by omega⟩ ⟨(y 0).val % 32, Nat.mod_lt _ (by decide)⟩ = y 0 := Fin.ext (by show 32 * ((y 0).val / 32) + (y 0).val % 32 = (y 0).val; omega)
  refine (scales_row (ROWS m c t) (iblk m c 3 t) (Yc m c) (wc m c) (row t (y 0)) _ _ (fun v => ?_) (fun v => blk3 m c t v) hf _).trans ?_
  · rw [e0]; exact ROWS_at m c t (y 0) v
  · rfl

theorem final5 (c : Dev nD) (hw : Finite m c) : (dats m 0 c).arrAt 5 cfg0.N = RESC m c := by
  refine (dats m 0 c).arrAt_eq_of_covers 5 _ (by decide +kernel) fun t hf y => ?_
  blk_simp
  rw [after0_5]
  have hr : (win0_5.blk t).view.emb y 0 = row t (y 0) := Fin.ext (by
    show ((win0_5.blk t).view.emb y 0).val = t.val / 28 * 256 + (y 0).val
    blk_simp [idx t])
  have hc : (win0_5.blk t).view.emb y 1 = y 1 := Fin.ext (by
    show ((win0_5.blk t).view.emb y 1).val = (y 1).val
    blk_simp [idx t])
  refine (YC_at m c hw t y).trans ?_
  unfold RESC
  rw [hr, hc]

theorem final6 (c : Dev nD) (hw : Finite m c) : (dats m 0 c).arrAt 6 cfg0.N = RESS m c := by
  refine (dats m 0 c).arrAt_eq_of_covers 6 _ (by decide +kernel) fun t hf y => ?_
  blk_simp
  rw [after0_6]
  have hr : (win0_6.blk t).view.emb y 0 = row t (y 0) := Fin.ext (by
    show ((win0_6.blk t).view.emb y 0).val = t.val / 28 * 256 + (y 0).val
    blk_simp [idx t])
  have hc : (win0_6.blk t).view.emb y 1 = y 1 := Fin.ext (by
    show ((win0_6.blk t).view.emb y 1).val = (y 1).val
    blk_simp [idx t])
  refine (YS_at m c hw t y).trans ?_
  unfold RESS
  rw [hr, hc]

/-- The run: the result arrays hold the codes and the scales, the arguments unchanged. -/
theorem run (ρ : Dev nD → PrngReg) (hw : ∀ c, Finite m c) :
    θ_run defs (onTc (τ := τ) (main (F := Ideal))) ⟨m, fun _ => 0, ρ⟩ (fun r => ∀ c : Dev nD,
      r.2.mem ((c.tc : Thread nD τ).loc main_v1_1) = RESC m c
      ∧ r.2.mem ((c.tc : Thread nD τ).loc main_v1_2) = RESS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1).trans (final5 m c (hw c)), ((h.1 c).2.1).trans (final6 m c (hw c)), (h.1 c).2.2⟩) (run_q m ρ)

end Cert.QuantIdeal.Hand
-- ==== Proof.QuantRefValue.lean ====
module

public import proofs.«01_k».proof.Proof.QuantMath
public import proofs.«01_k».proof.Proof.ProjValue
public import proofs.«01_k».proof.Proof.Gen.QuantReferenceIdeal.Frame
public import proofs.«01_k».proof.Proof.Gen.QuantReferenceIdeal.Value
public import Idealize.ShloMosaic.Lib.Pointwise
public import Idealize.ShloMosaic.Lib.Pipeline.ValueKit
public import Idealize.ShloMosaic.Lib.Claim

@[expose] public section

set_option maxRecDepth 16384

noncomputable section

namespace Cert.QuantReferenceIdeal.Hand

open Cert.QuantReferenceIdeal Cert.QuantReferenceIdeal.Gen Cert.QuantMath
open Idealize.ShloMosaic Idealize.ShloMosaic.TcCoe Idealize.SL.Sem
open Idealize.ShloMosaic.Pipeline (Dat)

/-- The pattern of the power whose exponent field is `j + 1`. -/
theorem pattern : ∀ j : Fin 254, IntOp.shli .vector (IntOp.addi (BitVec.ofNat 32 j.val) 1#32) 23#32 = pb (j.val + 1) := by
  decide +kernel

section Values
variable (x0 : FVec Ideal S8192x14336 .bf16) (x1 : FVec Ideal S14336x7168 .fp8e4m3) (x2 : FVec Ideal S112x56 .f32) (x3 : FVec Ideal S1x7168 .f32)

/-- The weights: codes times block scales. -/
def WD : FVec Ideal S14336x7168 .bf16 :=
  shapeCast S14336x7168 (mulf (shapeCast S112x128x56x128 (extf .bf16 x1 bitsLt_fp8e4m3_bf16) shapeCasts_S14336x7168_S112x128x56x128)
    (broadcastTo S112x128x56x128 (shapeCast S112x1x56x1 (truncf .bf16 x2 bitsLt_bf16_f32) shapeCasts_S112x56_S112x1x56x1) broadcasts_S112x1x56x1_S112x128x56x128)) shapeCasts_S112x128x56x128_S14336x7168

/-- The projection. -/
def YD : FVec Ideal S8192x7168 .f32 :=
  matmul dot_S8192x14336_S14336x7168_S8192x7168_1_0_0_1_n_n none x0 (WD x1 x2) (constant S8192x7168 .f32 0x00000000#32)

/-- The inverse root of the mean square of each row. -/
def RD (p : FVec Ideal S8192x7168 .f32) : FVec Ideal S8192x1 .f32 :=
  rsqrt (addf (mulf (shapeCast S8192x1 (multiReduction .add [1] S8192 (mulf p p) 0x00000000#32 reduces_S8192x7168_S8192 (.inl rfl) rfl) shapeCasts_S8192_S8192x1)
    (broadcast S8192x1 (Scalar.ofBits .f32 0x39124925#32))) (broadcast S8192x1 (Scalar.ofBits .f32 0x358637BD#32)))

/-- The rows times the inverse root and the norm's weights, grouped. -/
def ND (p : FVec Ideal S8192x7168 .f32) (q : FVec Ideal S8192x1 .f32) : FVec Ideal S8192x56x128 .f32 :=
  shapeCast S8192x56x128 (mulf (mulf p (broadcastTo S8192x7168 q broadcasts_S8192x1_S8192x7168))
    (broadcastTo S8192x7168 (shapeCast S1x7168 x3 shapeCasts_S1x7168_S1x7168) broadcasts_S1x7168_S8192x7168)) shapeCasts_S8192x7168_S8192x56x128

theorem pay3_eq : k0_pay3 (F := Ideal) x1 x2 x0 x3 = ND x3 (YD x0 x1 x2) (RD (YD x0 x1 x2)) := rfl

theorem WD_at (k : Fin 14336) (v : Fin 7168) : WD x1 x2 (ix2 k v) = x1 (ix2 k v) * x2 (ix2 ⟨k.val / 128, by omega⟩ ⟨v.val / 128, by omega⟩) := by
  pointwise [WD]

theorem YD_at (R : Fin 8192) (v : Fin 7168) : YD x0 x1 x2 (ix2 R v) = Cert.ProjIdeal.Hand.Y x0 x1 x2 R v := by
  pointwise [YD]
  simp only [WD_at]
  rfl

theorem RD_at (p : FVec Ideal S8192x7168 .f32) (R : Fin 8192) :
    RD p (ix2 R 0) = Ideal.rsqrt ((∑ u : Fin 7168, p (ix2 R u) * p (ix2 R u)) * Ideal.ofBits .f32 0x39124925#32 + Ideal.ofBits .f32 0x358637BD#32) := by
  pointwise [RD]

theorem ND_at (p : FVec Ideal S8192x7168 .f32) (q : FVec Ideal S8192x1 .f32) (R : Fin 8192) (g : Fin 56) (k : Fin 128) :
    ND x3 p q (ix3 R g k) = p (ix2 R (colOf g k)) * q (ix2 R 0) * x3 (ix2 0 (colOf g k)) := by
  pointwise [ND]
  have e : (⟨g.val * 128 + k.val, by omega⟩ : Fin 7168) = colOf g k := Fin.ext (by show g.val * 128 + k.val = 128 * g.val + k.val; omega)
  rw [e]

/-- The normalised rows, grouped. -/
theorem G_at (R : Fin 8192) (g : Fin 56) (k : Fin 128) :
    k0_pay3 (F := Ideal) x1 x2 x0 x3 (ix3 R g k) = G (Cert.ProjIdeal.Hand.Y x0 x1 x2) (fun v => x3 (ix2 0 v)) R (colOf g k) := by
  rw [pay3_eq, ND_at, RD_at]
  simp only [YD_at]
  rfl

/-- The maximum of each group. -/
def XD (n : FVec Ideal S8192x56x128 .f32) : FVec Ideal S8192x56 .f32 :=
  multiReduction .maximumf [2] S8192x56 n 0xFF800000#32 reduces_S8192x56x128_S8192x56 (.inl rfl) rfl

theorem XD_at (n : FVec Ideal S8192x56x128 .f32) (R : Fin 8192) (g : Fin 56) : XD n (ix2 R g) = Finset.univ.fold max (Ideal.ofBits .f32 0xFF800000#32) fun k : Fin 128 => n (ix3 R g k) := by
  pointwise [XD]

theorem abs_at (n : FVec Ideal S8192x56x128 .f32) (i : S8192x56x128.Idx) : (absf n : FVec Ideal S8192x56x128 .f32) i = max (n i) (-n i) := by
  show FloatOps.absf (n i) = _
  rw [Ideal.absf_def]

/-- The maximum of each group, over 448. -/
def MD (n : FVec Ideal S8192x56x128 .f32) : FVec Ideal S8192x56 .f32 :=
  mulf (XD (absf n)) (broadcast S8192x56 (Scalar.ofBits .f32 0x3B124925#32))

theorem mul_const {s : Shape} (q : FVec Ideal s .f32) (k : BitVec 32) (i : s.Idx) : (mulf q (broadcast s (Scalar.ofBits .f32 k)) : FVec Ideal s .f32) i = q i * Ideal.ofBits .f32 k := Eq.trans rfl rfl

theorem MD_at (n : FVec Ideal S8192x56x128 .f32) (R : Fin 8192) (g : Fin 56) : MD n (ix2 R g) = gmax fun k => n (ix3 R g k) := by
  unfold MD
  rw [mul_const, XD_at]
  unfold gmax
  simp only [abs_at]

theorem pay4_eq : k0_pay4 (F := Ideal) x1 x2 x0 x3 = MD (k0_pay3 x1 x2 x0 x3) := rfl

theorem T_at (R : Fin 8192) (g : Fin 56) :
    k0_pay4 (F := Ideal) x1 x2 x0 x3 (ix2 R g) = T (Cert.ProjIdeal.Hand.Y x0 x1 x2) (fun v => x3 (ix2 0 v)) R g := by
  rw [pay4_eq, MD_at]
  simp only [G_at]
  rfl

/-- The smallest power of two above each group's maximum over 448. -/
theorem above_at (R : Fin 8192) (g : Fin 56) :
    k0_pay5 (F := Ideal) x1 x2 x0 x3 (ix2 R g) = above (T (Cert.ProjIdeal.Hand.Y x0 x1 x2) (fun v => x3 (ix2 0 v)) R g) := by
  pointwise [k0_pay5]
  simp only [T_at, pattern]
  unfold above
  refine congrArg (fun f => Finset.fold min _ f _) (funext fun j => ?_)
  rw [ofBits_pb _ (by omega) (by omega)]
  simp only [Scalar.select, Ideal.cmp]
  by_cases h : T (Cert.ProjIdeal.Hand.Y x0 x1 x2) (fun v => x3 (ix2 0 v)) R g < pw (j.val + 1) <;> simp [h]

theorem pay1_at (t u : FVec Ideal S8192x56 .f32) (R : Fin 8192) (g : Fin 56) :
    k0_pay1 (F := Ideal) t u (ix2 R g) = Scalar.select (Ideal.cmp .oeq (t (ix2 R g)) 0) 1 (u (ix2 R g)) := by
  pointwise [k0_pay1]

theorem pay2_at (n : FVec Ideal S8192x56x128 .f32) (t u : FVec Ideal S8192x56 .f32) (R : Fin 8192) (v : Fin 7168) :
    k0_pay2 (F := Ideal) n t u (ix2 R v) = clip (Ideal.div (n (ix3 R ⟨v.val / 128, by omega⟩ ⟨v.val % 128, Nat.mod_lt _ (by decide)⟩)) (k0_pay1 (F := Ideal) t u (ix2 R ⟨v.val / 128, by omega⟩))) := by
  unfold clip k0_pay2
  generalize k0_pay1 (F := Ideal) t u = q
  pointwise

/-- The scales. -/
theorem scales_at (R : Fin 8192) (g : Fin 56) :
    k0_pay1 (F := Ideal) (k0_pay4 x1 x2 x0 x3) (k0_pay5 x1 x2 x0 x3) (ix2 R g) = scales (Cert.ProjIdeal.Hand.Y x0 x1 x2) (fun v => x3 (ix2 0 v)) R g := by
  rw [pay1_at, T_at, above_at]
  rfl

/-- The codes. -/
theorem codes_at (R : Fin 8192) (v : Fin 7168) :
    k0_pay2 (F := Ideal) (k0_pay3 x1 x2 x0 x3) (k0_pay4 x1 x2 x0 x3) (k0_pay5 x1 x2 x0 x3) (ix2 R v) = codes (Cert.ProjIdeal.Hand.Y x0 x1 x2) (fun v => x3 (ix2 0 v)) R v := by
  rw [pay2_at, scales_at, G_at]
  have e : colOf ⟨v.val / 128, by omega⟩ ⟨v.val % 128, Nat.mod_lt _ (by decide)⟩ = v := Fin.ext (by show 128 * (v.val / 128) + v.val % 128 = v.val; omega)
  rw [e]
  rfl

theorem ld0 (x : Vec Ideal S14336x7168 .fp8e4m3) : View.ld (Val := Elt Ideal) x r0_0 = x := funext fun i => congrArg x (funext fun a => Fin.ext (by
  match a with
  | ⟨0, _⟩ => show 0 + 1 * (i 0).val = (i 0).val; omega
  | ⟨1, _⟩ => show 0 + 1 * (i 1).val = (i 1).val; omega))

theorem ld1 (x : Vec Ideal S112x56 .f32) : View.ld (Val := Elt Ideal) x r0_1 = x := funext fun i => congrArg x (funext fun a => Fin.ext (by
  match a with
  | ⟨0, _⟩ => show 0 + 1 * (i 0).val = (i 0).val; omega
  | ⟨1, _⟩ => show 0 + 1 * (i 1).val = (i 1).val; omega))

theorem ld2 (x : Vec Ideal S8192x14336 .bf16) : View.ld (Val := Elt Ideal) x r0_2 = x := funext fun i => congrArg x (funext fun a => Fin.ext (by
  match a with
  | ⟨0, _⟩ => show 0 + 1 * (i 0).val = (i 0).val; omega
  | ⟨1, _⟩ => show 0 + 1 * (i 1).val = (i 1).val; omega))

theorem ld3 (x : Vec Ideal S1x7168 .f32) : View.ld (Val := Elt Ideal) x r0_3 = x := funext fun i => congrArg x (funext fun a => Fin.ext (by
  match a with
  | ⟨0, _⟩ => show 0 + 1 * (i 0).val = (i 0).val; omega
  | ⟨1, _⟩ => show 0 + 1 * (i 1).val = (i 1).val; omega))

/-- A store of the whole block leaves the stored value. -/
theorem whole4 (p : Vec Ideal S8192x7168 .fp8e4m3) (y : S8192x7168.Idx) : View.canon (Val := Elt Ideal) [⟨r0_4, p⟩] y = p y := by
  refine View.canon_apply_of_pieces p _ ?_ y (cover0_4 _ y)
  intro pc hpc
  rcases List.mem_cons.mp hpc with rfl | hpc
  · exact fun x => congrArg p (funext fun a => Fin.ext (by
      match a with
      | ⟨0, _⟩ => show (x 0).val = 0 + 1 * (x 0).val; omega
      | ⟨1, _⟩ => show (x 1).val = 0 + 1 * (x 1).val; omega))
  nomatch hpc

theorem whole5 (p : Vec Ideal S8192x56 .f32) (y : S8192x56.Idx) : View.canon (Val := Elt Ideal) [⟨r0_5, p⟩] y = p y := by
  refine View.canon_apply_of_pieces p _ ?_ y (cover0_5 _ y)
  intro pc hpc
  rcases List.mem_cons.mp hpc with rfl | hpc
  · exact fun x => congrArg p (funext fun a => Fin.ext (by
      match a with
      | ⟨0, _⟩ => show (x 0).val = 0 + 1 * (x 0).val; omega
      | ⟨1, _⟩ => show (x 1).val = 0 + 1 * (x 1).val; omega))
  nomatch hpc

theorem out4_eq (y : S8192x7168.Idx) : out0_4 (F := Ideal) x0 x1 x2 x3 y = k0_pay2 (F := Ideal) (k0_pay3 x1 x2 x0 x3) (k0_pay4 x1 x2 x0 x3) (k0_pay5 x1 x2 x0 x3) y := by
  unfold out0_4 k0_pay6 k0_pay7
  rw [ld0, ld1, ld2, ld3, whole4]

theorem out5_eq (y : S8192x56.Idx) : out0_5 (F := Ideal) x0 x1 x2 x3 y = k0_pay1 (F := Ideal) (k0_pay4 x1 x2 x0 x3) (k0_pay5 x1 x2 x0 x3) y := by
  unfold out0_5 k0_pay6 k0_pay7
  rw [ld0, ld1, ld2, ld3, whole5]

end Values

variable (m : (ℓ : Loc nD τ sig) → Buf (Elt Ideal) ℓ)

/-- The activations. -/
abbrev A0 (c : Dev nD) : FVec Ideal S8192x14336 .bf16 := m ((c : Thread nD τ).loc main_arg0)
/-- The weight codes. -/
abbrev A1 (c : Dev nD) : FVec Ideal S14336x7168 .fp8e4m3 := m ((c : Thread nD τ).loc main_arg1)
/-- The weight scales. -/
abbrev A2 (c : Dev nD) : FVec Ideal S112x56 .f32 := m ((c : Thread nD τ).loc main_arg2)
/-- The norm's weights. -/
abbrev A3 (c : Dev nD) : FVec Ideal S7168 .f32 := m ((c : Thread nD τ).loc main_arg3)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

theorem blk0 (c : Dev nD) (t : Fin cfg0.N) (r : Fin 8192) (k : Fin 14336) : iblk m c 0 t (ix2 r k) = A0 m c (ix2 r k) := by
  blk_ext [iblk, V, idx t]

theorem blk1 (c : Dev nD) (t : Fin cfg0.N) (k : Fin 14336) (y : Fin 7168) : iblk m c 1 t (ix2 k y) = A1 m c (ix2 k y) := by
  blk_ext [iblk, V, idx t]

theorem blk2 (c : Dev nD) (t : Fin cfg0.N) (a : Fin 112) (b : Fin 56) : iblk m c 2 t (ix2 a b) = A2 m c (ix2 a b) := by
  blk_ext [iblk, V, idx t]

theorem entry3 (c : Dev nD) : V m c main_v0 = shapeCast S1x7168 (A3 m c) shapeCasts_S7168_S1x7168 := by
  entry_read
  rfl

theorem blk3 (c : Dev nD) (t : Fin cfg0.N) (v : Fin 7168) : iblk m c 3 t (ix2 0 v) = A3 m c (ix1 v) := by
  have e : iblk m c 3 t (ix2 0 v) = V m c main_v0 (ix2 0 v) := by
    blk_ext [iblk, idx t]
  rw [e, entry3]
  pointwise

theorem Y_blk (c : Dev nD) (t : Fin cfg0.N) : Cert.ProjIdeal.Hand.Y (iblk m c 0 t) (iblk m c 1 t) (iblk m c 2 t) = Cert.ProjIdeal.Hand.Y (A0 m c) (A1 m c) (A2 m c) := by
  funext R v
  unfold Cert.ProjIdeal.Hand.Y
  exact Finset.sum_congr rfl fun k _ => Ideal.mul_congr (blk0 m c t R k) (Ideal.mul_congr (blk1 m c t k v) (blk2 m c t _ _))

theorem w_blk (c : Dev nD) (t : Fin cfg0.N) : (fun v => iblk m c 3 t (ix2 0 v)) = fun v : Fin 7168 => A3 m c (ix1 v) := funext fun v => blk3 m c t v

/-- The codes array. -/
def RESC (c : Dev nD) : FVec Ideal S8192x7168 .fp8e4m3 := fun i => codes (Cert.ProjIdeal.Hand.Y (A0 m c) (A1 m c) (A2 m c)) (fun v => A3 m c (ix1 v)) (i 0) (i 1)
/-- The scales array. -/
def RESS (c : Dev nD) : FVec Ideal S8192x56 .f32 := fun i => scales (Cert.ProjIdeal.Hand.Y (A0 m c) (A1 m c) (A2 m c)) (fun v => A3 m c (ix1 v)) (i 0) (i 1)

theorem after4 (c : Dev nD) (y : S8192x7168.Idx) : out0_4 (F := Ideal) (iblk m c 0 t0_0) (iblk m c 1 t0_0) (iblk m c 2 t0_0) (iblk m c 3 t0_0) y = RESC m c y := by
  have ey : y = ix2 (y 0 : Fin 8192) (y 1 : Fin 7168) := by
    funext a
    match a with
    | ⟨0, _⟩ => rfl
    | ⟨1, _⟩ => rfl
  rw [out4_eq, ey]
  refine (codes_at _ _ _ _ _ _).trans ?_
  unfold RESC
  rw [Y_blk, w_blk]
  rfl

theorem after5 (c : Dev nD) (y : S8192x56.Idx) : out0_5 (F := Ideal) (iblk m c 0 t0_0) (iblk m c 1 t0_0) (iblk m c 2 t0_0) (iblk m c 3 t0_0) y = RESS m c y := by
  have ey : y = ix2 (y 0 : Fin 8192) (y 1 : Fin 56) := by
    funext a
    match a with
    | ⟨0, _⟩ => rfl
    | ⟨1, _⟩ => rfl
  rw [out5_eq, ey]
  refine (scales_at _ _ _ _ _ _).trans ?_
  unfold RESS
  rw [Y_blk, w_blk]
  rfl

theorem final4 (c : Dev nD) : (dats m 0 c).arrAt 4 cfg0.N = RESC m c := by
  refine (dats m 0 c).arrAt_eq_of_after_last 4 t0_0 (by decide +kernel) _ fun j => ?_
  blk_simp
  rw [after0_4]
  exact after4 m c j

theorem final5 (c : Dev nD) : (dats m 0 c).arrAt 5 cfg0.N = RESS m c := by
  refine (dats m 0 c).arrAt_eq_of_after_last 5 t0_0 (by decide +kernel) _ fun j => ?_
  blk_simp
  rw [after0_5]
  exact after5 m c j

/-- The reference's run: the codes and the scales, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v1_0) = RESC m c
      ∧ r.2.mem ((c.tc : Thread nD τ).loc main_v1_1) = RESS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1).trans (final4 m c), ((h c).2.1).trans (final5 m c), (h c).2.2⟩) (Value.run_blocks m ρ)

end Cert.QuantReferenceIdeal.Hand
-- ==== Proof.lean ====
module

public import proofs.«01_k».proof.Defs
public import proofs.«01_k».proof.Proof.Gen.Head
public import proofs.«01_k».proof.Proof.Gen.Head.Frame
public import proofs.«01_k».proof.Proof.Gen.Head.Skeleton
public import proofs.«01_k».proof.Proof.Gen.Head.Loops
public import proofs.«01_k».proof.Proof.Gen.Pre_targets_in_range
public import proofs.«01_k».proof.Proof.Gen.HeadIdeal
public import proofs.«01_k».proof.Proof.Gen.HeadIdeal.Frame
public import proofs.«01_k».proof.Proof.Gen.HeadIdeal.Skeleton
public import proofs.«01_k».proof.Proof.Gen.HeadIdeal.Loops
public import proofs.«01_k».proof.Proof.Gen.ReferenceIdeal
public import proofs.«01_k».proof.Proof.Gen.ReferenceIdeal.Frame
public import proofs.«01_k».proof.Proof.Gen.Proj
public import proofs.«01_k».proof.Proof.Gen.Proj.Frame
public import proofs.«01_k».proof.Proof.Gen.Proj.Skeleton
public import proofs.«01_k».proof.Proof.Gen.Proj.Loops
public import proofs.«01_k».proof.Proof.Gen.ProjIdeal
public import proofs.«01_k».proof.Proof.Gen.ProjIdeal.Frame
public import proofs.«01_k».proof.Proof.Gen.ProjIdeal.Skeleton
public import proofs.«01_k».proof.Proof.Gen.ProjIdeal.Loops
public import proofs.«01_k».proof.Proof.Gen.ProjReferenceIdeal
public import proofs.«01_k».proof.Proof.Gen.ProjReferenceIdeal.Frame
public import proofs.«01_k».proof.Proof.Gen.ProjReferenceIdeal.Run
public import proofs.«01_k».proof.Proof.Gen.ProjReferenceIdeal.Read
public import proofs.«01_k».proof.Proof.Gen.Quant
public import proofs.«01_k».proof.Proof.Gen.Quant.Frame
public import proofs.«01_k».proof.Proof.Gen.Quant.Skeleton
public import proofs.«01_k».proof.Proof.Gen.Quant.Loops
public import proofs.«01_k».proof.Proof.Gen.QuantIdeal
public import proofs.«01_k».proof.Proof.Gen.QuantIdeal.Frame
public import proofs.«01_k».proof.Proof.Gen.QuantIdeal.Skeleton
public import proofs.«01_k».proof.Proof.Gen.QuantIdeal.Loops
public import proofs.«01_k».proof.Proof.Gen.QuantReferenceIdeal
public import proofs.«01_k».proof.Proof.Gen.QuantReferenceIdeal.Frame
public import proofs.«01_k».proof.Proof.Gen.QuantReferenceIdeal.Value
public import proofs.«01_k».proof.Proof.Gen.Pre_finite_weights
public import Idealize.ShloMosaic.Adequacy
public import Idealize.ShloMosaic.Init
public import Idealize.ShloMosaic.Lib.WordCmp
public import proofs.«01_k».proof.Proof.BitsFrame
public import proofs.«01_k».proof.Proof.HeadFrame
public import proofs.«01_k».proof.Proof.HeadValue
public import proofs.«01_k».proof.Proof.RefValue
public import proofs.«01_k».proof.Proof.BitsProjFrame
public import proofs.«01_k».proof.Proof.ProjFrame
public import proofs.«01_k».proof.Proof.ProjValue
public import proofs.«01_k».proof.Proof.ProjRefValue
public import proofs.«01_k».proof.Proof.BitsQuantFrame
public import proofs.«01_k».proof.Proof.QuantFrame
public import proofs.«01_k».proof.Proof.QuantValue
public import proofs.«01_k».proof.Proof.QuantRefValue

@[expose] public section

noncomputable section

namespace Cert.Proof

open Idealize.ShloMosaic Idealize.ShloMosaic.TcCoe Idealize.SL.Sem

instance : Cert.Head.Facts := Cert.Head.Gen.facts
instance : Cert.HeadIdeal.Facts := Cert.HeadIdeal.Gen.facts
instance : Cert.ReferenceIdeal.Facts := Cert.ReferenceIdeal.Gen.facts
instance : Cert.Proj.Facts := Cert.Proj.Gen.facts
instance : Cert.ProjIdeal.Facts := Cert.ProjIdeal.Gen.facts
instance : Cert.ProjReferenceIdeal.Facts := Cert.ProjReferenceIdeal.Gen.facts
instance : Cert.Quant.Facts := Cert.Quant.Gen.facts
instance : Cert.QuantIdeal.Facts := Cert.QuantIdeal.Gen.facts
instance : Cert.QuantReferenceIdeal.Facts := Cert.QuantReferenceIdeal.Gen.facts
instance : Cert.Pre_targets_in_range.Facts := Cert.Pre_targets_in_range.Gen.facts
instance : Cert.Pre_finite_weights.Facts := Cert.Pre_finite_weights.Gen.facts

/-- The precondition read back: every target is a vocabulary entry. -/
theorem in_range (a0 : FVec Ideal Cert.Pre_targets_in_range.S8192x7168 .bf16) (a1 : FVec Ideal Cert.Pre_targets_in_range.S7168x32768 .fp8e4m3)
    (a2 : FVec Ideal Cert.Pre_targets_in_range.S56x256 .f32) (a3 : IVec Cert.Pre_targets_in_range.S8192 32)
    (h : Cert.Pre_targets_in_range.fn (F := Ideal) a0 a1 a2 a3 = fun _ => 1#1) (i : Cert.Pre_targets_in_range.S8192.Idx) : (a3 i).toNat < 32768 := by
  have e : IntOp.andi (IntOp.cmpi .sge (a3 i) 0#32) (IntOp.cmpi .slt (a3 i) 32768#32) = 1#1 := congrFun h i
  obtain ⟨e0, e1⟩ := IntOp.andi_eq_one.1 e
  have h0 := IntOp.cmpi_sge.1 e0
  have h1 := IntOp.cmpi_slt.1 e1
  rw [BitVec.toInt_eq_toNat_cond, BitVec.toInt_eq_toNat_cond] at h0 h1
  simp at h0 h1
  have := (a3 i).isLt
  split at h0 <;> omega

theorem algebraic : Cert.algebraic_HeadIdeal_ReferenceIdeal_pre_targets_in_range := by
  intro m g m' g' hpre hm
  have hT : ∀ (c : Dev Cert.HeadIdeal.nD) (R : Fin 8192), (Cert.HeadIdeal.Hand.A3 m c (ix1 R)).toNat < 32768 := fun c R =>
    in_range _ _ _ _ (hpre c) (ix1 R)
  refine ⟨fun c => Cert.HeadIdeal.Hand.RES m c, Cert.HeadIdeal.Hand.run m g hT, ?_⟩
  have hT' : ∀ (c : Dev Cert.ReferenceIdeal.nD) (R : Fin 8192),
      ((m' ((c : Thread Cert.ReferenceIdeal.nD Cert.ReferenceIdeal.τ).loc Cert.ReferenceIdeal.main_arg3) : IVec Cert.ReferenceIdeal.S8192 32) (ix1 R)).toNat < 32768 := by
    intro c R
    rw [(hm c).2.2.2]
    exact hT c R
  refine (θ_run _ _ _).mono (fun r h c => ⟨((h c).1).trans ?_, (h c).2⟩) (Cert.ReferenceIdeal.Hand.run m' g' hT')
  rw [(hm c).1, (hm c).2.1, (hm c).2.2.1, (hm c).2.2.2]
  rfl

theorem algebraic_proj : Cert.algebraic_ProjIdeal_ProjReferenceIdeal := by
  intro m g m' g' _ hm
  refine ⟨fun c => Cert.ProjIdeal.Hand.RES m c, Cert.ProjIdeal.Hand.run m g, ?_⟩
  refine (θ_run _ _ _).mono (fun r h c => ⟨((h c).1).trans ?_, (h c).2⟩) (Cert.ProjReferenceIdeal.Hand.run m' g')
  rw [(hm c).1, (hm c).2.1, (hm c).2.2.1]
  rfl

/-- The precondition read back: every weight of the norm is finite. -/
theorem finite (a0 : FVec Ideal Cert.Pre_finite_weights.S8192x14336 .bf16) (a1 : FVec Ideal Cert.Pre_finite_weights.S14336x7168 .fp8e4m3)
    (a2 : FVec Ideal Cert.Pre_finite_weights.S112x56 .f32) (a3 : FVec Ideal Cert.Pre_finite_weights.S7168 .f32)
    (h : Cert.Pre_finite_weights.fn (F := Ideal) a0 a1 a2 a3 = fun _ => 1#1) (i : Cert.Pre_finite_weights.S7168.Idx) : max (a3 i) (-a3 i) ≤ Cert.QuantMath.big := by
  have e : Ideal.cmp .ole (FloatOps.absf (a3 i)) (Ideal.ofBits .f32 0x7F7FFFFF#32) = 1#1 := congrFun h i
  rw [Ideal.absf_def] at e
  by_contra hn
  unfold Cert.QuantMath.big at hn
  rw [show ∀ a b : EReal, Ideal.cmp .ole a b = BitVec.ofBool (decide (a ≤ b)) from fun _ _ => rfl, decide_eq_false hn] at e
  exact absurd e (by decide)

theorem algebraic_quant : Cert.algebraic_QuantIdeal_QuantReferenceIdeal_pre_finite_weights := by
  intro m g m' g' hpre hm
  have hW : ∀ c : Dev Cert.QuantIdeal.nD, Cert.QuantIdeal.Hand.Finite m c := fun c v => finite _ _ _ _ (hpre c) (ix1 v)
  refine ⟨fun c => Cert.QuantIdeal.Hand.RESC m c, fun c => Cert.QuantIdeal.Hand.RESS m c, Cert.QuantIdeal.Hand.run m g hW, ?_⟩
  refine (θ_run _ _ _).mono (fun r h c => ⟨((h c).1).trans ?_, ((h c).2.1).trans ?_, (h c).2.2⟩) (Cert.QuantReferenceIdeal.Hand.run m' g')
  · unfold Cert.QuantReferenceIdeal.Hand.RESC Cert.QuantReferenceIdeal.Hand.A0 Cert.QuantReferenceIdeal.Hand.A1 Cert.QuantReferenceIdeal.Hand.A2 Cert.QuantReferenceIdeal.Hand.A3
    rw [(hm c).1, (hm c).2.1, (hm c).2.2.1, (hm c).2.2.2]
    rfl
  · unfold Cert.QuantReferenceIdeal.Hand.RESS Cert.QuantReferenceIdeal.Hand.A0 Cert.QuantReferenceIdeal.Hand.A1 Cert.QuantReferenceIdeal.Hand.A2 Cert.QuantReferenceIdeal.Hand.A3
    rw [(hm c).1, (hm c).2.1, (hm c).2.2.1, (hm c).2.2.2]
    rfl

theorem claim : Cert.Claim :=
  ⟨Cert.Head.Gen.facts, Cert.HeadIdeal.Gen.facts, Cert.ReferenceIdeal.Gen.facts, Cert.Proj.Gen.facts, Cert.ProjIdeal.Gen.facts,
    Cert.ProjReferenceIdeal.Gen.facts, Cert.Quant.Gen.facts, Cert.QuantIdeal.Gen.facts, Cert.QuantReferenceIdeal.Gen.facts,
    Cert.Pre_targets_in_range.Gen.facts, Cert.Pre_finite_weights.Gen.facts,
    fun m g _ => Cert.Head.Hand.frame m g, fun m g _ => Cert.HeadIdeal.Hand.frame m g, fun m g _ => Cert.HeadIdeal.Hand.frame m g,
    fun m g _ => Cert.ReferenceIdeal.Gen.frame m g, fun m g _ => Cert.ReferenceIdeal.Gen.frame m g,
    fun m g _ => Cert.Proj.Hand.frame m g, fun m g _ => Cert.ProjIdeal.Hand.frame m g, fun m g _ => Cert.ProjReferenceIdeal.Gen.frame m g,
    fun m g _ => Cert.Quant.Hand.frame m g, fun m g _ => Cert.QuantIdeal.Hand.frame m g, fun m g _ => Cert.QuantIdeal.Hand.frame m g,
    fun m g _ => Cert.QuantReferenceIdeal.Gen.frame m g, fun m g _ => Cert.QuantReferenceIdeal.Gen.frame m g,
    trivial, algebraic, trivial, algebraic_proj, trivial, algebraic_quant⟩

end Cert.Proof

end
